-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 [hPre_tile_table : Cert.Pre_tile_table.Facts] (m : (ℓ : Loc Cert.Kernel2.nD Cert.Kernel2.τ Cert.Kernel2.sig) → Buf (Elt Bits) ℓ) : Prop :=
  ∀ c : Dev Cert.Kernel2.nD,
    (Cert.Pre_tile_table.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))).1 = (fun _ => 1#1)
    ∧ (Cert.Pre_tile_table.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))).2 = (fun _ => 1#1)

def Pre_Kernel2Ideal [hPre_tile_table : Cert.Pre_tile_table.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tile_table.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_tile_table.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tile_table [hPre_tile_table : Cert.Pre_tile_table.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tile_table.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_tile_table.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_tile_table : Cert.Pre_tile_table.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_tile_table : Cert.Pre_tile_table.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_tile_table [hReference2Ideal : Cert.Reference2Ideal.Facts] [hPre_tile_table : Cert.Pre_tile_table.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tile_table m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale_log2" .f32 0x3DD53B95#32 (((Real.sqrt 192)⁻¹ * (Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] [hPre_tile_table : Cert.Pre_tile_table.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v22_0)) (v1 : (c : Dev Cert.Kernel13Ideal.nD) → Buf (Elt Ideal) ((c.tc : Thread Cert.Kernel13Ideal.nD Cert.Kernel13Ideal.τ).loc Cert.Kernel13Ideal.main_v22_1)) (v2 : (c : Dev Cert.Kernel13Ideal.nD) → Buf (Elt Ideal) ((c.tc : Thread Cert.Kernel13Ideal.nD Cert.Kernel13Ideal.τ).loc Cert.Kernel13Ideal.main_v22_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v22_0) = v0 c
          ∧ r.2.mem ((c.tc : Thread Cert.Kernel13Ideal.nD Cert.Kernel13Ideal.τ).loc Cert.Kernel13Ideal.main_v22_1) = v1 c
          ∧ r.2.mem ((c.tc : Thread Cert.Kernel13Ideal.nD Cert.Kernel13Ideal.τ).loc Cert.Kernel13Ideal.main_v22_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v58) = v0 c
          ∧ r.2.mem ((c.tc : Thread Cert.Reference13Ideal.nD Cert.Reference13Ideal.τ).loc Cert.Reference13Ideal.main_v59) = v1 c
          ∧ r.2.mem ((c.tc : Thread Cert.Reference13Ideal.nD Cert.Reference13Ideal.τ).loc Cert.Reference13Ideal.main_v60) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite_scores : Cert.Pre_finite_scores.Facts) (hPre_tile_table : Cert.Pre_tile_table.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_tile_table := hPre_tile_table)
    ∧ quiescent_Kernel2Ideal (hKernel2Ideal := hKernel2Ideal) (hPre_tile_table := hPre_tile_table)
    ∧ quiescent_Reference2Ideal (hReference2Ideal := hReference2Ideal)
    ∧ quiescent_Reference2Ideal_pre_tile_table (hReference2Ideal := hReference2Ideal) (hPre_tile_table := hPre_tile_table)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal) (hPre_tile_table := hPre_tile_table)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite_scores.lean ====
abbrev S8192x8192 : Shape := ⟨2, ![8192, 8192]⟩
abbrev S8192x128 : Shape := ⟨2, ![8192, 128]⟩
abbrev S8192 : Shape := ⟨1, ![8192]⟩
abbrev S8192x32x256 : Shape := ⟨3, ![8192, 32, 256]⟩
abbrev S8192x32x192 : Shape := ⟨3, ![8192, 32, 192]⟩
abbrev S8192x32x128 : Shape := ⟨3, ![8192, 32, 128]⟩
abbrev S8192x64 : Shape := ⟨2, ![8192, 64]⟩
abbrev S_ : Shape := ⟨0, ![]⟩

class Facts : Prop where
  shapeCasts_S8192x8192_S8192x32x256 : S8192x8192.ShapeCasts S8192x32x256
  slices_S8192x32x256_S8192x32x192_0_0_0 : S8192x32x256.Slices ![0, 0, 0] S8192x32x192
  slices_S8192x32x256_S8192x32x128_0_0_0 : S8192x32x256.Slices ![0, 0, 0] S8192x32x128
  bitsLt_bf16_f32 : FTy.bits .bf16 < FTy.bits .f32
  slices_S8192x128_S8192x64_0_0 : S8192x128.Slices ![0, 0] S8192x64
  bcast_S_S8192x32x192 : S_.BroadcastsInDim S8192x32x192 (![] : Fin 0 → Fin S8192x32x192.rank)
  reducesTo_S8192x32x192_S_d0_1_2 : S8192x32x192.ReducesTo [0, 1, 2] S_
  h_S_ : 0 < S_.numel
  bcast_S_S8192x32x128 : S_.BroadcastsInDim S8192x32x128 (![] : Fin 0 → Fin S8192x32x128.rank)
  reducesTo_S8192x32x128_S_d0_1_2 : S8192x32x128.ReducesTo [0, 1, 2] S_
  bcast_S_S8192x64 : S_.BroadcastsInDim S8192x64 (![] : Fin 0 → Fin S8192x64.rank)
  reducesTo_S8192x64_S_d0_1 : S8192x64.ReducesTo [0, 1] S_

variable [Facts]

def fn_part1 {F : FTy → Type} [FloatOps F] (main_v10 : IVec S_ 1) (main_v14 : IVec S_ 1) (main_v17 : IVec S8192x64 1) (main_c_3 : IVec S_ 1) : IVec S_ 1 × IVec S_ 1 × IVec S_ 1 :=
  let main_v18 : IVec S_ 1 := (fun x v => Host.reduce IntOp.andi x v reducesTo_S8192x64_S_d0_1 h_S_) main_v17 main_c_3
  (main_v10, main_v14, main_v18)

def fn {F : FTy → Type} [FloatOps F] (main_arg0 : FVec F S8192x8192 .f32) (main_arg1 : FVec F S8192x8192 .bf16) (main_arg2 : FVec F S8192x128 .bf16) (main_arg3 : IVec S8192 32) : IVec S_ 1 × IVec S_ 1 × IVec S_ 1 :=
  let main_v0 : FVec F S8192x32x256 .f32 := shapeCast S8192x32x256 main_arg0 shapeCasts_S8192x8192_S8192x32x256
  let main_v1 : FVec F S8192x32x192 .f32 := (extractStridedSlice S8192x32x192 ![0, 0, 0] · slices_S8192x32x256_S8192x32x192_0_0_0) main_v0
  let main_v2 : FVec F S8192x32x256 .bf16 := shapeCast S8192x32x256 main_arg1 shapeCasts_S8192x8192_S8192x32x256
  let main_v3 : FVec F S8192x32x128 .bf16 := (extractStridedSlice S8192x32x128 ![0, 0, 0] · slices_S8192x32x256_S8192x32x128_0_0_0) main_v2
  let main_v4 : FVec F S8192x32x128 .f32 := (extf .f32 · bitsLt_bf16_f32) main_v3
  let main_v5 : FVec F S8192x64 .bf16 := (extractStridedSlice S8192x64 ![0, 0] · slices_S8192x128_S8192x64_0_0) main_arg2
  let main_v6 : FVec F S8192x64 .f32 := (extf .f32 · bitsLt_bf16_f32) main_v5
  let main_v7 : FVec F S8192x32x192 .f32 := Host.absf main_v1
  let main_cst : FVec F S_ .f32 := constant S_ .f32 0x7F800000#32
  let main_v8 : FVec F S8192x32x192 .f32 := broadcastInDim S8192x32x192 ![] bcast_S_S8192x32x192 main_cst
  let main_v9 : IVec S8192x32x192 1 := cmpf .olt main_v7 main_v8
  let main_c : IVec S_ 1 := constantI S_ 1 1#1
  let main_v10 : IVec S_ 1 := (fun x v => Host.reduce IntOp.andi x v reducesTo_S8192x32x192_S_d0_1_2 h_S_) main_v9 main_c
  let main_v11 : FVec F S8192x32x128 .f32 := Host.absf main_v4
  let main_cst_0 : FVec F S_ .f32 := constant S_ .f32 0x7F800000#32
  let main_v12 : FVec F S8192x32x128 .f32 := broadcastInDim S8192x32x128 ![] bcast_S_S8192x32x128 main_cst_0
  let main_v13 : IVec S8192x32x128 1 := cmpf .olt main_v11 main_v12
  let main_c_1 : IVec S_ 1 := constantI S_ 1 1#1
  let main_v14 : IVec S_ 1 := (fun x v => Host.reduce IntOp.andi x v reducesTo_S8192x32x128_S_d0_1_2 h_S_) main_v13 main_c_1
  let main_v15 : FVec F S8192x64 .f32 := Host.absf main_v6
  let main_cst_2 : FVec F S_ .f32 := constant S_ .f32 0x7F800000#32
  let main_v16 : FVec F S8192x64 .f32 := broadcastInDim S8192x64 ![] bcast_S_S8192x64 main_cst_2
  let main_v17 : IVec S8192x64 1 := cmpf .olt main_v15 main_v16
  let main_c_3 : IVec S_ 1 := constantI S_ 1 1#1
  fn_part1 (F := F) main_v10 main_v14 main_v17 main_c_3
-- ==== Pre_tile_table.lean ====
abbrev S24576x2176 : Shape := ⟨2, ![24576, 2176]⟩
abbrev S97 : Shape := ⟨1, ![97]⟩
abbrev S4x32x4096x256 : Shape := ⟨4, ![4, 32, 4096, 256]⟩
abbrev S4x32x256x4096 : Shape := ⟨4, ![4, 32, 256, 4096]⟩
abbrev S96 : Shape := ⟨1, ![96]⟩
abbrev S_ : Shape := ⟨0, ![]⟩
abbrev S1 : Shape := ⟨1, ![1]⟩

class Facts : Prop where
  slices_S97_S96_0 : S97.Slices ![0] S96
  bcast_S_S96 : S_.BroadcastsInDim S96 (![] : Fin 0 → Fin S96.rank)
  reducesTo_S96_S_d0 : S96.ReducesTo [0] S_
  h_S_ : 0 < S_.numel
  slices_S97_S1_96 : S97.Slices ![96] S1
  shapeCasts_S1_S_ : S1.ShapeCasts S_

variable [Facts]

def fn {F : FTy → Type} [FloatOps F] (main_arg0 : IVec S24576x2176 32) (main_arg1 : IVec S97 32) (main_arg2 : FVec F S4x32x4096x256 .f32) (main_arg3 : FVec F S4x32x4096x256 .f32) (main_arg4 : FVec F S4x32x256x4096 .f32) : IVec S_ 1 × IVec S_ 1 :=
  let main_v0 : IVec S96 32 := (extractStridedSlice S96 ![0] · slices_S97_S96_0) main_arg1
  let main_c : IVec S_ 32 := constantI S_ 32 0#32
  let main_v1 : IVec S96 32 := broadcastInDim S96 ![] bcast_S_S96 main_c
  let main_v2 : IVec S96 1 := cmpi .sge main_v0 main_v1
  let main_v3 : IVec S96 32 := (extractStridedSlice S96 ![0] · slices_S97_S96_0) main_arg1
  let main_c_0 : IVec S_ 32 := constantI S_ 32 32#32
  let main_v4 : IVec S96 32 := broadcastInDim S96 ![] bcast_S_S96 main_c_0
  let main_v5 : IVec S96 1 := cmpi .slt main_v3 main_v4
  let main_v6 : IVec S96 1 := andi main_v2 main_v5
  let main_c_1 : IVec S_ 1 := constantI S_ 1 1#1
  let main_v7 : IVec S_ 1 := (fun x v => Host.reduce IntOp.andi x v reducesTo_S96_S_d0 h_S_) main_v6 main_c_1
  let main_v8 : IVec S1 32 := (extractStridedSlice S1 ![96] · slices_S97_S1_96) main_arg1
  let main_v9 : IVec S_ 32 := shapeCast S_ main_v8 shapeCasts_S1_S_
  let main_c_2 : IVec S_ 32 := constantI S_ 32 1#32
  let main_v10 : IVec S_ 1 := cmpi .sge main_v9 main_c_2
  let main_v11 : IVec S1 32 := (extractStridedSlice S1 ![96] · slices_S97_S1_96) main_arg1
  let main_v12 : IVec S_ 32 := shapeCast S_ main_v11 shapeCasts_S1_S_
  let main_c_3 : IVec S_ 32 := constantI S_ 32 96#32
  let main_v13 : IVec S_ 1 := cmpi .sle main_v12 main_c_3
  let main_v14 : IVec S_ 1 := andi main_v10 main_v13
  (main_v7, main_v14)
-- ==== Kernel.lean ====
abbrev S8192x8192 : Shape := ⟨2, ![8192, 8192]⟩
abbrev S8192x128 : Shape := ⟨2, ![8192, 128]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S8192x4096 : Shape := ⟨2, ![8192, 4096]⟩
abbrev S1024x512 : Shape := ⟨2, ![1024, 512]⟩
abbrev S8192x512 : Shape := ⟨2, ![8192, 512]⟩
abbrev S1024x128 : Shape := ⟨2, ![1024, 128]⟩
abbrev S1024x256 : Shape := ⟨2, ![1024, 256]⟩
abbrev S2x1024x128 : Shape := ⟨3, ![2, 1024, 128]⟩
abbrev S512x128 : Shape := ⟨2, ![512, 128]⟩
abbrev S512x256 : Shape := ⟨2, ![512, 256]⟩
abbrev S1x1024x128 : Shape := ⟨3, ![1, 1024, 128]⟩
abbrev S1024 : Shape := ⟨1, ![1024]⟩
abbrev S1024x1 : Shape := ⟨2, ![1024, 1]⟩

abbrev nBuf : Space → Nat
  | .hbm => 29
  | .vmem => 16
  | .smem => 0
  | _ => 0

abbrev bufTy : (tb : Table) → Fin (tcTables nBuf tb) → BufTy
  | .hbm, ⟨0, _⟩ => ⟨S8192x8192, .f32⟩
  | .hbm, ⟨1, _⟩ => ⟨S8192x8192, .bf16⟩
  | .hbm, ⟨2, _⟩ => ⟨S8192x128, .bf16⟩
  | .hbm, ⟨3, _⟩ => ⟨S8192, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S8192, .f32⟩
  | .hbm, ⟨13, _⟩ => ⟨S8192x1, .f32⟩
  | .hbm, ⟨14, _⟩ => ⟨S1x32, .f32⟩
  | .hbm, ⟨15, _⟩ => ⟨S8192x32, .f32⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S_, .f32⟩
  | .hbm, ⟨21, _⟩ => ⟨S8192x64, .f32⟩
  | .hbm, ⟨22, _⟩ => ⟨S_, .f32⟩
  | .hbm, ⟨23, _⟩ => ⟨S8192x32, .f32⟩
  | .hbm, ⟨24, _⟩ => ⟨S8192x128, .f32⟩
  | .hbm, ⟨25, _⟩ => ⟨S8192x128, .f32⟩
  | .hbm, ⟨26, _⟩ => ⟨S8192x32, .f32⟩
  | .hbm, ⟨27, _⟩ => ⟨S8192x128, .f32⟩
  | .hbm, ⟨28, _⟩ => ⟨S8192x4096, .bf16⟩
  | .local _ .vmem, ⟨0, _⟩ => ⟨S1024x512, .f32⟩
  | .local _ .vmem, ⟨1, _⟩ => ⟨S1024x512, .f32⟩
  | .local _ .vmem, ⟨2, _⟩ => ⟨S8192x512, .bf16⟩
  | .local _ .vmem, ⟨3, _⟩ => ⟨S8192x512, .bf16⟩
  | .local _ .vmem, ⟨4, _⟩ => ⟨S8192x128, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x256, .bf16⟩
  | .local _ .vmem, ⟨12, _⟩ => ⟨S1024x256, .bf16⟩
  | .local _ .vmem, ⟨13, _⟩ => ⟨S2x1024x128, .f32⟩
  | .local _ .vmem, ⟨14, _⟩ => ⟨S2x1024x128, .f32⟩
  | .local _ .vmem, ⟨15, _⟩ => ⟨S2x1024x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c0_i32 : BitVec 32 := 0#32
  let arg1 : BitVec 32 := BitVec.ofNat 32 (i 1).val
  let c2_i32 : BitVec 32 := 2#32
  let v47 : BitVec 32 := Scalar.muli arg1 c2_i32
  let v48 : BitVec 32 := Scalar.subi v47 c0_i32
  let c1_i32 : BitVec 32 := 1#32
  let v50 : BitVec 32 := Scalar.divsi v48 c1_i32
  let v51 : BitVec 32 := Scalar.muli v50 c1_i32
  let v52 : BitVec 32 := Scalar.addi c0_i32 v51
  let c1_i32_22 : BitVec 32 := 1#32
  ⟨c0_i32, v52, c1_i32_22⟩
def k0_mult1 (i : grid0.Coords) (k0_t1 : Fin (k0_t1_loop i).trips) : BitVec 32 :=
  let c0_i32 : BitVec 32 := 0#32
  let c1_i32_22 : BitVec 32 := 1#32
  let arg12 : BitVec 32 := Scf.iv c0_i32 c1_i32_22 k0_t1
  let c512_i32_152 : BitVec 32 := 512#32
  let v261 : BitVec 32 := Scalar.muli arg12 c512_i32_152
  v261
def k0_off1 (i : grid0.Coords) (k0_t1 : Fin (k0_t1_loop i).trips) : Fin 2 → Nat :=
  let c0_i32 : BitVec 32 := 0#32
  let c1_i32_22 : BitVec 32 := 1#32
  let arg12 : BitVec 32 := Scf.iv c0_i32 c1_i32_22 k0_t1
  let c512_i32_152 : BitVec 32 := 512#32
  let v261 : BitVec 32 := Scalar.muli arg12 c512_i32_152
  let v262 : BitVec 32 := v261
  let v263 : Index := Scalar.indexCast v262
  let c0_153 : Index := 0#32
  ![v263.toNat, 0]
def k0_off2 (i : grid0.Coords) (k0_t1 : Fin (k0_t1_loop i).trips) : Fin 2 → Nat :=
  let c0_i32 : BitVec 32 := 0#32
  let c1_i32_22 : BitVec 32 := 1#32
  let arg12 : BitVec 32 := Scf.iv c0_i32 c1_i32_22 k0_t1
  let c512_i32_152 : BitVec 32 := 512#32
  let v261 : BitVec 32 := Scalar.muli arg12 c512_i32_152
  let v262 : BitVec 32 := v261
  let v265 : Index := Scalar.indexCast v262
  let c0_154 : Index := 0#32
  ![v265.toNat, 0]
def k0_off3 (i : grid0.Coords) (k0_t1 : Fin (k0_t1_loop i).trips) : Fin 2 → Nat :=
  let c0_i32 : BitVec 32 := 0#32
  let c1_i32_22 : BitVec 32 := 1#32
  let arg12 : BitVec 32 := Scf.iv c0_i32 c1_i32_22 k0_t1
  let c512_i32_152 : BitVec 32 := 512#32
  let v261 : BitVec 32 := Scalar.muli arg12 c512_i32_152
  let v262 : BitVec 32 := v261
  let v267 : Index := Scalar.indexCast v262
  let c128_155 : Index := 128#32
  ![v267.toNat, 128]
def k0_off4 (i : grid0.Coords) (k0_t1 : Fin (k0_t1_loop i).trips) : Fin 2 → Nat :=
  let c0_i32 : BitVec 32 := 0#32
  let c1_i32_22 : BitVec 32 := 1#32
  let arg12 : BitVec 32 := Scf.iv c0_i32 c1_i32_22 k0_t1
  let c512_i32_152 : BitVec 32 := 512#32
  let v261 : BitVec 32 := Scalar.muli arg12 c512_i32_152
  let v262 : BitVec 32 := v261
  let v306 : Index := Scalar.indexCast v262
  let c256_179 : Index := 256#32
  ![v306.toNat, 256]
def k0_off5 (i : grid0.Coords) (k0_t1 : Fin (k0_t1_loop i).trips) : Fin 2 → Nat :=
  let c0_i32 : BitVec 32 := 0#32
  let c1_i32_22 : BitVec 32 := 1#32
  let arg12 : BitVec 32 := Scf.iv c0_i32 c1_i32_22 k0_t1
  let c512_i32_152 : BitVec 32 := 512#32
  let v261 : BitVec 32 := Scalar.muli arg12 c512_i32_152
  let v262 : BitVec 32 := v261
  let v308 : Index := Scalar.indexCast v262
  let c384_180 : Index := 384#32
  ![v308.toNat, 384]
@[reducible] def k0_t2_loop (i : grid0.Coords) : Scf.Loop 32 :=
  let c0_i32 : BitVec 32 := 0#32
  let arg1 : BitVec 32 := BitVec.ofNat 32 (i 1).val
  let c2_i32 : BitVec 32 := 2#32
  let v47 : BitVec 32 := Scalar.muli arg1 c2_i32
  let v48 : BitVec 32 := Scalar.subi v47 c0_i32
  let c1_i32 : BitVec 32 := 1#32
  let v50 : BitVec 32 := Scalar.divsi v48 c1_i32
  let v51 : BitVec 32 := Scalar.muli v50 c1_i32
  let v52 : BitVec 32 := Scalar.addi c0_i32 v51
  let v49 : BitVec 32 := Scalar.addi c0_i32 v48
  let c1_i32_23 : BitVec 32 := 1#32
  ⟨v52, v49, c1_i32_23⟩
def k0_mult2 (i : grid0.Coords) (k0_t2 : Fin (k0_t2_loop i).trips) : BitVec 32 :=
  let c0_i32 : BitVec 32 := 0#32
  let arg1 : BitVec 32 := BitVec.ofNat 32 (i 1).val
  let c2_i32 : BitVec 32 := 2#32
  let v47 : BitVec 32 := Scalar.muli arg1 c2_i32
  let v48 : BitVec 32 := Scalar.subi v47 c0_i32
  let c1_i32 : BitVec 32 := 1#32
  let v50 : BitVec 32 := Scalar.divsi v48 c1_i32
  let v51 : BitVec 32 := Scalar.muli v50 c1_i32
  let v52 : BitVec 32 := Scalar.addi c0_i32 v51
  let c1_i32_23 : BitVec 32 := 1#32
  let arg12 : BitVec 32 := Scf.iv v52 c1_i32_23 k0_t2
  let c512_i32_152 : BitVec 32 := 512#32
  let v261 : BitVec 32 := Scalar.muli arg12 c512_i32_152
  v261
def k0_off6 (i : grid0.Coords) (k0_t2 : Fin (k0_t2_loop i).trips) : Fin 2 → Nat :=
  let c0_i32 : BitVec 32 := 0#32
  let arg1 : BitVec 32 := BitVec.ofNat 32 (i 1).val
  let c2_i32 : BitVec 32 := 2#32
  let v47 : BitVec 32 := Scalar.muli arg1 c2_i32
  let v48 : BitVec 32 := Scalar.subi v47 c0_i32
  let c1_i32 : BitVec 32 := 1#32
  let v50 : BitVec 32 := Scalar.divsi v48 c1_i32
  let v51 : BitVec 32 := Scalar.muli v50 c1_i32
  let v52 : BitVec 32 := Scalar.addi c0_i32 v51
  let c1_i32_23 : BitVec 32 := 1#32
  let arg12 : BitVec 32 := Scf.iv v52 c1_i32_23 k0_t2
  let c512_i32_152 : BitVec 32 := 512#32
  let v261 : BitVec 32 := Scalar.muli arg12 c512_i32_152
  let v262 : BitVec 32 := v261
  let v263 : Index := Scalar.indexCast v262
  let c0_153 : Index := 0#32
  ![v263.toNat, 0]
def k0_off7 (i : grid0.Coords) (k0_t2 : Fin (k0_t2_loop i).trips) : Fin 2 → Nat :=
  let c0_i32 : BitVec 32 := 0#32
  let arg1 : BitVec 32 := BitVec.ofNat 32 (i 1).val
  let c2_i32 : BitVec 32 := 2#32
  let v47 : BitVec 32 := Scalar.muli arg1 c2_i32
  let v48 : BitVec 32 := Scalar.subi v47 c0_i32
  let c1_i32 : BitVec 32 := 1#32
  let v50 : BitVec 32 := Scalar.divsi v48 c1_i32
  let v51 : BitVec 32 := Scalar.muli v50 c1_i32
  let v52 : BitVec 32 := Scalar.addi c0_i32 v51
  let c1_i32_23 : BitVec 32 := 1#32
  let arg12 : BitVec 32 := Scf.iv v52 c1_i32_23 k0_t2
  let c512_i32_152 : BitVec 32 := 512#32
  let v261 : BitVec 32 := Scalar.muli arg12 c512_i32_152
  let v262 : BitVec 32 := v261
  let v265 : Index := Scalar.indexCast v262
  let c0_154 : Index := 0#32
  ![v265.toNat, 0]
def k0_off8 (i : grid0.Coords) (k0_t2 : Fin (k0_t2_loop i).trips) : Fin 2 → Nat :=
  let c0_i32 : BitVec 32 := 0#32
  let arg1 : BitVec 32 := BitVec.ofNat 32 (i 1).val
  let c2_i32 : BitVec 32 := 2#32
  let v47 : BitVec 32 := Scalar.muli arg1 c2_i32
  let v48 : BitVec 32 := Scalar.subi v47 c0_i32
  let c1_i32 : BitVec 32 := 1#32
  let v50 : BitVec 32 := Scalar.divsi v48 c1_i32
  let v51 : BitVec 32 := Scalar.muli v50 c1_i32
  let v52 : BitVec 32 := Scalar.addi c0_i32 v51
  let c1_i32_23 : BitVec 32 := 1#32
  let arg12 : BitVec 32 := Scf.iv v52 c1_i32_23 k0_t2
  let c512_i32_152 : BitVec 32 := 512#32
  let v261 : BitVec 32 := Scalar.muli arg12 c512_i32_152
  let v262 : BitVec 32 := v261
  let v267 : Index := Scalar.indexCast v262
  let c128_155 : Index := 128#32
  ![v267.toNat, 128]
def k0_off9 (i : grid0.Coords) (k0_t2 : Fin (k0_t2_loop i).trips) : Fin 2 → Nat :=
  let c0_i32 : BitVec 32 := 0#32
  let arg1 : BitVec 32 := BitVec.ofNat 32 (i 1).val
  let c2_i32 : BitVec 32 := 2#32
  let v47 : BitVec 32 := Scalar.muli arg1 c2_i32
  let v48 : BitVec 32 := Scalar.subi v47 c0_i32
  let c1_i32 : BitVec 32 := 1#32
  let v50 : BitVec 32 := Scalar.divsi v48 c1_i32
  let v51 : BitVec 32 := Scalar.muli v50 c1_i32
  let v52 : BitVec 32 := Scalar.addi c0_i32 v51
  let c1_i32_23 : BitVec 32 := 1#32
  let arg12 : BitVec 32 := Scf.iv v52 c1_i32_23 k0_t2
  let c512_i32_152 : BitVec 32 := 512#32
  let v261 : BitVec 32 := Scalar.muli arg12 c512_i32_152
  let v262 : BitVec 32 := v261
  let v306 : Index := Scalar.indexCast v262
  let c256_179 : Index := 256#32
  ![v306.toNat, 256]
def k0_off10 (i : grid0.Coords) (k0_t2 : Fin (k0_t2_loop i).trips) : Fin 2 → Nat :=
  let c0_i32 : BitVec 32 := 0#32
  let arg1 : BitVec 32 := BitVec.ofNat 32 (i 1).val
  let c2_i32 : BitVec 32 := 2#32
  let v47 : BitVec 32 := Scalar.muli arg1 c2_i32
  let v48 : BitVec 32 := Scalar.subi v47 c0_i32
  let c1_i32 : BitVec 32 := 1#32
  let v50 : BitVec 32 := Scalar.divsi v48 c1_i32
  let v51 : BitVec 32 := Scalar.muli v50 c1_i32
  let v52 : BitVec 32 := Scalar.addi c0_i32 v51
  let c1_i32_23 : BitVec 32 := 1#32
  let arg12 : BitVec 32 := Scf.iv v52 c1_i32_23 k0_t2
  let c512_i32_152 : BitVec 32 := 512#32
  let v261 : BitVec 32 := Scalar.muli arg12 c512_i32_152
  let v262 : BitVec 32 := v261
  let v308 : Index := Scalar.indexCast v262
  let c384_180 : Index := 384#32
  ![v308.toNat, 384]
def k0_mult3 (i : grid0.Coords) : BitVec 32 :=
  let arg1 : BitVec 32 := BitVec.ofNat 32 (i 1).val
  let c2_i32_24 : BitVec 32 := 2#32
  let v55 : BitVec 32 := Scalar.muli arg1 c2_i32_24
  let c0_i32_25 : BitVec 32 := 0#32
  let v56 : BitVec 32 := Scalar.addi v55 c0_i32_25
  let c512_i32 : BitVec 32 := 512#32
  let v57 : BitVec 32 := Scalar.muli v56 c512_i32
  v57
def k0_off11 (i : grid0.Coords) (c0_i32_25 : BitVec 32) : Fin 2 → Nat :=
  let arg1 : BitVec 32 := BitVec.ofNat 32 (i 1).val
  let c2_i32_24 : BitVec 32 := 2#32
  let v55 : BitVec 32 := Scalar.muli arg1 c2_i32_24
  let v56 : BitVec 32 := Scalar.addi v55 c0_i32_25
  let c512_i32 : BitVec 32 := 512#32
  let v57 : BitVec 32 := Scalar.muli v56 c512_i32
  let v58 : BitVec 32 := v57
  let v59 : Index := Scalar.indexCast v58
  let c0_26 : Index := 0#32
  ![v59.toNat, 0]
def k0_off12 (i : grid0.Coords) (c0_i32_25 : BitVec 32) : Fin 2 → Nat :=
  let arg1 : BitVec 32 := BitVec.ofNat 32 (i 1).val
  let c2_i32_24 : BitVec 32 := 2#32
  let v55 : BitVec 32 := Scalar.muli arg1 c2_i32_24
  let v56 : BitVec 32 := Scalar.addi v55 c0_i32_25
  let c512_i32 : BitVec 32 := 512#32
  let v57 : BitVec 32 := Scalar.muli v56 c512_i32
  let v58 : BitVec 32 := v57
  let v61 : Index := Scalar.indexCast v58
  let c0_27 : Index := 0#32
  ![v61.toNat, 0]
def k0_off13 (i : grid0.Coords) (c0_i32_25 : BitVec 32) : Fin 2 → Nat :=
  let arg1 : BitVec 32 := BitVec.ofNat 32 (i 1).val
  let c2_i32_24 : BitVec 32 := 2#32
  let v55 : BitVec 32 := Scalar.muli arg1 c2_i32_24
  let v56 : BitVec 32 := Scalar.addi v55 c0_i32_25
  let c512_i32 : BitVec 32 := 512#32
  let v57 : BitVec 32 := Scalar.muli v56 c512_i32
  let v58 : BitVec 32 := v57
  let v63 : Index := Scalar.indexCast v58
  let c128 : Index := 128#32
  ![v63.toNat, 128]
def k0_off14 (i : grid0.Coords) (c0_i32_25 : BitVec 32) : Fin 2 → Nat :=
  let arg1 : BitVec 32 := BitVec.ofNat 32 (i 1).val
  let c2_i32_24 : BitVec 32 := 2#32
  let v55 : BitVec 32 := Scalar.muli arg1 c2_i32_24
  let v56 : BitVec 32 := Scalar.addi v55 c0_i32_25
  let c512_i32 : BitVec 32 := 512#32
  let v57 : BitVec 32 := Scalar.muli v56 c512_i32
  let v58 : BitVec 32 := v57
  let v106 : Index := Scalar.indexCast v58
  let c256_53 : Index := 256#32
  ![v106.toNat, 256]
def k0_off15 (i : grid0.Coords) (c0_i32_25 : BitVec 32) : Fin 2 → Nat :=
  let arg1 : BitVec 32 := BitVec.ofNat 32 (i 1).val
  let c2_i32_24 : BitVec 32 := 2#32
  let v55 : BitVec 32 := Scalar.muli arg1 c2_i32_24
  let v56 : BitVec 32 := Scalar.addi v55 c0_i32_25
  let c512_i32 : BitVec 32 := 512#32
  let v57 : BitVec 32 := Scalar.muli v56 c512_i32
  let v58 : BitVec 32 := v57
  let v108 : Index := Scalar.indexCast v58
  let c384 : Index := 384#32
  ![v108.toNat, 384]
def k0_mult4 (i : grid0.Coords) : BitVec 32 :=
  let arg1 : BitVec 32 := BitVec.ofNat 32 (i 1).val
  let c2_i32_78 : BitVec 32 := 2#32
  let v151 : BitVec 32 := Scalar.muli arg1 c2_i32_78
  let c1_i32_79 : BitVec 32 := 1#32
  let v152 : BitVec 32 := Scalar.addi v151 c1_i32_79
  let c512_i32_80 : BitVec 32 := 512#32
  let v153 : BitVec 32 := Scalar.muli v152 c512_i32_80
  v153
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8192x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | "scale_log2" => some (((Real.sqrt 192)⁻¹ * (Real.log 2)⁻¹ : ℝ) : EReal)
  | _ => none
-- ==== ReferenceIdeal.lean ====
abbrev S8192x8192 : Shape := ⟨2, ![8192, 8192]⟩
abbrev S8192x128 : Shape := ⟨2, ![8192, 128]⟩
abbrev S8192 : Shape := ⟨1, ![8192]⟩
abbrev S8192x32x256 : Shape := ⟨3, ![8192, 32, 256]⟩
abbrev S8192x32x128 : Shape := ⟨3, ![8192, 32, 128]⟩
abbrev S8192x32x64 : Shape := ⟨3, ![8192, 32, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S8192x32x32 : Shape := ⟨3, ![8192, 32, 32]⟩
abbrev S8192x64 : Shape := ⟨2, ![8192, 64]⟩
abbrev S32x8192x8192 : Shape := ⟨3, ![32, 8192, 8192]⟩
abbrev S8192x8192x32 : Shape := ⟨3, ![8192, 8192, 32]⟩
abbrev S1x8192 : Shape := ⟨2, ![1, 8192]⟩
abbrev S32x8192 : Shape := ⟨2, ![32, 8192]⟩
abbrev S32x8192x1 : Shape := ⟨3, ![32, 8192, 1]⟩
abbrev S32x128x8192 : Shape := ⟨3, ![32, 128, 8192]⟩
abbrev S8192x4096 : Shape := ⟨2, ![8192, 4096]⟩

abbrev nBuf : Space → Nat
  | .hbm => 83
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .bf16⟩
  | .hbm, ⟨2, _⟩ => ⟨S8192x128, .bf16⟩
  | .hbm, ⟨3, _⟩ => ⟨S8192, .i32⟩
  | .hbm, ⟨4, _⟩ => ⟨S8192x32x256, .f32⟩
  | .hbm, ⟨5, _⟩ => ⟨S8192x32x128, .f32⟩
  | .hbm, ⟨6, _⟩ => ⟨S8192x32x64, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S8192, .f32⟩
  | .hbm, ⟨16, _⟩ => ⟨S8192x1, .f32⟩
  | .hbm, ⟨17, _⟩ => ⟨S1x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S8192x1x32, .f32⟩
  | .hbm, ⟨22, _⟩ => ⟨S8192x1x32, .f32⟩
  | .hbm, ⟨23, _⟩ => ⟨S8192x1x32, .f32⟩
  | .hbm, ⟨24, _⟩ => ⟨S8192x32x32, .f32⟩
  | .hbm, ⟨25, _⟩ => ⟨S8192x32x32, .f32⟩
  | .hbm, ⟨26, _⟩ => ⟨S8192x32x32, .f32⟩
  | .hbm, ⟨27, _⟩ => ⟨S8192x32x32, .f32⟩
  | .hbm, ⟨28, _⟩ => ⟨S8192x32x32, .f32⟩
  | .hbm, ⟨29, _⟩ => ⟨S8192x32x32, .f32⟩
  | .hbm, ⟨30, _⟩ => ⟨S8192x32x32, .f32⟩
  | .hbm, ⟨31, _⟩ => ⟨S8192x32x32, .f32⟩
  | .hbm, ⟨32, _⟩ => ⟨S8192x32x32, .f32⟩
  | .hbm, ⟨33, _⟩ => ⟨S8192x32x32, .f32⟩
  | .hbm, ⟨34, _⟩ => ⟨S8192x32x32, .f32⟩
  | .hbm, ⟨35, _⟩ => ⟨S8192x32x32, .f32⟩
  | .hbm, ⟨36, _⟩ => ⟨S8192x32x64, .f32⟩
  | .hbm, ⟨37, _⟩ => ⟨S8192x64, .bf16⟩
  | .hbm, ⟨38, _⟩ => ⟨S8192x64, .f32⟩
  | .hbm, ⟨39, _⟩ => ⟨S8192x32x256, .bf16⟩
  | .hbm, ⟨40, _⟩ => ⟨S8192x32x256, .f32⟩
  | .hbm, ⟨41, _⟩ => ⟨S8192x32x128, .f32⟩
  | .hbm, ⟨42, _⟩ => ⟨S8192x32x128, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8192, .i32⟩
  | .hbm, ⟨48, _⟩ => ⟨S32x8192x8192, .f32⟩
  | .hbm, ⟨49, _⟩ => ⟨S8192x8192x32, .f32⟩
  | .hbm, ⟨50, _⟩ => ⟨S32x8192x8192, .f32⟩
  | .hbm, ⟨51, _⟩ => ⟨S32x8192x8192, .f32⟩
  | .hbm, ⟨52, _⟩ => ⟨S32x8192x8192, .f32⟩
  | .hbm, ⟨53, _⟩ => ⟨S32x8192x8192, .f32⟩
  | .hbm, ⟨54, _⟩ => ⟨S1x8192, .i32⟩
  | .hbm, ⟨55, _⟩ => ⟨S8192, .i32⟩
  | .hbm, ⟨56, _⟩ => ⟨S8192x1, .i32⟩
  | .hbm, ⟨57, _⟩ => ⟨S8192x8192, .i32⟩
  | .hbm, ⟨58, _⟩ => ⟨S8192x8192, .i32⟩
  | .hbm, ⟨59, _⟩ => ⟨S8192x8192, .i1⟩
  | .hbm, ⟨60, _⟩ => ⟨S_, .f32⟩
  | .hbm, ⟨61, _⟩ => ⟨S_, .f32⟩
  | .hbm, ⟨62, _⟩ => ⟨S32x8192x8192, .i1⟩
  | .hbm, ⟨63, _⟩ => ⟨S32x8192x8192, .f32⟩
  | .hbm, ⟨64, _⟩ => ⟨S32x8192x8192, .f32⟩
  | .hbm, ⟨65, _⟩ => ⟨S_, .f32⟩
  | .hbm, ⟨66, _⟩ => ⟨S32x8192, .f32⟩
  | .hbm, ⟨67, _⟩ => ⟨S_, .f32⟩
  | .hbm, ⟨68, _⟩ => ⟨S32x8192, .f32⟩
  | .hbm, ⟨69, _⟩ => ⟨S32x8192, .f32⟩
  | .hbm, ⟨70, _⟩ => ⟨S32x8192x1, .f32⟩
  | .hbm, ⟨71, _⟩ => ⟨S32x8192x8192, .f32⟩
  | .hbm, ⟨72, _⟩ => ⟨S32x8192x8192, .f32⟩
  | .hbm, ⟨73, _⟩ => ⟨S32x8192x8192, .f32⟩
  | .hbm, ⟨74, _⟩ => ⟨S_, .f32⟩
  | .hbm, ⟨75, _⟩ => ⟨S32x8192, .f32⟩
  | .hbm, ⟨76, _⟩ => ⟨S32x8192x1, .f32⟩
  | .hbm, ⟨77, _⟩ => ⟨S32x8192x8192, .f32⟩
  | .hbm, ⟨78, _⟩ => ⟨S32x8192x8192, .f32⟩
  | .hbm, ⟨79, _⟩ => ⟨S32x128x8192, .f32⟩
  | .hbm, ⟨80, _⟩ => ⟨S8192x32x128, .f32⟩
  | .hbm, ⟨81, _⟩ => ⟨S8192x4096, .f32⟩
  | .hbm, ⟨82, _⟩ => ⟨S8192x4096, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_1 : Ref sig .tc := ⟨.hbm, 43, rfl⟩
abbrev main_v37 : Ref sig .tc := ⟨.hbm, 44, rfl⟩
abbrev main_cst_2 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_cst_3 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_v52 : Ref sig .tc := ⟨.hbm, 64, rfl⟩
abbrev main_cst_4 : Ref sig .tc := ⟨.hbm, 65, rfl⟩
abbrev main_v53 : Ref sig .tc := ⟨.hbm, 66, rfl⟩
abbrev main_cst_5 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_6 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩

abbrev nD : Nat := 1
abbrev τ : Topo := Topo.v7x

variable {F : FTy → Type} [FloatOps F]
-- ==== Kernel2.lean ====
abbrev S24576x2176 : Shape := ⟨2, ![24576, 2176]⟩
abbrev S97 : Shape := ⟨1, ![97]⟩
abbrev S4x32x4096x256 : Shape := ⟨4, ![4, 32, 4096, 256]⟩
abbrev S4x32x256x4096 : Shape := ⟨4, ![4, 32, 256, 4096]⟩
abbrev S24576x2048 : Shape := ⟨2, ![24576, 2048]⟩
abbrev S24576x4096 : Shape := ⟨2, ![24576, 4096]⟩
abbrev S256x2048 : Shape := ⟨2, ![256, 2048]⟩
abbrev S1 : Shape := ⟨1, ![1]⟩
abbrev S256x128 : Shape := ⟨2, ![256, 128]⟩
abbrev S1x1x4096x256 : Shape := ⟨4, ![1, 1, 4096, 256]⟩
abbrev S1x1x256x4096 : Shape := ⟨4, ![1, 1, 256, 4096]⟩
abbrev S256x4096 : Shape := ⟨2, ![256, 4096]⟩
abbrev S4096x256 : Shape := ⟨2, ![4096, 256]⟩
abbrev S256x256 : Shape := ⟨2, ![256, 256]⟩
abbrev S256 : Shape := ⟨1, ![256]⟩
abbrev S256x1 : Shape := ⟨2, ![256, 1]⟩

abbrev nBuf : Space → Nat
  | .hbm => 6
  | .vmem => 15
  | .smem => 1
  | _ => 0

abbrev bufTy : (tb : Table) → Fin (tcTables nBuf tb) → BufTy
  | .hbm, ⟨0, _⟩ => ⟨S24576x2176, .i32⟩
  | .hbm, ⟨1, _⟩ => ⟨S4x32x4096x256, .f32⟩
  | .hbm, ⟨2, _⟩ => ⟨S4x32x4096x256, .f32⟩
  | .hbm, ⟨3, _⟩ => ⟨S4x32x256x4096, .f32⟩
  | .hbm, ⟨4, _⟩ => ⟨S24576x2048, .i32⟩
  | .hbm, ⟨5, _⟩ => ⟨S24576x4096, .f32⟩
  | .local _ .vmem, ⟨0, _⟩ => ⟨S256x2048, .i32⟩
  | .local _ .vmem, ⟨1, _⟩ => ⟨S256x2048, .i32⟩
  | .local _ .vmem, ⟨2, _⟩ => ⟨S256x128, .i32⟩
  | .local _ .vmem, ⟨3, _⟩ => ⟨S256x128, .i32⟩
  | .local _ .vmem, ⟨4, _⟩ => ⟨S1x1x4096x256, .f32⟩
  | .local _ .vmem, ⟨5, _⟩ => ⟨S1x1x4096x256, .f32⟩
  | .local _ .vmem, ⟨6, _⟩ => ⟨S1x1x4096x256, .f32⟩
  | .local _ .vmem, ⟨7, _⟩ => ⟨S1x1x4096x256, .f32⟩
  | .local _ .vmem, ⟨8, _⟩ => ⟨S1x1x256x4096, .f32⟩
  | .local _ .vmem, ⟨9, _⟩ => ⟨S1x1x256x4096, .f32⟩
  | .local _ .vmem, ⟨10, _⟩ => ⟨S256x4096, .f32⟩
  | .local _ .vmem, ⟨11, _⟩ => ⟨S256x4096, .f32⟩
  | .local _ .vmem, ⟨12, _⟩ => ⟨S4096x256, .bf16⟩
  | .local _ .vmem, ⟨13, _⟩ => ⟨S4096x256, .bf16⟩
  | .local _ .vmem, ⟨14, _⟩ => ⟨S256x4096, .bf16⟩
  | .local _ .smem, ⟨0, _⟩ => ⟨S97, .i32⟩
  | _, _ => ⟨S24576x2176, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![96], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v10 : BitVec 32 := Scalar.subi arg0 c1_i32
  let c0_i32_2 : BitVec 32 := 0#32
  let v11 : BitVec 32 := Scalar.maxsi v10 c0_i32_2
  let v12 : Index := Scalar.indexCast v11
  ![v12.toNat]
def k0_cond1 (i : grid0.Coords) (v2 : BitVec 32) : BitVec 1 :=
  let arg0 : BitVec 32 := BitVec.ofNat 32 (i 0).val
  let v3 : BitVec 1 := Scalar.cmpi .slt arg0 v2
  let v_true : BitVec 1 := 1#1
  let v4 : BitVec 1 := Scalar.xori v3 v_true
  let v5 : BitVec 32 := Scalar.extui v4
  let c0_i32 : BitVec 32 := 0#32
  let v6 : BitVec 1 := Scalar.cmpi .ne v5 c0_i32
  v6

def k0_cond2 (i : grid0.Coords) (v2 : BitVec 32) : BitVec 1 :=
  let arg0 : BitVec 32 := BitVec.ofNat 32 (i 0).val
  let v3 : BitVec 1 := Scalar.cmpi .slt arg0 v2
  let v7 : BitVec 32 := Scalar.extui v3
  let c0_i32_0 : BitVec 32 := 0#32
  let v8 : BitVec 1 := Scalar.cmpi .ne v7 c0_i32_0
  v8

def cc0_transform_0 (inb_S97_S1_96 : ∀ a, (![96] : Fin 1 → Nat) a + S1.size a ≤ S97.size a) (numel1_S1 : S1.numel = 1) (pf : pre0.Contents (Elt F)) (i : grid0.Coords) : Fin 2 → Nat :=
  let arg0 : BitVec 32 := BitVec.ofNat 32 (i 0).val
  let c96 : Index := 96#32
  let v0 : BitVec 32 := pf.at 0 (Rect.unit (s := S97) ![96] S1.size inb_S97_S1_96) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (inb_S97_S1_96 : ∀ a, (![96] : Fin 1 → Nat) a + S1.size a ≤ S97.size a) (numel1_S1 : S1.numel = 1) (pf : pre0.Contents (Elt F)) (i : grid0.Coords) : Fin 2 → Nat :=
  let arg0 : BitVec 32 := BitVec.ofNat 32 (i 0).val
  let c96 : Index := 96#32
  let v0 : BitVec 32 := pf.at 0 (Rect.unit (s := S97) ![96] S1.size inb_S97_S1_96) numel1_S1
  let c1_i32 : BitVec 32 := 1#32
  let v1 : BitVec 32 := Scalar.subi v0 c1_i32
  let v2 : BitVec 32 := Scalar.minsi arg0 v1
  let c16_i32 : BitVec 32 := 16#32
  let c0_i32 : BitVec 32 := 0#32
  ![v2.toNat, c16_i32.toNat]

def cc0_transform_2 (k0_off1_inb : ∀ i : grid0.Coords, ∀ a, (k0_off1 i) a + S1.size a ≤ S97.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S97) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S97.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S97) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S97.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S97) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S24576x2176 : Shape := ⟨2, ![24576, 2176]⟩
abbrev S97 : Shape := ⟨1, ![97]⟩
abbrev S4x32x4096x256 : Shape := ⟨4, ![4, 32, 4096, 256]⟩
abbrev S4x32x256x4096 : Shape := ⟨4, ![4, 32, 256, 4096]⟩
abbrev S24576x2048 : Shape := ⟨2, ![24576, 2048]⟩
abbrev S_ : Shape := ⟨0, ![]⟩
abbrev S24576x4096 : Shape := ⟨2, ![24576, 4096]⟩
abbrev S24576x32 : Shape := ⟨2, ![24576, 32]⟩
abbrev S96 : Shape := ⟨1, ![96]⟩
abbrev S96x256 : Shape := ⟨2, ![96, 256]⟩
abbrev S24576 : Shape := ⟨1, ![24576]⟩
abbrev S1 : Shape := ⟨1, ![1]⟩
abbrev S24576x1 : Shape := ⟨2, ![24576, 1]⟩
abbrev S32 : Shape := ⟨1, ![32]⟩
abbrev S1x32 : Shape := ⟨2, ![1, 32]⟩
abbrev S1x32x4096x256 : Shape := ⟨4, ![1, 32, 4096, 256]⟩
abbrev S32x4096x256 : Shape := ⟨3, ![32, 4096, 256]⟩
abbrev S24576x32x256 : Shape := ⟨3, ![24576, 32, 256]⟩
abbrev S24576x32x1 : Shape := ⟨3, ![24576, 32, 1]⟩
abbrev S1x32x256x4096 : Shape := ⟨4, ![1, 32, 256, 4096]⟩
abbrev S32x256x4096 : Shape := ⟨3, ![32, 256, 4096]⟩

abbrev nBuf : Space → Nat
  | .hbm => 62
  | .vmem => 0
  | .smem => 0
  | _ => 0

abbrev bufTy : (tb : Table) → Fin (tcTables nBuf tb) → BufTy
  | .hbm, ⟨0, _⟩ => ⟨S24576x2176, .i32⟩
  | .hbm, ⟨1, _⟩ => ⟨S97, .i32⟩
  | .hbm, ⟨2, _⟩ => ⟨S4x32x4096x256, .f32⟩
  | .hbm, ⟨3, _⟩ => ⟨S4x32x4096x256, .f32⟩
  | .hbm, ⟨4, _⟩ => ⟨S4x32x256x4096, .f32⟩
  | .hbm, ⟨5, _⟩ => ⟨S24576x2048, .i32⟩
  | .hbm, ⟨6, _⟩ => ⟨S_, .i32⟩
  | .hbm, ⟨7, _⟩ => ⟨S24576x2048, .i32⟩
  | .hbm, ⟨8, _⟩ => ⟨S24576x2048, .i32⟩
  | .hbm, ⟨9, _⟩ => ⟨S24576x2048, .f32⟩
  | .hbm, ⟨10, _⟩ => ⟨S_, .i32⟩
  | .hbm, ⟨11, _⟩ => ⟨S24576x2048, .i32⟩
  | .hbm, ⟨12, _⟩ => ⟨S24576x2048, .i32⟩
  | .hbm, ⟨13, _⟩ => ⟨S24576x2048, .f32⟩
  | .hbm, ⟨14, _⟩ => ⟨S24576x4096, .f32⟩
  | .hbm, ⟨15, _⟩ => ⟨S24576x32, .i32⟩
  | .hbm, ⟨16, _⟩ => ⟨S24576x32, .f32⟩
  | .hbm, ⟨17, _⟩ => ⟨S96, .i32⟩
  | .hbm, ⟨18, _⟩ => ⟨S96x256, .i32⟩
  | .hbm, ⟨19, _⟩ => ⟨S24576, .i32⟩
  | .hbm, ⟨20, _⟩ => ⟨S96, .i32⟩
  | .hbm, ⟨21, _⟩ => ⟨S1, .i32⟩
  | .hbm, ⟨22, _⟩ => ⟨S_, .i32⟩
  | .hbm, ⟨23, _⟩ => ⟨S96, .i32⟩
  | .hbm, ⟨24, _⟩ => ⟨S96, .i1⟩
  | .hbm, ⟨25, _⟩ => ⟨S96x256, .i1⟩
  | .hbm, ⟨26, _⟩ => ⟨S24576, .i1⟩
  | .hbm, ⟨27, _⟩ => ⟨S24576x1, .i32⟩
  | .hbm, ⟨28, _⟩ => ⟨S32, .i32⟩
  | .hbm, ⟨29, _⟩ => ⟨S1x32, .i32⟩
  | .hbm, ⟨30, _⟩ => ⟨S24576x32, .i32⟩
  | .hbm, ⟨31, _⟩ => ⟨S24576x32, .i32⟩
  | .hbm, ⟨32, _⟩ => ⟨S24576x32, .i1⟩
  | .hbm, ⟨33, _⟩ => ⟨S24576x1, .i1⟩
  | .hbm, ⟨34, _⟩ => ⟨S24576x32, .i1⟩
  | .hbm, ⟨35, _⟩ => ⟨S24576x32, .i1⟩
  | .hbm, ⟨36, _⟩ => ⟨S_, .f32⟩
  | .hbm, ⟨37, _⟩ => ⟨S_, .f32⟩
  | .hbm, ⟨38, _⟩ => ⟨S24576x32, .f32⟩
  | .hbm, ⟨39, _⟩ => ⟨S24576x32, .f32⟩
  | .hbm, ⟨40, _⟩ => ⟨S1x32x4096x256, .f32⟩
  | .hbm, ⟨41, _⟩ => ⟨S32x4096x256, .f32⟩
  | .hbm, ⟨42, _⟩ => ⟨S24576x32x256, .f32⟩
  | .hbm, ⟨43, _⟩ => ⟨S24576x32x256, .f32⟩
  | .hbm, ⟨44, _⟩ => ⟨S24576x32x256, .f32⟩
  | .hbm, ⟨45, _⟩ => ⟨S_, .f32⟩
  | .hbm, ⟨46, _⟩ => ⟨S24576x32x256, .f32⟩
  | .hbm, ⟨47, _⟩ => ⟨S24576x32x256, .f32⟩
  | .hbm, ⟨48, _⟩ => ⟨S_, .f32⟩
  | .hbm, ⟨49, _⟩ => ⟨S24576x32x256, .f32⟩
  | .hbm, ⟨50, _⟩ => ⟨S24576x32x256, .f32⟩
  | .hbm, ⟨51, _⟩ => ⟨S24576x32x256, .f32⟩
  | .hbm, ⟨52, _⟩ => ⟨S1x32x4096x256, .f32⟩
  | .hbm, ⟨53, _⟩ => ⟨S32x4096x256, .f32⟩
  | .hbm, ⟨54, _⟩ => ⟨S24576x32x256, .f32⟩
  | .hbm, ⟨55, _⟩ => ⟨S24576x32x256, .f32⟩
  | .hbm, ⟨56, _⟩ => ⟨S24576x32x1, .f32⟩
  | .hbm, ⟨57, _⟩ => ⟨S24576x32x256, .f32⟩
  | .hbm, ⟨58, _⟩ => ⟨S24576x32x256, .f32⟩
  | .hbm, ⟨59, _⟩ => ⟨S1x32x256x4096, .f32⟩
  | .hbm, ⟨60, _⟩ => ⟨S32x256x4096, .f32⟩
  | .hbm, ⟨61, _⟩ => ⟨S24576x4096, .f32⟩
  | _, _ => ⟨S24576x2176, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst : Ref sig .tc := ⟨.hbm, 36, rfl⟩
abbrev main_call0_v0 : Ref sig .tc := ⟨.hbm, 37, rfl⟩
abbrev main_call0_v1 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel3.lean ====
abbrev S8192x4096 : Shape := ⟨2, ![8192, 4096]⟩
abbrev S2x4096x12288 : Shape := ⟨3, ![2, 4096, 12288]⟩
abbrev S8192x12288 : Shape := ⟨2, ![8192, 12288]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S2x4096x12288, .f32⟩
  | .hbm, ⟨2, _⟩ => ⟨S8192x12288, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .bf16⟩
  | .local _ .vmem, ⟨5, _⟩ => ⟨S1024x512, .bf16⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![24, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8192x4096 : Shape := ⟨2, ![8192, 4096]⟩
abbrev S2x4096x12288 : Shape := ⟨3, ![2, 4096, 12288]⟩
abbrev S1x4096x12288 : Shape := ⟨3, ![1, 4096, 12288]⟩
abbrev S4096x12288 : Shape := ⟨2, ![4096, 12288]⟩
abbrev S8192x12288 : Shape := ⟨2, ![8192, 12288]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x12288, .f32⟩
  | .hbm, ⟨2, _⟩ => ⟨S8192x4096, .f32⟩
  | .hbm, ⟨3, _⟩ => ⟨S1x4096x12288, .f32⟩
  | .hbm, ⟨4, _⟩ => ⟨S4096x12288, .f32⟩
  | .hbm, ⟨5, _⟩ => ⟨S8192x12288, .f32⟩
  | .hbm, ⟨6, _⟩ => ⟨S8192x12288, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S8192x4096 : Shape := ⟨2, ![8192, 4096]⟩
abbrev S2x4096x4096 : Shape := ⟨3, ![2, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x4096 : Shape := ⟨2, ![8192, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .hbm, ⟨3, _⟩ => ⟨S1x4096x4096, .f32⟩
  | .hbm, ⟨4, _⟩ => ⟨S4096x4096, .f32⟩
  | .hbm, ⟨5, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S8192x4096 : Shape := ⟨2, ![8192, 4096]⟩
abbrev S1x4096x18432 : Shape := ⟨3, ![1, 4096, 18432]⟩
abbrev S8192x6144 : Shape := ⟨2, ![8192, 6144]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1x4096x18432, .f32⟩
  | .hbm, ⟨2, _⟩ => ⟨S8192x6144, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .bf16⟩
  | .local _ .vmem, ⟨5, _⟩ => ⟨S1024x512, .bf16⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.muli v16 c3_i32
  let c0_i32_4 : BitVec 32 := 0#32
  let v18 : BitVec 32 := Scalar.addi v17 c0_i32_4
  let c4_i32_5 : BitVec 32 := 4#32
  let v19 : BitVec 32 := Scalar.muli v18 c4_i32_5
  let c4_i32_6 : BitVec 32 := 4#32
  let c0_i32_7 : BitVec 32 := 0#32
  let v20 : BitVec 1 := Scalar.cmpi .eq c4_i32_6 c0_i32_7
  let c1_i32_8 : BitVec 32 := 1#32
  let v21 : BitVec 32 := Scalar.select v20 c1_i32_8 c4_i32_6
  let v22 : BitVec 32 := Scalar.remsi arg0 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c0_i32_12 : BitVec 32 := 0#32
  let c0_i32_13 : BitVec 32 := 0#32
  let c0_i32_14 : BitVec 32 := 0#32
  ![c0_i32_12.toNat, c0_i32_13.toNat, v30.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel5Ideal.lean ====
abbrev S8192x4096 : Shape := ⟨2, ![8192, 4096]⟩
abbrev S1x4096x18432 : Shape := ⟨3, ![1, 4096, 18432]⟩
abbrev S8192x6144 : Shape := ⟨2, ![8192, 6144]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1x4096x18432, .f32⟩
  | .hbm, ⟨2, _⟩ => ⟨S8192x6144, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .bf16⟩
  | .local _ .vmem, ⟨5, _⟩ => ⟨S1024x512, .bf16⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.muli v16 c3_i32
  let c0_i32_4 : BitVec 32 := 0#32
  let v18 : BitVec 32 := Scalar.addi v17 c0_i32_4
  let c4_i32_5 : BitVec 32 := 4#32
  let v19 : BitVec 32 := Scalar.muli v18 c4_i32_5
  let c4_i32_6 : BitVec 32 := 4#32
  let c0_i32_7 : BitVec 32 := 0#32
  let v20 : BitVec 1 := Scalar.cmpi .eq c4_i32_6 c0_i32_7
  let c1_i32_8 : BitVec 32 := 1#32
  let v21 : BitVec 32 := Scalar.select v20 c1_i32_8 c4_i32_6
  let v22 : BitVec 32 := Scalar.remsi arg0 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c0_i32_12 : BitVec 32 := 0#32
  let c0_i32_13 : BitVec 32 := 0#32
  let c0_i32_14 : BitVec 32 := 0#32
  ![c0_i32_12.toNat, c0_i32_13.toNat, v30.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8192x4096 : Shape := ⟨2, ![8192, 4096]⟩
abbrev S1x4096x18432 : Shape := ⟨3, ![1, 4096, 18432]⟩
abbrev S4096x18432 : Shape := ⟨2, ![4096, 18432]⟩
abbrev S8192x18432 : Shape := ⟨2, ![8192, 18432]⟩
abbrev S8192x3x3x2048 : Shape := ⟨4, ![8192, 3, 3, 2048]⟩
abbrev S8192x3x1x2048 : Shape := ⟨4, ![8192, 3, 1, 2048]⟩
abbrev S8192x3x2048 : Shape := ⟨3, ![8192, 3, 2048]⟩
abbrev S8192x6144 : Shape := ⟨2, ![8192, 6144]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x18432, .f32⟩
  | .hbm, ⟨2, _⟩ => ⟨S8192x4096, .f32⟩
  | .hbm, ⟨3, _⟩ => ⟨S4096x18432, .f32⟩
  | .hbm, ⟨4, _⟩ => ⟨S8192x18432, .f32⟩
  | .hbm, ⟨5, _⟩ => ⟨S8192x3x3x2048, .f32⟩
  | .hbm, ⟨6, _⟩ => ⟨S8192x3x1x2048, .f32⟩
  | .hbm, ⟨7, _⟩ => ⟨S8192x3x2048, .f32⟩
  | .hbm, ⟨8, _⟩ => ⟨S8192x6144, .f32⟩
  | .hbm, ⟨9, _⟩ => ⟨S8192x6144, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel6.lean ====
abbrev S8192x4096 : Shape := ⟨2, ![8192, 4096]⟩
abbrev S1x4096x4096 : Shape := ⟨3, ![1, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8192x4096 : Shape := ⟨2, ![8192, 4096]⟩
abbrev S1x4096x4096 : Shape := ⟨3, ![1, 4096, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S8192x4096, .f32⟩
  | .hbm, ⟨3, _⟩ => ⟨S4096x4096, .f32⟩
  | .hbm, ⟨4, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S8192x4096 : Shape := ⟨2, ![8192, 4096]⟩
abbrev S1x4096x18432 : Shape := ⟨3, ![1, 4096, 18432]⟩
abbrev S8192x6144 : Shape := ⟨2, ![8192, 6144]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1x4096x18432, .f32⟩
  | .hbm, ⟨2, _⟩ => ⟨S8192x6144, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .bf16⟩
  | .local _ .vmem, ⟨5, _⟩ => ⟨S1024x512, .bf16⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.muli v16 c3_i32
  let c1_i32_4 : BitVec 32 := 1#32
  let v18 : BitVec 32 := Scalar.addi v17 c1_i32_4
  let c4_i32_5 : BitVec 32 := 4#32
  let v19 : BitVec 32 := Scalar.muli v18 c4_i32_5
  let c4_i32_6 : BitVec 32 := 4#32
  let c0_i32_7 : BitVec 32 := 0#32
  let v20 : BitVec 1 := Scalar.cmpi .eq c4_i32_6 c0_i32_7
  let c1_i32_8 : BitVec 32 := 1#32
  let v21 : BitVec 32 := Scalar.select v20 c1_i32_8 c4_i32_6
  let v22 : BitVec 32 := Scalar.remsi arg0 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c0_i32_12 : BitVec 32 := 0#32
  let c0_i32_13 : BitVec 32 := 0#32
  let c0_i32_14 : BitVec 32 := 0#32
  ![c0_i32_12.toNat, c0_i32_13.toNat, v30.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel7Ideal.lean ====
abbrev S8192x4096 : Shape := ⟨2, ![8192, 4096]⟩
abbrev S1x4096x18432 : Shape := ⟨3, ![1, 4096, 18432]⟩
abbrev S8192x6144 : Shape := ⟨2, ![8192, 6144]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1x4096x18432, .f32⟩
  | .hbm, ⟨2, _⟩ => ⟨S8192x6144, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .bf16⟩
  | .local _ .vmem, ⟨5, _⟩ => ⟨S1024x512, .bf16⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.muli v16 c3_i32
  let c1_i32_4 : BitVec 32 := 1#32
  let v18 : BitVec 32 := Scalar.addi v17 c1_i32_4
  let c4_i32_5 : BitVec 32 := 4#32
  let v19 : BitVec 32 := Scalar.muli v18 c4_i32_5
  let c4_i32_6 : BitVec 32 := 4#32
  let c0_i32_7 : BitVec 32 := 0#32
  let v20 : BitVec 1 := Scalar.cmpi .eq c4_i32_6 c0_i32_7
  let c1_i32_8 : BitVec 32 := 1#32
  let v21 : BitVec 32 := Scalar.select v20 c1_i32_8 c4_i32_6
  let v22 : BitVec 32 := Scalar.remsi arg0 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c0_i32_12 : BitVec 32 := 0#32
  let c0_i32_13 : BitVec 32 := 0#32
  let c0_i32_14 : BitVec 32 := 0#32
  ![c0_i32_12.toNat, c0_i32_13.toNat, v30.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8192x4096 : Shape := ⟨2, ![8192, 4096]⟩
abbrev S1x4096x18432 : Shape := ⟨3, ![1, 4096, 18432]⟩
abbrev S4096x18432 : Shape := ⟨2, ![4096, 18432]⟩
abbrev S8192x18432 : Shape := ⟨2, ![8192, 18432]⟩
abbrev S8192x3x3x2048 : Shape := ⟨4, ![8192, 3, 3, 2048]⟩
abbrev S8192x3x1x2048 : Shape := ⟨4, ![8192, 3, 1, 2048]⟩
abbrev S8192x3x2048 : Shape := ⟨3, ![8192, 3, 2048]⟩
abbrev S8192x6144 : Shape := ⟨2, ![8192, 6144]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x18432, .f32⟩
  | .hbm, ⟨2, _⟩ => ⟨S8192x4096, .f32⟩
  | .hbm, ⟨3, _⟩ => ⟨S4096x18432, .f32⟩
  | .hbm, ⟨4, _⟩ => ⟨S8192x18432, .f32⟩
  | .hbm, ⟨5, _⟩ => ⟨S8192x3x3x2048, .f32⟩
  | .hbm, ⟨6, _⟩ => ⟨S8192x3x1x2048, .f32⟩
  | .hbm, ⟨7, _⟩ => ⟨S8192x3x2048, .f32⟩
  | .hbm, ⟨8, _⟩ => ⟨S8192x6144, .f32⟩
  | .hbm, ⟨9, _⟩ => ⟨S8192x6144, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel8.lean ====
abbrev S8192x4096 : Shape := ⟨2, ![8192, 4096]⟩
abbrev S1x4096x18432 : Shape := ⟨3, ![1, 4096, 18432]⟩
abbrev S8192x6144 : Shape := ⟨2, ![8192, 6144]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1x4096x18432, .f32⟩
  | .hbm, ⟨2, _⟩ => ⟨S8192x6144, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .bf16⟩
  | .local _ .vmem, ⟨5, _⟩ => ⟨S1024x512, .bf16⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.muli v16 c3_i32
  let c2_i32 : BitVec 32 := 2#32
  let v18 : BitVec 32 := Scalar.addi v17 c2_i32
  let c4_i32_4 : BitVec 32 := 4#32
  let v19 : BitVec 32 := Scalar.muli v18 c4_i32_4
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi arg0 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c0_i32_11 : BitVec 32 := 0#32
  let c0_i32_12 : BitVec 32 := 0#32
  let c0_i32_13 : BitVec 32 := 0#32
  ![c0_i32_11.toNat, c0_i32_12.toNat, v30.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8192x4096 : Shape := ⟨2, ![8192, 4096]⟩
abbrev S1x4096x18432 : Shape := ⟨3, ![1, 4096, 18432]⟩
abbrev S4096x18432 : Shape := ⟨2, ![4096, 18432]⟩
abbrev S8192x18432 : Shape := ⟨2, ![8192, 18432]⟩
abbrev S8192x3x3x2048 : Shape := ⟨4, ![8192, 3, 3, 2048]⟩
abbrev S8192x3x1x2048 : Shape := ⟨4, ![8192, 3, 1, 2048]⟩
abbrev S8192x3x2048 : Shape := ⟨3, ![8192, 3, 2048]⟩
abbrev S8192x6144 : Shape := ⟨2, ![8192, 6144]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x18432, .f32⟩
  | .hbm, ⟨2, _⟩ => ⟨S8192x4096, .f32⟩
  | .hbm, ⟨3, _⟩ => ⟨S4096x18432, .f32⟩
  | .hbm, ⟨4, _⟩ => ⟨S8192x18432, .f32⟩
  | .hbm, ⟨5, _⟩ => ⟨S8192x3x3x2048, .f32⟩
  | .hbm, ⟨6, _⟩ => ⟨S8192x3x1x2048, .f32⟩
  | .hbm, ⟨7, _⟩ => ⟨S8192x3x2048, .f32⟩
  | .hbm, ⟨8, _⟩ => ⟨S8192x6144, .f32⟩
  | .hbm, ⟨9, _⟩ => ⟨S8192x6144, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel9.lean ====
abbrev S8192x2048 : Shape := ⟨2, ![8192, 2048]⟩
abbrev S1x2048x4096 : Shape := ⟨3, ![1, 2048, 4096]⟩
abbrev S8192x4096 : Shape := ⟨2, ![8192, 4096]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1x2048x4096, .f32⟩
  | .hbm, ⟨2, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x512, .f32⟩
  | .local _ .vmem, ⟨5, _⟩ => ⟨S1024x512, .f32⟩
  | .local _ .vmem, ⟨6, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S8192x2048 : Shape := ⟨2, ![8192, 2048]⟩
abbrev S1x2048x4096 : Shape := ⟨3, ![1, 2048, 4096]⟩
abbrev S2048x4096 : Shape := ⟨2, ![2048, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x4096, .f32⟩
  | .hbm, ⟨2, _⟩ => ⟨S8192x2048, .f32⟩
  | .hbm, ⟨3, _⟩ => ⟨S2048x4096, .f32⟩
  | .hbm, ⟨4, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S8192x512 : Shape := ⟨2, ![8192, 512]⟩
abbrev S1x512x8192 : Shape := ⟨3, ![1, 512, 8192]⟩
abbrev S8192x8192 : Shape := ⟨2, ![8192, 8192]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S1x512x8192, .f32⟩
  | .hbm, ⟨2, _⟩ => ⟨S8192x8192, .bf16⟩
  | .local _ .vmem, ⟨0, _⟩ => ⟨S1024x512, .bf16⟩
  | .local _ .vmem, ⟨1, _⟩ => ⟨S1024x512, .bf16⟩
  | .local _ .vmem, ⟨2, _⟩ => ⟨S1x512x512, .f32⟩
  | .local _ .vmem, ⟨3, _⟩ => ⟨S1x512x512, .f32⟩
  | .local _ .vmem, ⟨4, _⟩ => ⟨S1024x512, .bf16⟩
  | .local _ .vmem, ⟨5, _⟩ => ⟨S1024x512, .bf16⟩
  | .local _ .vmem, ⟨6, _⟩ => ⟨S512x512, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S8192x512 : Shape := ⟨2, ![8192, 512]⟩
abbrev S1x512x8192 : Shape := ⟨3, ![1, 512, 8192]⟩
abbrev S512x8192 : Shape := ⟨2, ![512, 8192]⟩
abbrev S8192x8192 : Shape := ⟨2, ![8192, 8192]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S1x512x8192, .f32⟩
  | .hbm, ⟨2, _⟩ => ⟨S8192x512, .f32⟩
  | .hbm, ⟨3, _⟩ => ⟨S512x8192, .f32⟩
  | .hbm, ⟨4, _⟩ => ⟨S8192x8192, .f32⟩
  | .hbm, ⟨5, _⟩ => ⟨S8192x8192, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S8192x4096 : Shape := ⟨2, ![8192, 4096]⟩
abbrev S4096x1024 : Shape := ⟨2, ![4096, 1024]⟩
abbrev S4096x576 : Shape := ⟨2, ![4096, 576]⟩
abbrev S_ : Shape := ⟨0, ![]⟩
abbrev S4096x448 : Shape := ⟨2, ![4096, 448]⟩
abbrev S4096x2048 : Shape := ⟨2, ![4096, 2048]⟩
abbrev S8192x2048 : Shape := ⟨2, ![8192, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 7
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .f32⟩
  | .hbm, ⟨2, _⟩ => ⟨S4096x576, .f32⟩
  | .hbm, ⟨3, _⟩ => ⟨S_, .f32⟩
  | .hbm, ⟨4, _⟩ => ⟨S4096x448, .f32⟩
  | .hbm, ⟨5, _⟩ => ⟨S4096x2048, .f32⟩
  | .hbm, ⟨6, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S8192x4096 : Shape := ⟨2, ![8192, 4096]⟩
abbrev S4096x1024 : Shape := ⟨2, ![4096, 1024]⟩
abbrev S4096x576 : Shape := ⟨2, ![4096, 576]⟩
abbrev S8192x1024 : Shape := ⟨2, ![8192, 1024]⟩
abbrev S8192x576 : Shape := ⟨2, ![8192, 576]⟩
abbrev S_ : Shape := ⟨0, ![]⟩
abbrev S8192x448 : Shape := ⟨2, ![8192, 448]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .f32⟩
  | .hbm, ⟨2, _⟩ => ⟨S4096x576, .f32⟩
  | .hbm, ⟨3, _⟩ => ⟨S8192x4096, .f32⟩
  | .hbm, ⟨4, _⟩ => ⟨S8192x1024, .f32⟩
  | .hbm, ⟨5, _⟩ => ⟨S8192x576, .f32⟩
  | .hbm, ⟨6, _⟩ => ⟨S_, .f32⟩
  | .hbm, ⟨7, _⟩ => ⟨S8192x448, .f32⟩
  | .hbm, ⟨8, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel12.lean ====
abbrev S8192x1024 : Shape := ⟨2, ![8192, 1024]⟩
abbrev S1024x6144 : Shape := ⟨2, ![1024, 6144]⟩
abbrev S1024x32x192 : Shape := ⟨3, ![1024, 32, 192]⟩
abbrev S_ : Shape := ⟨0, ![]⟩
abbrev S1024x32x256 : Shape := ⟨3, ![1024, 32, 256]⟩
abbrev S1024x8192 : Shape := ⟨2, ![1024, 8192]⟩
abbrev S8192x8192 : Shape := ⟨2, ![8192, 8192]⟩
abbrev S1024x1024 : Shape := ⟨2, ![1024, 1024]⟩
abbrev S1024x512 : Shape := ⟨2, ![1024, 512]⟩

abbrev nBuf : Space → Nat
  | .hbm => 8
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x6144, .f32⟩
  | .hbm, ⟨2, _⟩ => ⟨S1024x32x192, .f32⟩
  | .hbm, ⟨3, _⟩ => ⟨S_, .i32⟩
  | .hbm, ⟨4, _⟩ => ⟨S_, .f32⟩
  | .hbm, ⟨5, _⟩ => ⟨S1024x32x256, .f32⟩
  | .hbm, ⟨6, _⟩ => ⟨S1024x8192, .f32⟩
  | .hbm, ⟨7, _⟩ => ⟨S8192x8192, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S8192x1024 : Shape := ⟨2, ![8192, 1024]⟩
abbrev S1024x6144 : Shape := ⟨2, ![1024, 6144]⟩
abbrev S8192x6144 : Shape := ⟨2, ![8192, 6144]⟩
abbrev S8192x32x192 : Shape := ⟨3, ![8192, 32, 192]⟩
abbrev S_ : Shape := ⟨0, ![]⟩
abbrev S8192x32x64 : Shape := ⟨3, ![8192, 32, 64]⟩
abbrev S8192x32x256 : Shape := ⟨3, ![8192, 32, 256]⟩
abbrev S8192x8192 : Shape := ⟨2, ![8192, 8192]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x6144, .f32⟩
  | .hbm, ⟨2, _⟩ => ⟨S8192x1024, .f32⟩
  | .hbm, ⟨3, _⟩ => ⟨S8192x6144, .f32⟩
  | .hbm, ⟨4, _⟩ => ⟨S8192x32x192, .f32⟩
  | .hbm, ⟨5, _⟩ => ⟨S_, .f32⟩
  | .hbm, ⟨6, _⟩ => ⟨S8192x32x64, .f32⟩
  | .hbm, ⟨7, _⟩ => ⟨S8192x32x256, .f32⟩
  | .hbm, ⟨8, _⟩ => ⟨S8192x8192, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S8192x2048 : Shape := ⟨2, ![8192, 2048]⟩
abbrev S1024 : Shape := ⟨1, ![1024]⟩
abbrev S512 : Shape := ⟨1, ![512]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S8192x128 : Shape := ⟨2, ![8192, 128]⟩
abbrev S1x1024 : Shape := ⟨2, ![1, 1024]⟩
abbrev S1x512 : Shape := ⟨2, ![1, 512]⟩
abbrev S8192x1024 : Shape := ⟨2, ![8192, 1024]⟩
abbrev S8192x512 : Shape := ⟨2, ![8192, 512]⟩
abbrev S512x2048 : Shape := ⟨2, ![512, 2048]⟩
abbrev S512x128 : Shape := ⟨2, ![512, 128]⟩
abbrev S512x1024 : Shape := ⟨2, ![512, 1024]⟩
abbrev S512x512 : Shape := ⟨2, ![512, 512]⟩
abbrev S512x1 : Shape := ⟨2, ![512, 1]⟩

abbrev nBuf : Space → Nat
  | .hbm => 33
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S1024, .f32⟩
  | .hbm, ⟨2, _⟩ => ⟨S512, .f32⟩
  | .hbm, ⟨3, _⟩ => ⟨S8192, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S8192, .f32⟩
  | .hbm, ⟨13, _⟩ => ⟨S8192x1, .f32⟩
  | .hbm, ⟨14, _⟩ => ⟨S1x32, .f32⟩
  | .hbm, ⟨15, _⟩ => ⟨S8192x32, .f32⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S_, .f32⟩
  | .hbm, ⟨21, _⟩ => ⟨S8192x64, .f32⟩
  | .hbm, ⟨22, _⟩ => ⟨S_, .f32⟩
  | .hbm, ⟨23, _⟩ => ⟨S8192x32, .f32⟩
  | .hbm, ⟨24, _⟩ => ⟨S8192x128, .f32⟩
  | .hbm, ⟨25, _⟩ => ⟨S8192x128, .f32⟩
  | .hbm, ⟨26, _⟩ => ⟨S8192x32, .f32⟩
  | .hbm, ⟨27, _⟩ => ⟨S8192x128, .f32⟩
  | .hbm, ⟨28, _⟩ => ⟨S1x1024, .f32⟩
  | .hbm, ⟨29, _⟩ => ⟨S1x512, .f32⟩
  | .hbm, ⟨30, _⟩ => ⟨S8192x1024, .bf16⟩
  | .hbm, ⟨31, _⟩ => ⟨S8192x512, .bf16⟩
  | .hbm, ⟨32, _⟩ => ⟨S8192x128, .bf16⟩
  | .local _ .vmem, ⟨0, _⟩ => ⟨S512x2048, .f32⟩
  | .local _ .vmem, ⟨1, _⟩ => ⟨S512x2048, .f32⟩
  | .local _ .vmem, ⟨2, _⟩ => ⟨S1x1024, .f32⟩
  | .local _ .vmem, ⟨3, _⟩ => ⟨S1x512, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S512x1024, .bf16⟩
  | .local _ .vmem, ⟨12, _⟩ => ⟨S512x512, .bf16⟩
  | .local _ .vmem, ⟨13, _⟩ => ⟨S512x512, .bf16⟩
  | .local _ .vmem, ⟨14, _⟩ => ⟨S512x128, .bf16⟩
  | .local _ .vmem, ⟨15, _⟩ => ⟨S512x128, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22_0 : Ref sig .tc := ⟨.hbm, 30, rfl⟩
abbrev main_v22_1 : Ref sig .tc := ⟨.hbm, 31, rfl⟩
abbrev main_v22_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S8192x2048 : Shape := ⟨2, ![8192, 2048]⟩
abbrev S1024 : Shape := ⟨1, ![1024]⟩
abbrev S512 : Shape := ⟨1, ![512]⟩
abbrev S8192 : Shape := ⟨1, ![8192]⟩
abbrev S8192x1024 : Shape := ⟨2, ![8192, 1024]⟩
abbrev S_ : Shape := ⟨0, ![]⟩
abbrev S8192x1 : Shape := ⟨2, ![8192, 1]⟩
abbrev S1x1024 : Shape := ⟨2, ![1, 1024]⟩
abbrev S8192x512 : Shape := ⟨2, ![8192, 512]⟩
abbrev S1x512 : Shape := ⟨2, ![1, 512]⟩
abbrev S8192x64 : Shape := ⟨2, ![8192, 64]⟩
abbrev S8192x1x64 : Shape := ⟨3, ![8192, 1, 64]⟩
abbrev S32 : Shape := ⟨1, ![32]⟩
abbrev S1x32 : Shape := ⟨2, ![1, 32]⟩
abbrev S8192x32 : Shape := ⟨2, ![8192, 32]⟩
abbrev S8192x1x32 : Shape := ⟨3, ![8192, 1, 32]⟩
abbrev S8192x128 : Shape := ⟨2, ![8192, 128]⟩

abbrev nBuf : Space → Nat
  | .hbm => 74
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1024, .f32⟩
  | .hbm, ⟨2, _⟩ => ⟨S512, .f32⟩
  | .hbm, ⟨3, _⟩ => ⟨S8192, .i32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x512, .f32⟩
  | .hbm, ⟨23, _⟩ => ⟨S8192x512, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x512, .f32⟩
  | .hbm, ⟨35, _⟩ => ⟨S8192x512, .f32⟩
  | .hbm, ⟨36, _⟩ => ⟨S1x512, .f32⟩
  | .hbm, ⟨37, _⟩ => ⟨S8192x512, .f32⟩
  | .hbm, ⟨38, _⟩ => ⟨S8192x512, .f32⟩
  | .hbm, ⟨39, _⟩ => ⟨S8192x64, .f32⟩
  | .hbm, ⟨40, _⟩ => ⟨S8192x1x64, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S8192, .f32⟩
  | .hbm, ⟨50, _⟩ => ⟨S8192x1, .f32⟩
  | .hbm, ⟨51, _⟩ => ⟨S1x32, .f32⟩
  | .hbm, ⟨52, _⟩ => ⟨S8192x32, .f32⟩
  | .hbm, ⟨53, _⟩ => ⟨S8192x32, .f32⟩
  | .hbm, ⟨54, _⟩ => ⟨S8192x32, .f32⟩
  | .hbm, ⟨55, _⟩ => ⟨S8192x1x32, .f32⟩
  | .hbm, ⟨56, _⟩ => ⟨S8192x1x32, .f32⟩
  | .hbm, ⟨57, _⟩ => ⟨S8192x1x32, .f32⟩
  | .hbm, ⟨58, _⟩ => ⟨S8192x1x32, .f32⟩
  | .hbm, ⟨59, _⟩ => ⟨S8192x1x32, .f32⟩
  | .hbm, ⟨60, _⟩ => ⟨S8192x1x32, .f32⟩
  | .hbm, ⟨61, _⟩ => ⟨S8192x1x32, .f32⟩
  | .hbm, ⟨62, _⟩ => ⟨S8192x1x32, .f32⟩
  | .hbm, ⟨63, _⟩ => ⟨S8192x1x32, .f32⟩
  | .hbm, ⟨64, _⟩ => ⟨S8192x1x32, .f32⟩
  | .hbm, ⟨65, _⟩ => ⟨S8192x1x32, .f32⟩
  | .hbm, ⟨66, _⟩ => ⟨S8192x1x64, .f32⟩
  | .hbm, ⟨67, _⟩ => ⟨S8192x64, .f32⟩
  | .hbm, ⟨68, _⟩ => ⟨S_, .f32⟩
  | .hbm, ⟨69, _⟩ => ⟨S8192x64, .f32⟩
  | .hbm, ⟨70, _⟩ => ⟨S8192x128, .f32⟩
  | .hbm, ⟨71, _⟩ => ⟨S8192x1024, .bf16⟩
  | .hbm, ⟨72, _⟩ => ⟨S8192x512, .bf16⟩
  | .hbm, ⟨73, _⟩ => ⟨S8192x128, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_7 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩

abbrev nD : Nat := 1
abbrev τ : Topo := Topo.v7x

variable {F : FTy → Type} [FloatOps F]
-- ==== Proof.Mla.Online.lean ====
module
public import Idealize.ShloMosaic.PureOps.Ideal
@[expose] public section
/-! The online softmax of one query row over the extended reals: the running maximum, the running
sum of weights and the running weighted sum of values after the first `N` keys, and the step that
takes one tile of 512 keys. -/

noncomputable section
namespace Cert.Mla.Online
open Idealize.ShloMosaic

/-- The base-two exponential of the extended reals. -/
abbrev e2 : EReal → EReal := Ideal.exp2

theorem rpow_pos (r : ℝ) : 0 < Real.rpow 2 r := Real.rpow_pos_of_pos (by norm_num) r

theorem e2_nonneg (x : EReal) : 0 ≤ e2 x := by
  induction x with
  | bot => simp [e2]
  | top => simp [e2]
  | coe r => simp only [e2, Ideal.exp2_coe]; exact_mod_cast (rpow_pos r).le

theorem bot_sub' (x : EReal) : (⊥ : EReal) - x = ⊥ := by
  rw [sub_eq_add_neg]; exact EReal.bot_add _

theorem sub_top' (x : EReal) : x - (⊤ : EReal) = ⊥ := by
  rw [sub_eq_add_neg, EReal.neg_top]; exact EReal.add_bot _

theorem e2_sub_ne_top {m m' : EReal} (h : m ≤ m') : e2 (m - m') ≠ ⊤ := by
  induction m with
  | bot => rw [bot_sub']; simp [e2]
  | top => rw [top_le_iff.mp h, sub_top']; simp [e2]
  | coe a =>
    induction m' with
    | bot => exact absurd h (by simp)
    | top => rw [sub_top']; simp [e2]
    | coe b =>
      rw [← EReal.coe_sub]; simp only [e2, Ideal.exp2_coe]; exact EReal.coe_ne_top _

/-- Moving a weight from one maximum to a larger one. -/
theorem e2_shift {s m m' : EReal} (hs : s ≤ m) (h : m ≤ m') :
    e2 (m - m') * e2 (s - m) = e2 (s - m') := by
  induction s with
  | bot => rw [bot_sub', bot_sub']; simp [e2]
  | top =>
    have hm := top_le_iff.mp hs
    subst hm
    rw [top_le_iff.mp h, sub_top']; simp [e2]
  | coe c =>
    induction m with
    | bot => exact absurd hs (by simp)
    | top => rw [top_le_iff.mp h, sub_top', sub_top']; simp [e2]
    | coe a =>
      induction m' with
      | bot => exact absurd h (by simp)
      | top => rw [sub_top', sub_top']; simp [e2]
      | coe b =>
        rw [← EReal.coe_sub, ← EReal.coe_sub, ← EReal.coe_sub]
        simp only [e2, Ideal.exp2_coe]
        rw [← EReal.coe_mul]
        congr 1
        have := Real.rpow_add (by norm_num : (0 : ℝ) < 2) (a - b) (c - a)
        rw [show a - b + (c - a) = c - b by ring] at this
        exact this.symm

theorem mul_sum {ι : Type} [DecidableEq ι] (s : Finset ι) (f : ι → EReal) {x : EReal} (h0 : 0 ≤ x) (ht : x ≠ ⊤) :
    x * ∑ i ∈ s, f i = ∑ i ∈ s, x * f i := by
  induction s using Finset.induction_on with
  | empty => simp
  | insert a s ha ih =>
    rw [Finset.sum_insert ha, Finset.sum_insert ha, EReal.left_distrib_of_nonneg_of_ne_top h0 ht, ih]

/-- The keys below `N`, the others masked off. -/
def pm (ms : Fin 8192 → EReal) (N : ℕ) (c : Fin 8192) : EReal := if c.val < N then ms c else ⊥
/-- The maximum over the first `N` keys. -/
def MM (ms : Fin 8192 → EReal) (N : ℕ) : EReal := Finset.univ.fold max ⊥ (pm ms N)
/-- The sum of the weights of the first `N` keys. -/
def LL (ms : Fin 8192 → EReal) (N : ℕ) : EReal := ∑ c, e2 (pm ms N c - MM ms N)
/-- The weighted sum of the values of the first `N` keys. -/
def AA (ms vv : Fin 8192 → EReal) (N : ℕ) : EReal := ∑ c, e2 (pm ms N c - MM ms N) * vv c

theorem MM_zero (ms) : MM ms 0 = ⊥ := by
  have : pm ms 0 = fun _ => ⊥ := by funext c; simp [pm]
  unfold MM; rw [this]
  show Finset.univ.sup (fun _ : Fin 8192 => (⊥ : EReal)) = ⊥
  exact Finset.sup_bot _

theorem LL_zero (ms) : LL ms 0 = 0 := by
  have : pm ms 0 = fun _ => ⊥ := by funext c; simp [pm]
  unfold LL; rw [this]
  refine Finset.sum_eq_zero fun c _ => ?_
  rw [bot_sub']; simp [e2]

theorem AA_zero (ms vv) : AA ms vv 0 = 0 := by
  have : pm ms 0 = fun _ => ⊥ := by funext c; simp [pm]
  unfold AA; rw [this]
  refine Finset.sum_eq_zero fun c _ => ?_
  rw [bot_sub']; simp [e2]

theorem le_MM (ms N c) : pm ms N c ≤ MM ms N :=
  show _ ≤ Finset.univ.sup (pm ms N) from Finset.le_sup (f := pm ms N) (Finset.mem_univ c)

theorem MM_mono (ms) {N N' : ℕ} (h : N ≤ N') : MM ms N ≤ MM ms N' := by
  refine Finset.sup_le (f := pm ms N) fun c _ => ?_
  refine le_trans ?_ (le_MM ms N' c)
  unfold pm
  by_cases hc : c.val < N
  · rw [if_pos hc, if_pos (by omega)]
  · rw [if_neg hc]; exact bot_le

theorem MM_step (ms) (N : ℕ) (hN : N + 512 ≤ 8192) (t : Fin 512 → EReal)
    (ht : ∀ k : Fin 512, t k = ms ⟨N + k.val, by omega⟩) :
    MM ms (N + 512) = max (MM ms N) (Finset.univ.fold max ⊥ t) := by
  apply le_antisymm
  · refine Finset.sup_le (f := pm ms (N + 512)) fun c _ => ?_
    by_cases hc : c.val < N
    · refine le_trans ?_ (le_max_left _ _)
      refine le_trans (le_of_eq ?_) (le_MM ms N c)
      unfold pm; rw [if_pos hc, if_pos (by omega)]
    · by_cases hc' : c.val < N + 512
      · refine le_trans ?_ (le_max_right _ _)
        refine le_trans (le_of_eq ?_) (show t ⟨c.val - N, by omega⟩ ≤ Finset.univ.sup t from Finset.le_sup (Finset.mem_univ _))
        unfold pm; rw [if_pos hc', ht]; congr 1; ext; simp only; omega
      · unfold pm; rw [if_neg hc']; exact bot_le
  · refine max_le (MM_mono ms (by omega)) ?_
    refine Finset.sup_le (f := t) fun k _ => ?_
    refine le_trans (le_of_eq ?_) (le_MM ms (N + 512) ⟨N + k.val, by omega⟩)
    unfold pm; rw [if_pos (by simp only; omega), ht]

theorem sum_tile (N : ℕ) (hN : N + 512 ≤ 8192) (g : Fin 8192 → EReal) (t : Fin 512 → EReal)
    (ht : ∀ k : Fin 512, t k = g ⟨N + k.val, by omega⟩)
    (h0 : ∀ c : Fin 8192, ¬(N ≤ c.val ∧ c.val < N + 512) → g c = 0) : ∑ k, t k = ∑ c, g c := by
  refine Fintype.sum_of_injective (fun k : Fin 512 => (⟨N + k.val, by omega⟩ : Fin 8192)) ?_ t g ?_ ht
  · intro a b hab
    have := congrArg Fin.val hab
    simp only at this
    exact Fin.ext (by omega)
  · intro c hc
    refine h0 c fun h => hc ⟨⟨c.val - N, by omega⟩, ?_⟩
    ext; simp only; omega

theorem AA_step (ms vv) (N : ℕ) (hN : N + 512 ≤ 8192) (t v : Fin 512 → EReal)
    (ht : ∀ k : Fin 512, t k = ms ⟨N + k.val, by omega⟩)
    (hv : ∀ k : Fin 512, v k = vv ⟨N + k.val, by omega⟩) :
    AA ms vv (N + 512) = e2 (MM ms N - MM ms (N + 512)) * AA ms vv N
      + ∑ k, e2 (t k - MM ms (N + 512)) * v k := by
  have hle := MM_mono ms (show N ≤ N + 512 by omega)
  rw [sum_tile N hN (fun c => if N ≤ c.val ∧ c.val < N + 512 then e2 (pm ms (N + 512) c - MM ms (N + 512)) * vv c else 0)
    (fun k => e2 (t k - MM ms (N + 512)) * v k)
    (fun k => by rw [if_pos (by simp only; omega)]; unfold pm; rw [if_pos (by simp only; omega), ht, hv])
    (fun c hc => if_neg hc)]
  unfold AA
  rw [mul_sum _ _ (e2_nonneg _) (e2_sub_ne_top hle), ← Finset.sum_add_distrib]
  refine Finset.sum_congr rfl fun c _ => ?_
  rw [← mul_assoc, e2_shift (le_MM ms N c) hle]
  by_cases h1 : c.val < N
  · rw [if_neg (by omega), add_zero]; unfold pm; rw [if_pos h1, if_pos (by omega)]
  · rw [show pm ms N c = ⊥ from if_neg h1, bot_sub', show e2 ⊥ = 0 from rfl, zero_mul, zero_add]
    by_cases h2 : c.val < N + 512
    · rw [if_pos (by omega)]
    · rw [if_neg (by omega), show pm ms (N + 512) c = ⊥ from if_neg h2, bot_sub', show e2 ⊥ = 0 from rfl, zero_mul]

theorem LL_eq (ms N) : LL ms N = AA ms (fun _ => 1) N := by
  unfold LL AA; simp only [mul_one]

theorem LL_step (ms) (N : ℕ) (hN : N + 512 ≤ 8192) (t : Fin 512 → EReal)
    (ht : ∀ k : Fin 512, t k = ms ⟨N + k.val, by omega⟩) :
    LL ms (N + 512) = e2 (MM ms N - MM ms (N + 512)) * LL ms N + ∑ k, e2 (t k - MM ms (N + 512)) := by
  rw [LL_eq, LL_eq, AA_step ms _ N hN t (fun _ => 1) ht (fun _ => rfl)]
  simp only [mul_one]

/-- Past the last key that is not masked off, the masked keys are all the keys. -/
theorem pm_full (ms) (N : ℕ) (h : ∀ c : Fin 8192, N ≤ c.val → ms c = ⊥) : pm ms N = ms := by
  funext c; unfold pm
  by_cases hc : c.val < N
  · rw [if_pos hc]
  · rw [if_neg hc, h c (by omega)]

end Cert.Mla.Online
end
end
-- ==== Proof.Mla.Pay.lean ====
module

public import proofs.«01_k».proof.Proof.Gen.KernelIdeal.Frame.Runs
public import Idealize.ShloMosaic.Lib.VecWindow
public import Idealize.ShloMosaic.Lib.Pointwise
public import Idealize.ShloMosaic.PureOps.Ideal
public import proofs.«01_k».proof.Proof.Mla.Online

@[expose] public section

set_option maxRecDepth 16384

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

open Cert.Mla.Online

/-! The kernel's values per row of a query block: the masked scores, the running maximum, the sum and
the weighted sum, and what one tile of keys makes of them. -/

theorem mask_eq : (Named.named κ "mask" 0xF149F2CA#32 : Ideal .f32) = (⊥ : EReal) := rfl
theorem ninf_eq : (Ideal.ofBits FTy.f32 4286578688#32 : EReal) = ⊥ := by
  simp [Ideal.ofBits, Ideal.ieee]

theorem sge_sub (r c k : ℕ) (hr : r < 1024) (hc : c < 512) (hk : k ≤ 512) :
    IntOp.cmpi .sge (IntOp.subi (BitVec.ofNat 32 r) (BitVec.ofNat 32 c)) (BitVec.ofNat 32 k) = BitVec.ofBool (decide (c + k ≤ r)) := by
  rw [WordCmp.cmpi_sge_eq]
  congr 1
  apply decide_eq_decide.mpr
  rw [show IntOp.subi (BitVec.ofNat 32 r) (BitVec.ofNat 32 c) = BitVec.ofNat 32 r - BitVec.ofNat 32 c from rfl, BitVec.toInt_sub,
    WordCmp.toInt_ofNat_of_lt (w := 32) (by omega), WordCmp.toInt_ofNat_of_lt (w := 32) (by omega), WordCmp.toInt_ofNat_of_lt (w := 32) (by omega)]
  rw [Int.bmod_eq_of_le (by omega) (by omega)]
  omega

/-- The scale the kernel folds the base of its exponential into. -/
abbrev c2 : EReal := (Named.named κ "scale_log2" 1037384597#32 : Ideal .f32)

theorem ltkv (h : Fin 2) (x : Fin 128) : 256 * h.val + x.val < 512 := by omega
theorem ltq (x : Fin 128) : 128 + x.val < 256 := by omega
theorem lt8 {N c : ℕ} (hN : N + 512 ≤ 8192) (hc : c < 512) : N + c < 8192 := by omega

/-- The score of query row `r` against key `c` of one head. -/
def score (q : Vec Ideal S1024x256 .bf16) (KV : Vec Ideal S8192x512 .bf16) (KR : Vec Ideal S8192x128 .bf16)
    (h : Fin 2) (r : Fin 1024) (c : Fin 8192) : EReal :=
  ((∑ x : Fin 128, q (ix2 r ⟨x.val, by omega⟩) * KV (ix2 c ⟨256 * h.val + x.val, ltkv h x⟩)
    + ∑ x : Fin 128, q (ix2 r ⟨128 + x.val, ltq x⟩) * KR (ix2 c x)) : EReal) * c2

/-- The same, masked to the keys no later than the query (row `b + r` of the sequence). -/
def msc (q : Vec Ideal S1024x256 .bf16) (KV : Vec Ideal S8192x512 .bf16) (KR : Vec Ideal S8192x128 .bf16)
    (h : Fin 2) (b : ℕ) (r : Fin 1024) (c : Fin 8192) : EReal :=
  if c.val ≤ b + r.val then score q KV KR h r c else ⊥

/-- The values of one head, by key. -/
def vvc (KV : Vec Ideal S8192x512 .bf16) (h : Fin 2) (d : Fin 128) (c : Fin 8192) : EReal :=
  KV (ix2 c ⟨256 * h.val + 128 + d.val, by omega⟩)

section tile
variable (q : Vec Ideal S1024x256 .bf16) (KV : Vec Ideal S8192x512 .bf16) (KR : Vec Ideal S8192x128 .bf16)
  (h : Fin 2) (b N : ℕ) (hN : N + 512 ≤ 8192) (kr kn : Vec Ideal S512x128 .bf16)
  (hkr : ∀ (c : Fin 512) (x : Fin 128), kr (ix2 c x) = KR (ix2 ⟨N + c.val, lt8 hN c.isLt⟩ x))
  (hkn : ∀ (c : Fin 512) (x : Fin 128), kn (ix2 c x) = KV (ix2 ⟨N + c.val, lt8 hN c.isLt⟩ ⟨256 * h.val + x.val, ltkv h x⟩))
include hkr hkn

theorem sc_free (hb : N + 512 ≤ b) (r : Fin 1024) (c : Fin 512) :
    k0_pay3 (F := Ideal) q kr kn (ix2 r c) = msc q KV KR h b r ⟨N + c.val, lt8 hN c.isLt⟩ := by
  have e : k0_pay3 (F := Ideal) q kr kn (ix2 r c) = score q KV KR h r ⟨N + c.val, lt8 hN c.isLt⟩ := by
    unfold score
    pointwise [k0_pay3]
    simp only [hkr, hkn]
  rw [e]; unfold msc; rw [if_pos (by simp only; omega)]

theorem sc_diag0 (hb : N = b) (r : Fin 1024) (c : Fin 512) :
    k0_pay49 (F := Ideal) q kr kn (ix2 r c) = msc q KV KR h b r ⟨N + c.val, lt8 hN c.isLt⟩ := by
  have e : k0_pay49 (F := Ideal) q kr kn (ix2 r c) = Scalar.select (IntOp.cmpi .sge (IntOp.subi (BitVec.ofNat 32 ↑r) (BitVec.ofNat 32 ↑c)) 0#32) (score q KV KR h r ⟨N + c.val, lt8 hN c.isLt⟩) ⊥ := by
    unfold score
    rw [← mask_eq]
    pointwise [k0_pay49, k0_pay44]
    simp only [hkr, hkn]
  rw [e, show (0#32 : BitVec 32) = BitVec.ofNat 32 0 from rfl, sge_sub _ _ 0 r.isLt c.isLt (by omega)]; unfold msc
  by_cases hc : c.val ≤ r.val
  · rw [if_pos (by simp only; omega), decide_eq_true (by omega : c.val + 0 ≤ r.val)]; rfl
  · rw [if_neg (by simp only; omega), decide_eq_false (by omega : ¬ c.val + 0 ≤ r.val)]; rfl

theorem sc_diag1 (hb : N = b + 512) (r : Fin 1024) (c : Fin 512) :
    k0_pay66 (F := Ideal) q k0_pay44 kr kn (ix2 r c) = msc q KV KR h b r ⟨N + c.val, lt8 hN c.isLt⟩ := by
  have e : k0_pay66 (F := Ideal) q k0_pay44 kr kn (ix2 r c) = Scalar.select (IntOp.cmpi .sge (IntOp.subi (BitVec.ofNat 32 ↑r) (BitVec.ofNat 32 ↑c)) 512#32) (score q KV KR h r ⟨N + c.val, lt8 hN c.isLt⟩) ⊥ := by
    unfold score
    rw [← mask_eq]
    pointwise [k0_pay66, k0_pay44]
    simp only [hkr, hkn]
  rw [e, show (512#32 : BitVec 32) = BitVec.ofNat 32 512 from rfl, sge_sub _ _ 512 r.isLt c.isLt (by omega)]; unfold msc
  by_cases hc : c.val + 512 ≤ r.val
  · rw [if_pos (by simp only; omega), decide_eq_true hc]; rfl
  · rw [if_neg (by simp only; omega), decide_eq_false hc]; rfl
end tile

section upd
variable (ms : Fin 1024 → Fin 8192 → EReal) (N : ℕ) (hN : N + 512 ≤ 8192) (s : FVec Ideal S1024x512 .f32)
  (hs : ∀ (r : Fin 1024) (k : Fin 512), s (ix2 r k) = ms r ⟨N + k.val, lt8 hN k.isLt⟩)
  (m l a : Vec Ideal S1x1024x128 .f32) (hm : ∀ r x, m (ix3 0 r x) = MM (ms r) N)
include hs hm

theorem m_step (r : Fin 1024) (x : Fin 128) : k0_pay56 (F := Ideal) s m (ix3 0 r x) = MM (ms r) (N + 512) := by
  rw [MM_step (ms r) N hN (fun k => s (ix2 r k)) (hs r), ← hm r x]
  pointwise [k0_pay56, k0_pay51, k0_pay50]
  rw [ninf_eq]

theorem l_step (hl : ∀ r x, l (ix3 0 r x) = LL (ms r) N) (r : Fin 1024) (x : Fin 128) :
    k0_pay54 (F := Ideal) s m l (ix3 0 r x) = LL (ms r) (N + 512) := by
  rw [LL_step (ms r) N hN (fun k => s (ix2 r k)) (hs r), ← hl r x,
    MM_step (ms r) N hN (fun k => s (ix2 r k)) (hs r)]
  pointwise [k0_pay54, k0_pay53, k0_pay52, k0_pay51, k0_pay50]
  rw [ninf_eq]
  simp only [hm]
  simp only [dite_eq_ite, ite_self]
  rfl

theorem a_step (v : Vec Ideal S512x128 .bf16) (vv : Fin 128 → Fin 8192 → EReal) (hv : ∀ k x, v (ix2 k x) = vv x ⟨N + k.val, lt8 hN k.isLt⟩)
    (ha : ∀ r x, a (ix3 0 r x) = AA (ms r) (vv x) N) (r : Fin 1024) (x : Fin 128) :
    k0_pay55 (F := Ideal) v s m a (ix3 0 r x) = AA (ms r) (vv x) (N + 512) := by
  rw [AA_step (ms r) (vv x) N hN (fun k => s (ix2 r k)) (fun k => v (ix2 k x)) (hs r) (fun k => hv k x), ← ha r x,
    MM_step (ms r) N hN (fun k => s (ix2 r k)) (hs r)]
  pointwise [k0_pay55, k0_pay53, k0_pay52, k0_pay51, k0_pay50]
  rw [ninf_eq]
  simp only [hm, dite_eq_ite, ite_self]
  rfl
end upd

end Cert.KernelIdeal.Mla

end
-- ==== Proof.Mla.Reads.lean ====
module

public import proofs.«01_k».proof.Proof.Gen.KernelIdeal.Frame.Runs
public import Idealize.ShloMosaic.Lib.VecWindow
public import Idealize.ShloMosaic.Lib.Pointwise
public import Idealize.ShloMosaic.PureOps.Ideal
public import proofs.«01_k».proof.Proof.Mla.Pay

@[expose] public section

set_option maxRecDepth 16384

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

theorem trips_eq (i : grid0.Coords) : (k0_t1_loop i).trips = 2 * (i 1).val := by
  have h : ∀ q : Fin 8, (⟨0#32, Scalar.addi 0#32 (Scalar.muli (Scalar.divsi (Scalar.subi (Scalar.muli (BitVec.ofNat 32 q.val) 2#32) 0#32) 1#32) 1#32), 1#32⟩ : Scf.Loop 32).trips = 2 * q.val := by
    decide +kernel
  exact h (i 1)

theorem trips2_eq (i : grid0.Coords) : (k0_t2_loop i).trips = 0 := by
  have h : ∀ q : Fin 8, (⟨Scalar.addi 0#32 (Scalar.muli (Scalar.divsi (Scalar.subi (Scalar.muli (BitVec.ofNat 32 q.val) 2#32) 0#32) 1#32) 1#32), Scalar.addi 0#32 (Scalar.subi (Scalar.muli (BitVec.ofNat 32 q.val) 2#32) 0#32), 1#32⟩ : Scf.Loop 32).trips = 0 := by
    decide +kernel
  exact h (i 1)

theorem trip_lt (i : grid0.Coords) (k : Fin (k0_t1_loop i).trips) : k.val < 2 * (i 1).val := by
  exact lt_of_lt_of_eq k.isLt (trips_eq i)
theorem qi_lt (i : grid0.Coords) : (i 1).val < 8 := (i 1).isLt

theorem row_word (k : ℕ) (hk : k < 16) : (Scalar.indexCast (Scalar.muli (Scf.iv 0#32 1#32 k) 512#32) : Index).toNat = 512 * k := by
  have h : ∀ q : Fin 16, (Scalar.indexCast (Scalar.muli (Scf.iv 0#32 1#32 q.val) 512#32) : Index).toNat = 512 * q.val := by
    decide +kernel
  exact h ⟨k, hk⟩

theorem off1_eq (i) (k : Fin (k0_t1_loop i).trips) : k0_off1 i k = ![512 * k.val, 0] := by
  have := trip_lt i k; have := qi_lt i
  show ![(Scalar.indexCast (Scalar.muli (Scf.iv 0#32 1#32 k.val) 512#32) : Index).toNat, 0] = _
  rw [row_word _ (by omega)]
theorem off2_eq (i) (k : Fin (k0_t1_loop i).trips) : k0_off2 i k = ![512 * k.val, 0] := off1_eq i k
theorem off3_eq (i) (k : Fin (k0_t1_loop i).trips) : k0_off3 i k = ![512 * k.val, 128] := by
  have := trip_lt i k; have := qi_lt i
  show ![(Scalar.indexCast (Scalar.muli (Scf.iv 0#32 1#32 k.val) 512#32) : Index).toNat, 128] = _
  rw [row_word _ (by omega)]
theorem off4_eq (i) (k : Fin (k0_t1_loop i).trips) : k0_off4 i k = ![512 * k.val, 256] := by
  have := trip_lt i k; have := qi_lt i
  show ![(Scalar.indexCast (Scalar.muli (Scf.iv 0#32 1#32 k.val) 512#32) : Index).toNat, 256] = _
  rw [row_word _ (by omega)]
theorem off5_eq (i) (k : Fin (k0_t1_loop i).trips) : k0_off5 i k = ![512 * k.val, 384] := by
  have := trip_lt i k; have := qi_lt i
  show ![(Scalar.indexCast (Scalar.muli (Scf.iv 0#32 1#32 k.val) 512#32) : Index).toNat, 384] = _
  rw [row_word _ (by omega)]

theorem row_word2 (i : grid0.Coords) (d : Fin 2) : (Scalar.indexCast (Scalar.muli (Scalar.addi (Scalar.muli (BitVec.ofNat 32 (i 1).val) 2#32) (BitVec.ofNat 32 d.val)) 512#32) : Index).toNat = 1024 * (i 1).val + 512 * d.val := by
  have h : ∀ (q : Fin 8) (d : Fin 2), (Scalar.indexCast (Scalar.muli (Scalar.addi (Scalar.muli (BitVec.ofNat 32 q.val) 2#32) (BitVec.ofNat 32 d.val)) 512#32) : Index).toNat = 1024 * q.val + 512 * d.val := by
    decide +kernel
  exact h (i 1) d

theorem off11_eq (i) (d : Fin 2) : k0_off11 i (BitVec.ofNat 32 d.val) = ![1024 * (i 1).val + 512 * d.val, 0] := by
  rw [← row_word2]; rfl
theorem off12_eq (i) (d : Fin 2) : k0_off12 i (BitVec.ofNat 32 d.val) = ![1024 * (i 1).val + 512 * d.val, 0] := by
  rw [← row_word2]; rfl
theorem off13_eq (i) (d : Fin 2) : k0_off13 i (BitVec.ofNat 32 d.val) = ![1024 * (i 1).val + 512 * d.val, 128] := by
  rw [← row_word2]; rfl
theorem off14_eq (i) (d : Fin 2) : k0_off14 i (BitVec.ofNat 32 d.val) = ![1024 * (i 1).val + 512 * d.val, 256] := by
  rw [← row_word2]; rfl
theorem off15_eq (i) (d : Fin 2) : k0_off15 i (BitVec.ofNat 32 d.val) = ![1024 * (i 1).val + 512 * d.val, 384] := by
  rw [← row_word2]; rfl

/-- A load of 512 rows and 128 lanes, at an index. -/
theorem load_tile {W : ℕ} {e : EltTy} (v : View sig .tc .vmem ⟨2, ![8192, W]⟩ e) (f : v.ty.Contents (Elt Ideal)) {off : Fin 2 → ℕ}
    (inb : ∀ a, off a + S512x128.size a ≤ (⟨2, ![8192, W]⟩ : Shape).size a) (r0 l0 : ℕ) (h : off = ![r0, l0]) (c : Fin 512) (x : Fin 128)
    (hr : r0 + 512 ≤ 8192) (hl : l0 + 128 ≤ W) :
    v.readAt (Elt Ideal) (Rect.unit (s := ⟨2, ![8192, W]⟩) off S512x128.size inb).toLoadRect f (ix2 c x)
      = v.read (Elt Ideal) f (ix2 ⟨r0 + c.val, by omega⟩ ⟨l0 + x.val, by omega⟩) := by
  subst h
  refine congrArg (v.read (Elt Ideal) f) (funext fun a => Fin.ext ?_)
  match a with
  | ⟨0, _⟩ => show r0 + 1 * c.val = r0 + c.val; omega
  | ⟨1, _⟩ => show l0 + 1 * x.val = l0 + x.val; omega

/-- A load of one head's plane of a scratch buffer, at an index. -/
theorem load_plane (v : View sig .tc .vmem S2x1024x128 .f32) (f : v.ty.Contents (Elt Ideal)) {off : Fin 3 → ℕ}
    (inb : ∀ a, off a + S1x1024x128.size a ≤ S2x1024x128.size a) (h : Fin 2) (ho : off = ![h.val, 0, 0]) (r : Fin 1024) (x : Fin 128) :
    v.readAt (Elt Ideal) (Rect.unit (s := S2x1024x128) off S1x1024x128.size inb).toLoadRect f (ix3 0 r x)
      = v.read (Elt Ideal) f (ix3 h r x) := by
  subst ho
  refine congrArg (v.read (Elt Ideal) f) (funext fun a => Fin.ext ?_)
  match a with
  | ⟨0, _⟩ => show h.val + 1 * 0 = h.val; omega
  | ⟨1, _⟩ => show 0 + 1 * r.val = r.val; omega
  | ⟨2, _⟩ => show 0 + 1 * x.val = x.val; omega

/-- The two planes stored: the second over the first, whatever was there. -/
theorem two_put (v : View sig .tc .vmem S2x1024x128 .f32) (f : v.ty.Contents (Elt Ideal))
    (inb1 : ∀ a, ![1, 0, 0] a + S1x1024x128.size a ≤ S2x1024x128.size a) (inb0 : ∀ a, ![0, 0, 0] a + S1x1024x128.size a ≤ S2x1024x128.size a)
    (p1 p0 : Vec Ideal S1x1024x128 .f32) (L : List (View.Piece (Elt Ideal) S2x1024x128 .f32)) (spec : Vec Ideal S2x1024x128 .f32)
    (h0 : ∀ r x, p0 (ix3 0 r x) = spec (ix3 0 r x)) (h1 : ∀ r x, p1 (ix3 0 r x) = spec (ix3 1 r x)) :
    v.read (Elt Ideal) (v.writes (Elt Ideal) f (⟨Rect.unit (s := S2x1024x128) ![1, 0, 0] S1x1024x128.size inb1, p1⟩ :: ⟨Rect.unit (s := S2x1024x128) ![0, 0, 0] S1x1024x128.size inb0, p0⟩ :: L)) = spec := by
  funext y
  obtain ⟨h, r, x, rfl⟩ : ∃ h r x, y = ix3 h r x := ⟨y 0, y 1, y 2, by funext a; match a with | ⟨0, _⟩ => rfl | ⟨1, _⟩ => rfl | ⟨2, _⟩ => rfl⟩
  have hcase : h = 1 ∨ h = 0 := by omega
  rcases hcase with rfl | rfl
  · refine (View.read_writes_cons_unit_of_mem v f inb1 p1 _ (ix3 1 r x) (ix3 0 r x) rfl (fun a => by
      match a with
      | ⟨0, _⟩ => rfl
      | ⟨1, _⟩ => show r.val = 0 + r.val; omega
      | ⟨2, _⟩ => show x.val = 0 + x.val; omega)).trans ?_
    exact h1 r x
  · rw [View.read_writes_cons_put v f inb1 p1 _ rfl]
    unfold VecWindow.put
    rw [dif_neg (fun hh => absurd (show 1 ≤ 0 from (hh 0).1) (by omega))]
    refine (View.read_writes_cons_unit_of_mem v f inb0 p0 _ (ix3 0 r x) (ix3 0 r x) rfl (fun a => by
      match a with
      | ⟨0, _⟩ => rfl
      | ⟨1, _⟩ => show r.val = 0 + r.val; omega
      | ⟨2, _⟩ => show x.val = 0 + x.val; omega)).trans ?_
    exact h0 r x

end Cert.KernelIdeal.Mla

end
-- ==== Proof.Mla.Loop.lean ====
module

public import proofs.«01_k».proof.Proof.Gen.KernelIdeal.Frame.Runs
public import Idealize.ShloMosaic.Lib.VecWindow
public import Idealize.ShloMosaic.Lib.Pointwise
public import Idealize.ShloMosaic.PureOps.Ideal
public import proofs.«01_k».proof.Proof.Mla.Reads

@[expose] public section

set_option maxRecDepth 16384

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

open Cert.Mla.Online

/-! The running maximum, sum and weighted sum, as whole scratch buffers, and what one tile of keys
makes of them: the loop over the tiles left of the diagonal. -/

/-- The 512 rotary keys from row `N` on. -/
def krT (KR : Vec Ideal S8192x128 .bf16) (N : ℕ) : Vec Ideal S512x128 .bf16 :=
  fun y => KR (ix2 ⟨(N + (y 0).val) % 8192, Nat.mod_lt _ (by omega)⟩ (y 1))
/-- The 512 keys of one head from row `N` on. -/
def knT (KV : Vec Ideal S8192x512 .bf16) (h : Fin 2) (N : ℕ) : Vec Ideal S512x128 .bf16 :=
  fun y => KV (ix2 ⟨(N + (y 0).val) % 8192, Nat.mod_lt _ (by omega)⟩ ⟨256 * h.val + (y 1).val, by have : (y 1).val < 128 := (y 1).isLt; omega⟩)
/-- The 512 values of one head from row `N` on. -/
def vT (KV : Vec Ideal S8192x512 .bf16) (h : Fin 2) (N : ℕ) : Vec Ideal S512x128 .bf16 :=
  fun y => KV (ix2 ⟨(N + (y 0).val) % 8192, Nat.mod_lt _ (by omega)⟩ ⟨256 * h.val + 128 + (y 1).val, by have : (y 1).val < 128 := (y 1).isLt; omega⟩)
/-- One head's plane. -/
def plane (h : Fin 2) (m : Vec Ideal S2x1024x128 .f32) : Vec Ideal S1x1024x128 .f32 := fun y => m (ix3 h (y 1) (y 2))

def updM (s : Fin 2 → FVec Ideal S1024x512 .f32) (m : Vec Ideal S2x1024x128 .f32) : Vec Ideal S2x1024x128 .f32 :=
  fun y => k0_pay56 (F := Ideal) (s (y 0)) (plane (y 0) m) (ix3 0 (y 1) (y 2))
def updL (s : Fin 2 → FVec Ideal S1024x512 .f32) (m l : Vec Ideal S2x1024x128 .f32) : Vec Ideal S2x1024x128 .f32 :=
  fun y => k0_pay54 (F := Ideal) (s (y 0)) (plane (y 0) m) (plane (y 0) l) (ix3 0 (y 1) (y 2))
def updA (v : Fin 2 → Vec Ideal S512x128 .bf16) (s : Fin 2 → FVec Ideal S1024x512 .f32) (m a : Vec Ideal S2x1024x128 .f32) : Vec Ideal S2x1024x128 .f32 :=
  fun y => k0_pay55 (F := Ideal) (v (y 0)) (s (y 0)) (plane (y 0) m) (plane (y 0) a) (ix3 0 (y 1) (y 2))

/-- Maximum, sum and weighted sum. -/
structure St where
  m : Vec Ideal S2x1024x128 .f32
  l : Vec Ideal S2x1024x128 .f32
  a : Vec Ideal S2x1024x128 .f32

/-- One tile taken. -/
def St.upd (S : St) (s : Fin 2 → FVec Ideal S1024x512 .f32) (v : Fin 2 → Vec Ideal S512x128 .bf16) : St :=
  ⟨updM s S.m, updL s S.m S.l, updA v s S.m S.a⟩

/-- The scores of the tile from row `N` on, nothing masked. -/
def sFree (v18 v31 : FVec Ideal S1024x256 .bf16) (KV : Vec Ideal S8192x512 .bf16) (KR : Vec Ideal S8192x128 .bf16) (N : ℕ) (h : Fin 2) : FVec Ideal S1024x512 .f32 :=
  k0_pay3 (F := Ideal) (![v18, v31] h) (krT KR N) (knT KV h N)

/-- The state before tile `k`. -/
def tri (v18 v31 : FVec Ideal S1024x256 .bf16) (KV : Vec Ideal S8192x512 .bf16) (KR : Vec Ideal S8192x128 .bf16) (S0 : St) : ℕ → St
  | 0 => S0
  | k + 1 => (tri v18 v31 KV KR S0 k).upd (sFree v18 v31 KV KR (512 * k)) (fun h => vT KV h (512 * k))

theorem load_krT (v : View sig .tc .vmem S8192x128 .bf16) (f : v.ty.Contents (Elt Ideal)) {off : Fin 2 → ℕ}
    (inb : ∀ a, off a + S512x128.size a ≤ S8192x128.size a) (N : ℕ) (h : off = ![N, 0]) (hN : N + 512 ≤ 8192) :
    v.readAt (Elt Ideal) (Rect.unit (s := S8192x128) off S512x128.size inb).toLoadRect f = krT (v.read (Elt Ideal) f) N := by
  funext y
  rw [show y = ix2 (y 0) (y 1) from by funext a; match a with | ⟨0, _⟩ => rfl | ⟨1, _⟩ => rfl]
  refine (load_tile (W := 128) v f inb N 0 h (y 0) (y 1) hN (by omega)).trans ?_
  unfold krT
  refine congrArg (v.read (Elt Ideal) f) ?_
  funext a; apply Fin.ext
  have h0 : (y 0).val < 512 := (y 0).isLt
  match a with
  | ⟨0, _⟩ => show N + (y 0).val = (N + (y 0).val) % 8192; omega
  | ⟨1, _⟩ => show 0 + (y 1).val = (y 1).val; omega

theorem load_kvT (v : View sig .tc .vmem S8192x512 .bf16) (f : v.ty.Contents (Elt Ideal)) {off : Fin 2 → ℕ}
    (inb : ∀ a, off a + S512x128.size a ≤ S8192x512.size a) (N : ℕ) (l0 : ℕ) (hl : l0 + 128 ≤ 512) (h : off = ![N, l0]) (hN : N + 512 ≤ 8192) :
    v.readAt (Elt Ideal) (Rect.unit (s := S8192x512) off S512x128.size inb).toLoadRect f
      = fun y => v.read (Elt Ideal) f (ix2 ⟨(N + (y 0).val) % 8192, Nat.mod_lt _ (by omega)⟩ ⟨l0 + (y 1).val, by have : (y 1).val < 128 := (y 1).isLt; omega⟩) := by
  funext y
  rw [show y = ix2 (y 0) (y 1) from by funext a; match a with | ⟨0, _⟩ => rfl | ⟨1, _⟩ => rfl]
  refine (load_tile (W := 512) v f inb N l0 h (y 0) (y 1) hN hl).trans ?_
  refine congrArg (v.read (Elt Ideal) f) ?_
  funext a; apply Fin.ext
  have h0 : (y 0).val < 512 := (y 0).isLt
  match a with
  | ⟨0, _⟩ => show N + (y 0).val = (N + (y 0).val) % 8192; omega
  | ⟨1, _⟩ => rfl

theorem load_knT (v : View sig .tc .vmem S8192x512 .bf16) (f : v.ty.Contents (Elt Ideal)) {off : Fin 2 → ℕ}
    (inb : ∀ a, off a + S512x128.size a ≤ S8192x512.size a) (N : ℕ) (h : Fin 2) (ho : off = ![N, 256 * h.val]) (hN : N + 512 ≤ 8192) :
    v.readAt (Elt Ideal) (Rect.unit (s := S8192x512) off S512x128.size inb).toLoadRect f = knT (v.read (Elt Ideal) f) h N :=
  load_kvT v f inb N _ (by omega) ho hN

theorem load_vT (v : View sig .tc .vmem S8192x512 .bf16) (f : v.ty.Contents (Elt Ideal)) {off : Fin 2 → ℕ}
    (inb : ∀ a, off a + S512x128.size a ≤ S8192x512.size a) (N : ℕ) (h : Fin 2) (ho : off = ![N, 256 * h.val + 128]) (hN : N + 512 ≤ 8192) :
    v.readAt (Elt Ideal) (Rect.unit (s := S8192x512) off S512x128.size inb).toLoadRect f = vT (v.read (Elt Ideal) f) h N :=
  load_kvT v f inb N _ (by omega) ho hN

theorem load_plane' (v : View sig .tc .vmem S2x1024x128 .f32) (f : v.ty.Contents (Elt Ideal)) {off : Fin 3 → ℕ}
    (inb : ∀ a, off a + S1x1024x128.size a ≤ S2x1024x128.size a) (h : Fin 2) (ho : off = ![h.val, 0, 0]) :
    v.readAt (Elt Ideal) (Rect.unit (s := S2x1024x128) off S1x1024x128.size inb).toLoadRect f = plane h (v.read (Elt Ideal) f) := by
  funext y
  have e : y = ix3 0 (y 1) (y 2) := by
    funext a
    match a with
    | ⟨0, _⟩ => exact Subsingleton.elim (α := Fin 1) _ _
    | ⟨1, _⟩ => rfl
    | ⟨2, _⟩ => rfl
  rw [e]
  exact load_plane v f inb h ho (y 1) (y 2)

set_option maxHeartbeats 1000000 in
/-- One trip of the loop. -/
theorem trip (𝒱 : Variants) (c : Dev nD) (bd : Option 𝒱.V) (E : Set ℕ) (i : grid0.Coords) (arg2 : Memref sig .tc .vmem S1024x512 .f32) (harg2 : arg2.IsWhole) (arg3 : Memref sig .tc .vmem S8192x512 .bf16) (harg3 : arg3.IsWhole) (arg4 : Memref sig .tc .vmem S8192x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x256 .bf16) (harg8 : arg8.IsWhole) (arg9 : Memref sig .tc .vmem S2x1024x128 .f32) (harg9 : arg9.IsWhole) (arg10 : Memref sig .tc .vmem S2x1024x128 .f32) (harg10 : arg10.IsWhole) (arg11 : Memref sig .tc .vmem S2x1024x128 .f32) (harg11 : arg11.IsWhole) (arg1 : BitVec 32) (v18 : FVec Ideal S1024x256 .bf16) (v31 : FVec Ideal S1024x256 .bf16) (v36 : FVec Ideal S2x1024x128 .f32) (X_arg3 : BufTy.Contents (Elt Ideal) arg3.view.ty) (X_arg4 : BufTy.Contents (Elt Ideal) arg4.view.ty) (k : Fin (k0_t1_loop i).trips) (acc : BitVec 32)
    (f_arg9 : BufTy.Contents (Elt Ideal) arg9.view.ty) (f_arg10 : BufTy.Contents (Elt Ideal) arg10.view.ty) (f_arg11 : BufTy.Contents (Elt Ideal) arg11.view.ty) (S T : St)
    (h9 : arg9.view.read (Elt Ideal) f_arg9 = S.m) (h10 : arg10.view.read (Elt Ideal) f_arg10 = S.l) (h11 : arg11.view.read (Elt Ideal) f_arg11 = S.a)
    (hT : T = S.upd (sFree v18 v31 (arg3.view.read (Elt Ideal) X_arg3) (arg4.view.read (Elt Ideal) X_arg4) (512 * k.val)) (fun h => vT (arg3.view.read (Elt Ideal) X_arg3) h (512 * k.val))) :
      (iprop((arg3.view.loc (c : Thread nD τ) ↦[arg3.view.set]{fullShare} X_arg3) ∗ (arg4.view.loc (c : Thread nD τ) ↦[arg4.view.set]{fullShare} X_arg4) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11)) : sProp 𝕄)
      ⊢ wp frame (wpE (defs₀ (F := Ideal)) 𝒱 (c : Thread nD τ) bd) E (k0_t1_body (F := Ideal) i arg2 harg2 arg3 harg3 arg4 harg4 arg5 harg5 arg6 harg6 arg7 harg7 arg8 harg8 arg9 harg9 arg10 harg10 arg11 harg11 arg1 v18 v31 v36 k acc)
          (fun yld => iprop((arg3.view.loc (c : Thread nD τ) ↦[arg3.view.set]{fullShare} X_arg3) ∗ (arg4.view.loc (c : Thread nD τ) ↦[arg4.view.set]{fullShare} X_arg4)
             ∗ (∃ f, (arg9.view.loc (c : Thread nD τ) ↦[arg9.view.set]{fullShare} f) ∗ ⌜arg9.view.read (Elt Ideal) f = T.m⌝)
             ∗ (∃ f, (arg10.view.loc (c : Thread nD τ) ↦[arg10.view.set]{fullShare} f) ∗ ⌜arg10.view.read (Elt Ideal) f = T.l⌝)
             ∗ (∃ f, (arg11.view.loc (c : Thread nD τ) ↦[arg11.view.set]{fullShare} f) ∗ ⌜arg11.view.read (Elt Ideal) f = T.a⌝))) := by
    have hk := trip_lt i k
    have hq := qi_lt i
    have hN : 512 * k.val + 512 ≤ 8192 := by omega
    have e1 : arg4.view.readAt (Elt Ideal) (Rect.unit (s := S8192x128) (k0_off1 i k) S512x128.size (k0_off1_inb i k)).toLoadRect X_arg4 = krT (arg4.view.read (Elt Ideal) X_arg4) (512 * k.val) :=
      load_krT arg4.view X_arg4 _ _ (off1_eq i k) hN
    have e2 : arg3.view.readAt (Elt Ideal) (Rect.unit (s := S8192x512) (k0_off2 i k) S512x128.size (k0_off2_inb i k)).toLoadRect X_arg3 = knT (arg3.view.read (Elt Ideal) X_arg3) 0 (512 * k.val) :=
      load_knT arg3.view X_arg3 _ _ 0 (off2_eq i k) hN
    have e3 : arg3.view.readAt (Elt Ideal) (Rect.unit (s := S8192x512) (k0_off3 i k) S512x128.size (k0_off3_inb i k)).toLoadRect X_arg3 = vT (arg3.view.read (Elt Ideal) X_arg3) 0 (512 * k.val) :=
      load_vT arg3.view X_arg3 _ _ 0 (off3_eq i k) hN
    have e4 : arg3.view.readAt (Elt Ideal) (Rect.unit (s := S8192x512) (k0_off4 i k) S512x128.size (k0_off4_inb i k)).toLoadRect X_arg3 = knT (arg3.view.read (Elt Ideal) X_arg3) 1 (512 * k.val) :=
      load_knT arg3.view X_arg3 _ _ 1 (off4_eq i k) hN
    have e5 : arg3.view.readAt (Elt Ideal) (Rect.unit (s := S8192x512) (k0_off5 i k) S512x128.size (k0_off5_inb i k)).toLoadRect X_arg3 = vT (arg3.view.read (Elt Ideal) X_arg3) 1 (512 * k.val) :=
      load_vT arg3.view X_arg3 _ _ 1 (off5_eq i k) hN
    have p90 := load_plane' arg9.view f_arg9 (off := ![0, 0, 0]) inb_S2x1024x128_S1x1024x128_0_0_0 0 rfl
    have p91 := load_plane' arg9.view f_arg9 (off := ![1, 0, 0]) inb_S2x1024x128_S1x1024x128_1_0_0 1 rfl
    have p100 := load_plane' arg10.view f_arg10 (off := ![0, 0, 0]) inb_S2x1024x128_S1x1024x128_0_0_0 0 rfl
    have p101 := load_plane' arg10.view f_arg10 (off := ![1, 0, 0]) inb_S2x1024x128_S1x1024x128_1_0_0 1 rfl
    have p110 := load_plane' arg11.view f_arg11 (off := ![0, 0, 0]) inb_S2x1024x128_S1x1024x128_0_0_0 0 rfl
    have p111 := load_plane' arg11.view f_arg11 (off := ![1, 0, 0]) inb_S2x1024x128_S1x1024x128_1_0_0 1 rfl
    rw [h9] at p90 p91
    rw [h10] at p100 p101
    rw [h11] at p110 p111
    subst hT
    unfold k0_t1_body
    iintro ⟨HR_arg3, HR_arg4, HW_arg9, HW_arg10, HW_arg11⟩
    sl_exec
    sl_step
    isplitl [HR_arg3]; · iexact HR_arg3
    isplitl [HR_arg4]; · iexact HR_arg4
    isplitl [HW_arg9]
    · iexists _; isplitl [HW_arg9]; · iexact HW_arg9
      ipureintro
      refine two_put arg9.view _ _ _ _ _ [] _ (fun r x => ?_) (fun r x => ?_)
      · rfl
      · rfl
    isplitl [HW_arg10]
    · iexists _; isplitl [HW_arg10]; · iexact HW_arg10
      ipureintro
      refine two_put arg10.view _ _ _ _ _ [] _ (fun r x => ?_) (fun r x => ?_)
      · rfl
      · rfl
    iexists _; isplitl [HW_arg11]; · iexact HW_arg11
    ipureintro
    refine two_put arg11.view _ _ _ _ _ [] _ (fun r x => ?_) (fun r x => ?_)
    · rfl
    · rfl

end Cert.KernelIdeal.Mla

end
-- ==== Proof.Mla.Inv.lean ====
module

public import proofs.«01_k».proof.Proof.Gen.KernelIdeal.Frame.Runs
public import Idealize.ShloMosaic.Lib.VecWindow
public import Idealize.ShloMosaic.Lib.Pointwise
public import Idealize.ShloMosaic.PureOps.Ideal
public import proofs.«01_k».proof.Proof.Mla.Loop

@[expose] public section

set_option maxRecDepth 16384

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

open Cert.Mla.Online

/-! The whole body: the tiles left of the diagonal, then the two diagonal tiles, then the quotient. -/

/-- The contents of the three scratch buffers before trip `k`, from those at the loop's entry. -/
def FF (g0 : Memref sig .tc .vmem S2x1024x128 .f32) (hg0 : g0.IsWhole) (G : BufTy.Contents (Elt Ideal) g0.view.ty) (T : ℕ → Vec Ideal S2x1024x128 .f32) :
    ℕ → BufTy.Contents (Elt Ideal) g0.view.ty
  | 0 => G
  | k + 1 => hg0.unread (T (k + 1))

theorem read_FF (g0 : Memref sig .tc .vmem S2x1024x128 .f32) (hg0 : g0.IsWhole) (G : BufTy.Contents (Elt Ideal) g0.view.ty) (T : ℕ → Vec Ideal S2x1024x128 .f32)
    (h : T 0 = g0.view.read (Elt Ideal) G) (k : ℕ) : g0.view.read (Elt Ideal) (FF g0 hg0 G T k) = T k := by
  cases k with
  | zero => exact h.symm
  | succ k => exact hg0.read_unread _

set_option warn.classDefReducibility false in
set_option maxHeartbeats 1000000 in
/-- The first loop by its invariant. -/
@[sl_loop] def loopInv1 (𝒱 : Variants) (c : Dev nD) (bd : Option 𝒱.V) (E : Set ℕ) (i : grid0.Coords) (arg2 : Memref sig .tc .vmem S1024x512 .f32) (harg2 : arg2.IsWhole) (arg3 : Memref sig .tc .vmem S8192x512 .bf16) (harg3 : arg3.IsWhole) (arg4 : Memref sig .tc .vmem S8192x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x256 .bf16) (harg8 : arg8.IsWhole) (arg9 : Memref sig .tc .vmem S2x1024x128 .f32) (harg9 : arg9.IsWhole) (arg10 : Memref sig .tc .vmem S2x1024x128 .f32) (harg10 : arg10.IsWhole) (arg11 : Memref sig .tc .vmem S2x1024x128 .f32) (harg11 : arg11.IsWhole) (arg1 : BitVec 32) (v18 : FVec Ideal S1024x256 .bf16) (v31 : FVec Ideal S1024x256 .bf16) (v36 : FVec Ideal S2x1024x128 .f32) (X_arg3 : BufTy.Contents (Elt Ideal) arg3.view.ty) (X_arg4 : BufTy.Contents (Elt Ideal) arg4.view.ty)
    (G_arg9 : BufTy.Contents (Elt Ideal) arg9.view.ty) (G_arg10 : BufTy.Contents (Elt Ideal) arg10.view.ty) (G_arg11 : BufTy.Contents (Elt Ideal) arg11.view.ty) (init : BitVec 32) :
    LoopInvTy_k0_t1 (F := Ideal) Unit ℕ (UR sig nD τ) ℕ 𝒱 c bd E i arg2 harg2 arg3 harg3 arg4 harg4 arg5 harg5 arg6 harg6 arg7 harg7 arg8 harg8 arg9 harg9 arg10 harg10 arg11 harg11 arg1 v18 v31 v36 init where
  inv k acc := iprop((arg3.view.loc (c : Thread nD τ) ↦[arg3.view.set]{fullShare} X_arg3) ∗ (arg4.view.loc (c : Thread nD τ) ↦[arg4.view.set]{fullShare} X_arg4)
      ∗ (∃ f, (arg9.view.loc (c : Thread nD τ) ↦[arg9.view.set]{fullShare} f) ∗ ⌜f = FF arg9 harg9 G_arg9 (fun k => (tri v18 v31 (arg3.view.read (Elt Ideal) X_arg3) (arg4.view.read (Elt Ideal) X_arg4) ⟨arg9.view.read (Elt Ideal) G_arg9, arg10.view.read (Elt Ideal) G_arg10, arg11.view.read (Elt Ideal) G_arg11⟩ k).m) k⌝)
      ∗ (∃ f, (arg10.view.loc (c : Thread nD τ) ↦[arg10.view.set]{fullShare} f) ∗ ⌜f = FF arg10 harg10 G_arg10 (fun k => (tri v18 v31 (arg3.view.read (Elt Ideal) X_arg3) (arg4.view.read (Elt Ideal) X_arg4) ⟨arg9.view.read (Elt Ideal) G_arg9, arg10.view.read (Elt Ideal) G_arg10, arg11.view.read (Elt Ideal) G_arg11⟩ k).l) k⌝)
      ∗ (∃ f, (arg11.view.loc (c : Thread nD τ) ↦[arg11.view.set]{fullShare} f) ∗ ⌜f = FF arg11 harg11 G_arg11 (fun k => (tri v18 v31 (arg3.view.read (Elt Ideal) X_arg3) (arg4.view.read (Elt Ideal) X_arg4) ⟨arg9.view.read (Elt Ideal) G_arg9, arg10.view.read (Elt Ideal) G_arg10, arg11.view.read (Elt Ideal) G_arg11⟩ k).a) k⌝))
  step k acc := by
    iintro ⟨HR_arg3, HR_arg4, ⟨%f_arg9, HW_arg9, %h_arg9⟩, ⟨%f_arg10, HW_arg10, %h_arg10⟩, ⟨%f_arg11, HW_arg11, %h_arg11⟩⟩
    iapply (wp_wand_r Idealize.ShloMosaic.frame (wpE (defs₀ (F := Ideal)) 𝒱 (c : Thread nD τ) bd) E)
    isplitl [HR_arg3 HR_arg4 HW_arg9 HW_arg10 HW_arg11]
    · iapply (trip 𝒱 c bd E i arg2 harg2 arg3 harg3 arg4 harg4 arg5 harg5 arg6 harg6 arg7 harg7 arg8 harg8 arg9 harg9 arg10 harg10 arg11 harg11 arg1 v18 v31 v36 X_arg3 X_arg4 k acc f_arg9 f_arg10 f_arg11
        (tri v18 v31 (arg3.view.read (Elt Ideal) X_arg3) (arg4.view.read (Elt Ideal) X_arg4) ⟨arg9.view.read (Elt Ideal) G_arg9, arg10.view.read (Elt Ideal) G_arg10, arg11.view.read (Elt Ideal) G_arg11⟩ k)
        (tri v18 v31 (arg3.view.read (Elt Ideal) X_arg3) (arg4.view.read (Elt Ideal) X_arg4) ⟨arg9.view.read (Elt Ideal) G_arg9, arg10.view.read (Elt Ideal) G_arg10, arg11.view.read (Elt Ideal) G_arg11⟩ (k + 1))
        (by rw [h_arg9]; exact read_FF arg9 harg9 G_arg9 _ rfl k) (by rw [h_arg10]; exact read_FF arg10 harg10 G_arg10 _ rfl k) (by rw [h_arg11]; exact read_FF arg11 harg11 G_arg11 _ rfl k) rfl)
      isplitl [HR_arg3]; · iexact HR_arg3
      isplitl [HR_arg4]; · iexact HR_arg4
      isplitl [HW_arg9]; · iexact HW_arg9
      isplitl [HW_arg10]; · iexact HW_arg10
      iexact HW_arg11
    · iintro %yld ⟨HR_arg3, HR_arg4, ⟨%f9, HW_arg9, %h9⟩, ⟨%f10, HW_arg10, %h10⟩, ⟨%f11, HW_arg11, %h11⟩⟩
      isplitl [HR_arg3]; · iexact HR_arg3
      isplitl [HR_arg4]; · iexact HR_arg4
      isplitl [HW_arg9]
      · iexists _; isplitl [HW_arg9]; · iexact HW_arg9
        ipureintro; exact harg9.eq_unread h9
      isplitl [HW_arg10]
      · iexists _; isplitl [HW_arg10]; · iexact HW_arg10
        ipureintro; exact harg10.eq_unread h10
      iexists _; isplitl [HW_arg11]; · iexact HW_arg11
      ipureintro; exact harg11.eq_unread h11

set_option warn.classDefReducibility false in
/-- The second loop makes no trip. -/
@[sl_loop] def loopInv2 (𝒱 : Variants) (c : Dev nD) (bd : Option 𝒱.V) (E : Set ℕ) (i : grid0.Coords) (arg2 : Memref sig .tc .vmem S1024x512 .f32) (harg2 : arg2.IsWhole) (arg3 : Memref sig .tc .vmem S8192x512 .bf16) (harg3 : arg3.IsWhole) (arg4 : Memref sig .tc .vmem S8192x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x256 .bf16) (harg8 : arg8.IsWhole) (arg9 : Memref sig .tc .vmem S2x1024x128 .f32) (harg9 : arg9.IsWhole) (arg10 : Memref sig .tc .vmem S2x1024x128 .f32) (harg10 : arg10.IsWhole) (arg11 : Memref sig .tc .vmem S2x1024x128 .f32) (harg11 : arg11.IsWhole) (arg1 : BitVec 32) (v18 : FVec Ideal S1024x256 .bf16) (v31 : FVec Ideal S1024x256 .bf16) (v36 : FVec Ideal S2x1024x128 .f32) (v52 : BitVec 32) (init : BitVec 32) :
    LoopInvTy_k0_t2 (F := Ideal) Unit ℕ (UR sig nD τ) ℕ 𝒱 c bd E i arg2 harg2 arg3 harg3 arg4 harg4 arg5 harg5 arg6 harg6 arg7 harg7 arg8 harg8 arg9 harg9 arg10 harg10 arg11 harg11 arg1 v18 v31 v36 v52 init where
  inv k acc := iprop(emp)
  step k acc := absurd (lt_of_lt_of_eq k.isLt (trips2_eq i)) (by omega)

end Cert.KernelIdeal.Mla

end
-- ==== Proof.Mla.Body.lean ====
module

public import proofs.«01_k».proof.Proof.Gen.KernelIdeal.Frame.Runs
public import Idealize.ShloMosaic.Lib.VecWindow
public import Idealize.ShloMosaic.Lib.Pointwise
public import Idealize.ShloMosaic.PureOps.Ideal
public import Idealize.ShloMosaic.Lib.Pipeline.ReadBack
public import Idealize.ShloMosaic.Lib.Tactic.Stretches
public import proofs.«01_k».proof.Proof.Mla.Inv

@[expose] public section

set_option maxRecDepth 16384

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

open Cert.Mla.Online

/-! The whole body of one grid point: what it writes to its output block, from its input blocks. -/

/-- One head's 256 lanes of the query block. -/
def qwin (x0 : Vec Ideal S1024x512 .f32) (h : Fin 2) : Vec Ideal S1024x256 .f32 :=
  fun y => x0 (ix2 (y 0) ⟨256 * h.val + (y 1).val, by have : (y 1).val < 256 := (y 1).isLt; omega⟩)
/-- One head's query, its rotary part rotated. -/
def qrot (x0 : Vec Ideal S1024x512 .f32) (x3 x4 x5 : Vec Ideal S1024x128 .f32) (h : Fin 2) : FVec Ideal S1024x256 .bf16 :=
  (![k0_pay38 (F := Ideal) x3 x4 x5 (qwin x0 0), k0_pay39 (F := Ideal) x3 x4 x5 (qwin x0 1)] : Fin 2 → FVec Ideal S1024x256 .bf16) h
/-- Before any key. -/
def S00 : St := ⟨k0_pay40 (F := Ideal), k0_pay42 (F := Ideal) (k0_pay41 (F := Ideal)), k0_pay43 (F := Ideal)⟩
/-- After every tile left of the diagonal. -/
def stFree (q : Fin 2 → FVec Ideal S1024x256 .bf16) (x1 : Vec Ideal S8192x512 .bf16) (x2 : Vec Ideal S8192x128 .bf16) (b : ℕ) : St :=
  tri (q 0) (q 1) x1 x2 S00 (b / 512)
/-- After the two tiles on the diagonal. -/
def stEnd (q : Fin 2 → FVec Ideal S1024x256 .bf16) (x1 : Vec Ideal S8192x512 .bf16) (x2 : Vec Ideal S8192x128 .bf16) (b : ℕ) : St :=
  ((stFree q x1 x2 b).upd (fun h => k0_pay49 (F := Ideal) (q h) (krT x2 b) (knT x1 h b)) (fun h => vT x1 h b)).upd
    (fun h => k0_pay66 (F := Ideal) (q h) (k0_pay44) (krT x2 (b + 512)) (knT x1 h (b + 512))) (fun h => vT x1 h (b + 512))
/-- One head's quotient. -/
def outHead (S : St) (h : Fin 2) : FVec Ideal S1024x128 .bf16 := k0_pay2 (F := Ideal) (plane h S.a) (plane h S.l)
/-- The output block. -/
def outB (S : St) : Vec Ideal S1024x256 .bf16 := fun y =>
  outHead S ⟨(y 1).val / 128, by have : (y 1).val < 256 := (y 1).isLt; omega⟩ (ix2 (y 0) ⟨(y 1).val % 128, Nat.mod_lt _ (by omega)⟩)

theorem load_qwin (v : View sig .tc .vmem S1024x512 .f32) (f : v.ty.Contents (Elt Ideal)) {off : Fin 2 → ℕ}
    (inb : ∀ a, off a + S1024x256.size a ≤ S1024x512.size a) (h : Fin 2) (ho : off = ![0, 256 * h.val]) :
    v.readAt (Elt Ideal) (Rect.unit (s := S1024x512) off S1024x256.size inb).toLoadRect f = qwin (v.read (Elt Ideal) f) h := by
  subst ho
  funext y
  refine congrArg (v.read (Elt Ideal) f) (funext fun a => Fin.ext ?_)
  match a with
  | ⟨0, _⟩ => show 0 + 1 * (y 0).val = (y 0).val; omega
  | ⟨1, _⟩ => show 256 * h.val + 1 * (y 1).val = 256 * h.val + (y 1).val; omega

/-- A scratch buffer's plane loaded after the loop. -/
theorem load_FF (g : Memref sig .tc .vmem S2x1024x128 .f32) (hg : g.IsWhole) (G : BufTy.Contents (Elt Ideal) g.view.ty) (T : ℕ → Vec Ideal S2x1024x128 .f32)
    (hT : T 0 = g.view.read (Elt Ideal) G) {off : Fin 3 → ℕ} (inb : ∀ a, off a + S1x1024x128.size a ≤ S2x1024x128.size a) (h : Fin 2) (ho : off = ![h.val, 0, 0]) (n : ℕ)
    (U : Vec Ideal S2x1024x128 .f32) (hU : T n = U) :
    g.view.readAt (Elt Ideal) (Rect.unit (s := S2x1024x128) off S1x1024x128.size inb).toLoadRect (FF g hg G T n) = plane h U := by
  rw [load_plane' g.view _ inb h ho, read_FF g hg G T hT n, hU]

/-- A head's two halves of the output block stored. -/
theorem out_two (v : View sig .tc .vmem S1024x256 .bf16) (f : v.ty.Contents (Elt Ideal))
    (inb1 : ∀ a, ![0, 128] a + ![1024, 128] a ≤ S1024x256.size a) (inb0 : ∀ a, ![0, 0] a + ![1024, 128] a ≤ S1024x256.size a)
    (p1 p0 : Vec Ideal S1024x128 .bf16) (S : St) (h0 : p0 = outHead S 0) (h1 : p1 = outHead S 1) :
    v.read (Elt Ideal) (v.writes (Elt Ideal) f [⟨Rect.unit (s := S1024x256) ![0, 128] ![1024, 128] inb1, p1⟩, ⟨Rect.unit (s := S1024x256) ![0, 0] ![1024, 128] inb0, p0⟩]) = outB S := by
  subst h0 h1
  funext y
  have h256 : (y 1).val < 256 := (y 1).isLt
  have hr : (y 0).val < 1024 := (y 0).isLt
  by_cases h : (y 1).val < 128
  · refine (View.read_writes_cons_unit_of_not_mem v f inb1 _ _ y rfl 1 (Or.inl h)).trans ?_
    refine (View.read_writes_cons_unit_of_mem v f inb0 _ _ y (ix2 ⟨(y 0).val, hr⟩ ⟨(y 1).val, h⟩) rfl (fun a => by
      match a with
      | ⟨0, _⟩ => show (y 0).val = 0 + (y 0).val; omega
      | ⟨1, _⟩ => show (y 1).val = 0 + (y 1).val; omega)).trans ?_
    unfold outB
    have e : (⟨(y 1).val / 128, by omega⟩ : Fin 2) = 0 := Fin.ext (by show (y 1).val / 128 = 0; omega)
    have e' : (⟨(y 1).val % 128, Nat.mod_lt _ (by omega)⟩ : Fin 128) = ⟨(y 1).val, h⟩ := Fin.ext (by show (y 1).val % 128 = (y 1).val; omega)
    rw [e, e']; rfl
  · refine (View.read_writes_cons_unit_of_mem v f inb1 _ _ y (ix2 ⟨(y 0).val, hr⟩ ⟨(y 1).val - 128, by omega⟩) rfl (fun a => by
      match a with
      | ⟨0, _⟩ => show (y 0).val = 0 + (y 0).val; omega
      | ⟨1, _⟩ => show (y 1).val = 128 + ((y 1).val - 128); omega)).trans ?_
    unfold outB
    have e : (⟨(y 1).val / 128, by omega⟩ : Fin 2) = 1 := Fin.ext (by show (y 1).val / 128 = 1; omega)
    have e' : (⟨(y 1).val % 128, Nat.mod_lt _ (by omega)⟩ : Fin 128) = ⟨(y 1).val - 128, by omega⟩ := Fin.ext (by show (y 1).val % 128 = (y 1).val - 128; omega)
    rw [e, e']; rfl

theorem read_init (v : View sig .tc .vmem S2x1024x128 .f32) (f : v.ty.Contents (Elt Ideal)) (inb : ∀ a, ![0, 0, 0] a + S2x1024x128.size a ≤ S2x1024x128.size a) (w : Vec Ideal S2x1024x128 .f32) :
    v.read (Elt Ideal) (View.write (Elt Ideal) (v.slice (Rect.unit (s := S2x1024x128) ![0, 0, 0] ![2, 1024, 128] inb)) (v.writes (Elt Ideal) f []) w Finset.univ) = w :=
  View.read_writes_full v f inb w []

theorem cov_hit (v : View sig .tc .vmem S2x1024x128 .f32) {off : Fin 3 → ℕ} (inb inb' : ∀ a, off a + ![1, 1024, 128] a ≤ S2x1024x128.size a)
    (w : Vec Ideal S1x1024x128 .f32) (L : List (View.Piece (Elt Ideal) S2x1024x128 .f32)) :
    v.readCov (⟨Rect.unit (s := S2x1024x128) off ![1, 1024, 128] inb, w⟩ :: L) (Rect.unit (s := S2x1024x128) off ![1, 1024, 128] inb').toLoadRect = w := by
  funext j
  refine View.read_writes_cons_unit_of_mem v v.junk inb w L ((Rect.unit (s := S2x1024x128) off ![1, 1024, 128] inb').toLoadRect.idx j) j rfl (fun a => ?_)
  show off a + 1 * (j a).val = off a + (j a).val
  omega
theorem cov_skip0 (v : View sig .tc .vmem S2x1024x128 .f32) (inb : ∀ a, ![0, 0, 0] a + ![1, 1024, 128] a ≤ S2x1024x128.size a) (inb' : ∀ a, ![1, 0, 0] a + ![1, 1024, 128] a ≤ S2x1024x128.size a)
    (w : Vec Ideal S1x1024x128 .f32) (L : List (View.Piece (Elt Ideal) S2x1024x128 .f32)) :
    v.readCov (⟨Rect.unit (s := S2x1024x128) ![0, 0, 0] ![1, 1024, 128] inb, w⟩ :: L) (Rect.unit (s := S2x1024x128) ![1, 0, 0] ![1, 1024, 128] inb').toLoadRect
      = v.readCov L (Rect.unit (s := S2x1024x128) ![1, 0, 0] ![1, 1024, 128] inb').toLoadRect :=
  funext fun j => View.read_writes_cons_unit_of_not_mem v v.junk inb w L ((Rect.unit (s := S2x1024x128) ![1, 0, 0] ![1, 1024, 128] inb').toLoadRect.idx j) rfl 0 (by
    have hj : (j 0).val < 1 := (j 0).isLt
    right; show 0 + 1 ≤ 1 + 1 * (j 0).val; omega)
theorem cov_skip1 (v : View sig .tc .vmem S2x1024x128 .f32) (inb : ∀ a, ![0, 0, 0] a + ![1, 1024, 128] a ≤ S2x1024x128.size a) (inb' : ∀ a, ![1, 0, 0] a + ![1, 1024, 128] a ≤ S2x1024x128.size a)
    (w : Vec Ideal S1x1024x128 .f32) (L : List (View.Piece (Elt Ideal) S2x1024x128 .f32)) :
    v.readCov (⟨Rect.unit (s := S2x1024x128) ![1, 0, 0] ![1, 1024, 128] inb', w⟩ :: L) (Rect.unit (s := S2x1024x128) ![0, 0, 0] ![1, 1024, 128] inb).toLoadRect
      = v.readCov L (Rect.unit (s := S2x1024x128) ![0, 0, 0] ![1, 1024, 128] inb).toLoadRect :=
  funext fun j => View.read_writes_cons_unit_of_not_mem v v.junk inb' w L ((Rect.unit (s := S2x1024x128) ![0, 0, 0] ![1, 1024, 128] inb).toLoadRect.idx j) rfl 0 (by
    have hj : (j 0).val < 1 := (j 0).isLt
    left; show 0 + 1 * (j 0).val < 1; omega)

section
variable (q : FVec Ideal S1024x256 .bf16) (kr kn v : Vec Ideal S512x128 .bf16) (s : FVec Ideal S1024x512 .f32) (m l a : Vec Ideal S1x1024x128 .f32)
theorem e62 : k0_pay62 (F := Ideal) q k0_pay44 kr kn m l = k0_pay54 (k0_pay49 q kr kn) m l := rfl
theorem e65 : k0_pay65 (F := Ideal) (k0_pay59 q k0_pay44 kr kn m) = k0_pay56 (k0_pay49 q kr kn) m := rfl
theorem e64 : k0_pay64 (F := Ideal) (k0_pay63 q k0_pay44 kr kn v m a) = k0_pay55 v (k0_pay49 q kr kn) m a := rfl
theorem e72 : k0_pay72 (F := Ideal) (k0_pay69 q k0_pay44 kr kn m) (k0_pay70 q k0_pay44 kr kn m) (k0_pay71 l) = k0_pay54 (k0_pay66 q k0_pay44 kr kn) m l := rfl
theorem e73 : k0_pay73 (F := Ideal) v (k0_pay69 q k0_pay44 kr kn m) (k0_pay70 q k0_pay44 kr kn m) a = k0_pay55 v (k0_pay66 q k0_pay44 kr kn) m a := rfl
theorem e74 : k0_pay74 (F := Ideal) (k0_pay68 q k0_pay44 kr kn m) = k0_pay56 (k0_pay66 q k0_pay44 kr kn) m := rfl
theorem e75 : k0_pay75 (F := Ideal) q k0_pay44 kr kn = k0_pay66 q k0_pay44 kr kn := rfl
theorem e80 : k0_pay80 (F := Ideal) s (k0_pay76 m) l = k0_pay54 s m l := rfl
theorem e81 : k0_pay81 (F := Ideal) v s (k0_pay76 m) a = k0_pay55 v s m a := rfl
theorem e83 : k0_pay1 (F := Ideal) (k0_pay83 a) l = k0_pay2 a l := rfl
end

section
variable (S : St) (s : Fin 2 → FVec Ideal S1024x512 .f32) (v : Fin 2 → Vec Ideal S512x128 .bf16) (h : Fin 2)
theorem ix3_self (y : S1x1024x128.Idx) : ix3 0 (y 1) (y 2) = y := by
  funext a
  match a with
  | ⟨0, _⟩ => exact Subsingleton.elim (α := Fin 1) _ _
  | ⟨1, _⟩ => rfl
  | ⟨2, _⟩ => rfl
theorem plane_m : plane h (S.upd s v).m = k0_pay56 (F := Ideal) (s h) (plane h S.m) := by
  funext y; exact congrArg (k0_pay56 (F := Ideal) (s h) (plane h S.m)) (ix3_self y)
theorem plane_l : plane h (S.upd s v).l = k0_pay54 (F := Ideal) (s h) (plane h S.m) (plane h S.l) := by
  funext y; exact congrArg (k0_pay54 (F := Ideal) (s h) (plane h S.m) (plane h S.l)) (ix3_self y)
theorem plane_a : plane h (S.upd s v).a = k0_pay55 (F := Ideal) (v h) (s h) (plane h S.m) (plane h S.a) := by
  funext y; exact congrArg (k0_pay55 (F := Ideal) (v h) (s h) (plane h S.m) (plane h S.a)) (ix3_self y)
end

set_option maxHeartbeats 2000000 in
/-- The body's triple. -/
theorem body (c : Dev nD) (E : Set ℕ) (i : grid0.Coords) (arg2 : Memref sig .tc .vmem S1024x512 .f32) (harg2 : arg2.IsWhole) (arg3 : Memref sig .tc .vmem S8192x512 .bf16) (harg3 : arg3.IsWhole) (arg4 : Memref sig .tc .vmem S8192x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x256 .bf16) (harg8 : arg8.IsWhole) (arg9 : Memref sig .tc .vmem S2x1024x128 .f32) (harg9 : arg9.IsWhole) (arg10 : Memref sig .tc .vmem S2x1024x128 .f32) (harg10 : arg10.IsWhole) (arg11 : Memref sig .tc .vmem S2x1024x128 .f32) (harg11 : arg11.IsWhole)
    (x0 : Vec Ideal S1024x512 .f32) (x1 : Vec Ideal S8192x512 .bf16) (x2 : Vec Ideal S8192x128 .bf16) (x3 x4 x5 : Vec Ideal S1024x128 .f32)
    (K : PUnit → sProp 𝕄) :
    iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
      ∗ ((owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ owns (c : Thread nD τ) arg8 fullShare (outB (stEnd (qrot x0 x3 x4 x5) x1 x2 (1024 * (i 1).val))) ∗ (∃ d, owns (c : Thread nD τ) arg9 fullShare d) ∗ (∃ d, owns (c : Thread nD τ) arg10 fullShare d) ∗ (∃ d, owns (c : Thread nD τ) arg11 fullShare d)) -∗ K ⟨⟩))
    ⊢ wp frame (wpE (defs₀ (F := Ideal)) Variants.none (c : Thread nD τ) none) E (cc0_mla_attn_l1 (F := Ideal) i arg2 harg2 arg3 harg3 arg4 harg4 arg5 harg5 arg6 harg6 arg7 harg7 arg8 harg8 arg9 harg9 arg10 harg10 arg11 harg11) K := by
  simp only [cc0_mla_attn_l1_eq_skeleton]
  unfold cc0_mla_attn_l1_skel
  simp only [k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, %hf8, H8⟩, ⟨%d9, %f9, %hf9, H9⟩, ⟨%d10, %f10, %hf10, H10⟩, ⟨%d11, %f11, %hf11, H11⟩, Hk⟩
  sl_exec
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H8]
  · iexists _; isplitr [H8]; swap; · iexact H8
    ipureintro
    have hq := qi_lt i
    have kr0 : ∀ inb, arg4.view.readAt (Elt Ideal) (Rect.unit (s := S8192x128) (k0_off11 i 0#32) S512x128.size inb).toLoadRect f2 = krT x2 (1024 * (i 1).val) :=
      fun inb => (load_krT arg4.view f2 inb _ (off11_eq i 0) (by omega)).trans (by subst hf2; rfl)
    have kr1 : ∀ inb, arg4.view.readAt (Elt Ideal) (Rect.unit (s := S8192x128) (k0_off11 i 1#32) S512x128.size inb).toLoadRect f2 = krT x2 (1024 * (i 1).val + 512) :=
      fun inb => (load_krT arg4.view f2 inb _ (off11_eq i 1) (by show 1024 * (i 1).val + 512 * 1 + 512 ≤ 8192; omega)).trans (by subst hf2; rfl)
    have kn00 : ∀ inb, arg3.view.readAt (Elt Ideal) (Rect.unit (s := S8192x512) (k0_off12 i 0#32) S512x128.size inb).toLoadRect f1 = knT x1 0 (1024 * (i 1).val) :=
      fun inb => (load_knT arg3.view f1 inb _ 0 (off12_eq i 0) (by show 1024 * (i 1).val + 512 * 0 + 512 ≤ 8192; omega)).trans (by subst hf1; rfl)
    have kn01 : ∀ inb, arg3.view.readAt (Elt Ideal) (Rect.unit (s := S8192x512) (k0_off12 i 1#32) S512x128.size inb).toLoadRect f1 = knT x1 0 (1024 * (i 1).val + 512) :=
      fun inb => (load_knT arg3.view f1 inb _ 0 (off12_eq i 1) (by show 1024 * (i 1).val + 512 * 1 + 512 ≤ 8192; omega)).trans (by subst hf1; rfl)
    have vv00 : ∀ inb, arg3.view.readAt (Elt Ideal) (Rect.unit (s := S8192x512) (k0_off13 i 0#32) S512x128.size inb).toLoadRect f1 = vT x1 0 (1024 * (i 1).val) :=
      fun inb => (load_vT arg3.view f1 inb _ 0 (off13_eq i 0) (by show 1024 * (i 1).val + 512 * 0 + 512 ≤ 8192; omega)).trans (by subst hf1; rfl)
    have vv01 : ∀ inb, arg3.view.readAt (Elt Ideal) (Rect.unit (s := S8192x512) (k0_off13 i 1#32) S512x128.size inb).toLoadRect f1 = vT x1 0 (1024 * (i 1).val + 512) :=
      fun inb => (load_vT arg3.view f1 inb _ 0 (off13_eq i 1) (by show 1024 * (i 1).val + 512 * 1 + 512 ≤ 8192; omega)).trans (by subst hf1; rfl)
    have kn10 : ∀ inb, arg3.view.readAt (Elt Ideal) (Rect.unit (s := S8192x512) (k0_off14 i 0#32) S512x128.size inb).toLoadRect f1 = knT x1 1 (1024 * (i 1).val) :=
      fun inb => (load_knT arg3.view f1 inb _ 1 (off14_eq i 0) (by show 1024 * (i 1).val + 512 * 0 + 512 ≤ 8192; omega)).trans (by subst hf1; rfl)
    have kn11 : ∀ inb, arg3.view.readAt (Elt Ideal) (Rect.unit (s := S8192x512) (k0_off14 i 1#32) S512x128.size inb).toLoadRect f1 = knT x1 1 (1024 * (i 1).val + 512) :=
      fun inb => (load_knT arg3.view f1 inb _ 1 (off14_eq i 1) (by show 1024 * (i 1).val + 512 * 1 + 512 ≤ 8192; omega)).trans (by subst hf1; rfl)
    have vv10 : ∀ inb, arg3.view.readAt (Elt Ideal) (Rect.unit (s := S8192x512) (k0_off15 i 0#32) S512x128.size inb).toLoadRect f1 = vT x1 1 (1024 * (i 1).val) :=
      fun inb => (load_vT arg3.view f1 inb _ 1 (off15_eq i 0) (by show 1024 * (i 1).val + 512 * 0 + 512 ≤ 8192; omega)).trans (by subst hf1; rfl)
    have vv11 : ∀ inb, arg3.view.readAt (Elt Ideal) (Rect.unit (s := S8192x512) (k0_off15 i 1#32) S512x128.size inb).toLoadRect f1 = vT x1 1 (1024 * (i 1).val + 512) :=
      fun inb => (load_vT arg3.view f1 inb _ 1 (off15_eq i 1) (by show 1024 * (i 1).val + 512 * 1 + 512 ≤ 8192; omega)).trans (by subst hf1; rfl)
    have w0 : ∀ inb, arg2.view.readAt (Elt Ideal) (Rect.unit (s := S1024x512) ![0, 0] S1024x256.size inb).toLoadRect f0 = qwin x0 0 :=
      fun inb => (load_qwin arg2.view f0 inb 0 rfl).trans (by subst hf0; rfl)
    have w1 : ∀ inb, arg2.view.readAt (Elt Ideal) (Rect.unit (s := S1024x512) ![0, 256] S1024x256.size inb).toLoadRect f0 = qwin x0 1 :=
      fun inb => (load_qwin arg2.view f0 inb 1 rfl).trans (by subst hf0; rfl)
    have c3 : ∀ inb, arg5.view.readAt (Elt Ideal) (Rect.unit (s := S1024x128) ![0, 0] S1024x128.size inb).toLoadRect f3 = x3 := fun inb => (View.readAt_full _ _ _).trans hf3
    have c4 : ∀ inb, arg6.view.readAt (Elt Ideal) (Rect.unit (s := S1024x128) ![0, 0] S1024x128.size inb).toLoadRect f4 = x4 := fun inb => (View.readAt_full _ _ _).trans hf4
    have c5 : ∀ inb, arg7.view.readAt (Elt Ideal) (Rect.unit (s := S1024x128) ![0, 0] S1024x128.size inb).toLoadRect f5 = x5 := fun inb => (View.readAt_full _ _ _).trans hf5
    have htr : Scf.trips (k0_t1_loop i).lb (k0_t1_loop i).ub (k0_t1_loop i).st = 1024 * (i 1).val / 512 := (trips_eq i).trans (by omega)
    refine out_two _ _ _ _ _ _ _ ?_ ?_
    · sl_open_run
      simp only [kr0, kr1, kn00, kn01, kn10, kn11, vv00, vv01, vv10, vv11, w0, w1, c3, c4, c5, hf1, hf2, htr]
      simp only [↓cov_hit, ↓cov_skip0, ↓cov_skip1]
      rw [load_FF arg9 harg9 _ _ ?arg9a _ 0 ?arg9b _ (stFree (qrot x0 x3 x4 x5) x1 x2 (1024 * (i 1).val)).m ?arg9c]
      rw [load_FF arg10 harg10 _ _ ?arg10a _ 0 ?arg10b _ (stFree (qrot x0 x3 x4 x5) x1 x2 (1024 * (i 1).val)).l ?arg10c]
      rw [load_FF arg11 harg11 _ _ ?arg11a _ 0 ?arg11b _ (stFree (qrot x0 x3 x4 x5) x1 x2 (1024 * (i 1).val)).a ?arg11c]
      case arg9a => rfl
      case arg9b => rfl
      case arg9c => simp only [read_init]; rfl
      case arg10a => rfl
      case arg10b => rfl
      case arg10c => simp only [read_init]; rfl
      case arg11a => rfl
      case arg11b => rfl
      case arg11c => simp only [read_init]; rfl
      simp only [e62, e65, e64, e72, e73, e74, e75, e80, e81, e83, outHead, stEnd, plane_m, plane_l, plane_a]
      rfl
    · sl_open_run
      simp only [kr0, kr1, kn00, kn01, kn10, kn11, vv00, vv01, vv10, vv11, w0, w1, c3, c4, c5, hf1, hf2, htr]
      simp only [↓cov_hit, ↓cov_skip0, ↓cov_skip1]
      rw [load_FF arg9 harg9 _ _ ?arg9a _ 1 ?arg9b _ (stFree (qrot x0 x3 x4 x5) x1 x2 (1024 * (i 1).val)).m ?arg9c]
      rw [load_FF arg10 harg10 _ _ ?arg10a _ 1 ?arg10b _ (stFree (qrot x0 x3 x4 x5) x1 x2 (1024 * (i 1).val)).l ?arg10c]
      rw [load_FF arg11 harg11 _ _ ?arg11a _ 1 ?arg11b _ (stFree (qrot x0 x3 x4 x5) x1 x2 (1024 * (i 1).val)).a ?arg11c]
      case arg9a => rfl
      case arg9b => rfl
      case arg9c => simp only [read_init]; rfl
      case arg10a => rfl
      case arg10b => rfl
      case arg10c => simp only [read_init]; rfl
      case arg11a => rfl
      case arg11b => rfl
      case arg11c => simp only [read_init]; rfl
      simp only [e62, e65, e64, e72, e73, e74, e75, e80, e81, e83, outHead, stEnd, plane_m, plane_l, plane_a]
      rfl
  isplitl [H9]
  · iexists _, _; isplitr [H9]; swap; · iexact H9
    ipureintro; rfl
  isplitl [H10]
  · iexists _, _; isplitr [H10]; swap; · iexact H10
    ipureintro; rfl
  iexists _, _; isplitr [H11]; swap; · iexact H11
  ipureintro; rfl

end Cert.KernelIdeal.Mla

end
-- ==== Proof.Mla.Frame.lean ====
module

public import proofs.«01_k».proof.Proof.Gen.KernelIdeal.Frame.Runs
public import Idealize.ShloMosaic.Lib.VecWindow
public import Idealize.ShloMosaic.Lib.Pointwise
public import Idealize.ShloMosaic.PureOps.Ideal
public import Idealize.ShloMosaic.Lib.Claim
public import proofs.«01_k».proof.Proof.Mla.Body

@[expose] public section

set_option maxRecDepth 16384

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The output block at point `t`. -/
def outsAt (c : Dev nD) (t : Fin cfg0.N) : Vec Ideal S1024x256 .bf16 :=
  outB (stEnd (qrot (iblk m c 0 t) (iblk m c 3 t) (iblk m c 4 t) (iblk m c 5 t)) (iblk m c 1 t) (iblk m c 2 t) (1024 * (grid0.coords t 1).val))

/-! ## The pipeline's proof data -/

/-- The proof data: the arrays as the region finds them, each input's block, and the output block of `outsAt`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outsAt m c t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outsAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  unfold outsAt
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply (body c Set.univ (grid0.coords t) _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

set_option backward.isDefEq.respectTransparency.types false in
/-- The run of the whole program, every semaphore counter at zero at its end. -/
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run's final arrays. -/
theorem run_main : θ_run defs (onTc (τ := τ) (main (F := Ideal))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The arguments end unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Mla

end
-- ==== Proof.Mla.State.lean ====
module

public import proofs.«01_k».proof.Proof.Gen.KernelIdeal.Frame.Runs
public import Idealize.ShloMosaic.Lib.VecWindow
public import Idealize.ShloMosaic.Lib.Pointwise
public import Idealize.ShloMosaic.PureOps.Ideal
public import proofs.«01_k».proof.Proof.Mla.Body

@[expose] public section

set_option maxRecDepth 16384

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

open Cert.Mla.Online

/-! The state after the two diagonal tiles is the plain softmax over every key. -/

section
variable (q : Fin 2 → FVec Ideal S1024x256 .bf16) (KV : Vec Ideal S8192x512 .bf16) (KR : Vec Ideal S8192x128 .bf16) (b : ℕ)

/-- The state holds the maximum, the sum and the weighted sum over the first `N` keys. -/
def Good (N : ℕ) (S : St) : Prop :=
  (∀ (h : Fin 2) (r : Fin 1024) (x : Fin 128), S.m (ix3 h r x) = MM (msc (q h) KV KR h b r) N)
  ∧ (∀ (h : Fin 2) (r : Fin 1024) (x : Fin 128), S.l (ix3 h r x) = LL (msc (q h) KV KR h b r) N)
  ∧ (∀ (h : Fin 2) (r : Fin 1024) (x : Fin 128), S.a (ix3 h r x) = AA (msc (q h) KV KR h b r) (vvc KV h x) N)

theorem good_zero : Good q KV KR b 0 S00 := by
  refine ⟨fun h r x => ?_, fun h r x => ?_, fun h r x => ?_⟩
  · rw [MM_zero]; exact mask_eq
  · rw [LL_zero]
    show (Ideal.ofBits FTy.f32 0#32 : EReal) = 0
    exact Ideal.ofBits_zero FTy.f32
  · rw [AA_zero]
    show (Ideal.ofBits FTy.f32 0#32 : EReal) = 0
    exact Ideal.ofBits_zero FTy.f32

theorem good_upd (N : ℕ) (hN : N + 512 ≤ 8192) (S : St) (hS : Good q KV KR b N S) (s : Fin 2 → FVec Ideal S1024x512 .f32) (v : Fin 2 → Vec Ideal S512x128 .bf16)
    (hs : ∀ (h : Fin 2) (r : Fin 1024) (k : Fin 512), s h (ix2 r k) = msc (q h) KV KR h b r ⟨N + k.val, by omega⟩)
    (hv : ∀ (h : Fin 2) (k : Fin 512) (x : Fin 128), v h (ix2 k x) = vvc KV h x ⟨N + k.val, by omega⟩) :
    Good q KV KR b (N + 512) (S.upd s v) := by
  obtain ⟨hm, hl, ha⟩ := hS
  refine ⟨fun h r x => ?_, fun h r x => ?_, fun h r x => ?_⟩
  · exact m_step (msc (q h) KV KR h b) N hN (s h) (hs h) (plane h S.m) (fun r x => hm h r x) r x
  · exact l_step (msc (q h) KV KR h b) N hN (s h) (hs h) (plane h S.m) (plane h S.l) (fun r x => hm h r x) (fun r x => hl h r x) r x
  · exact a_step (msc (q h) KV KR h b) N hN (s h) (hs h) (plane h S.m) (plane h S.a) (fun r x => hm h r x) (v h) (vvc KV h) (hv h) (fun r x => ha h r x) r x

theorem krT_at (N : ℕ) (hN : N + 512 ≤ 8192) (c : Fin 512) (x : Fin 128) : krT KR N (ix2 c x) = KR (ix2 ⟨N + c.val, by omega⟩ x) := by
  have e : (⟨(N + c.val) % 8192, Nat.mod_lt _ (by omega)⟩ : Fin 8192) = ⟨N + c.val, by omega⟩ := Fin.ext (Nat.mod_eq_of_lt (by omega))
  exact congrArg (fun z : Fin 8192 => KR (ix2 z x)) e
theorem knT_at (h : Fin 2) (N : ℕ) (hN : N + 512 ≤ 8192) (c : Fin 512) (x : Fin 128) : knT KV h N (ix2 c x) = KV (ix2 ⟨N + c.val, by omega⟩ ⟨256 * h.val + x.val, by omega⟩) := by
  have e : (⟨(N + c.val) % 8192, Nat.mod_lt _ (by omega)⟩ : Fin 8192) = ⟨N + c.val, by omega⟩ := Fin.ext (Nat.mod_eq_of_lt (by omega))
  exact congrArg (fun z : Fin 8192 => KV (ix2 z ⟨256 * h.val + x.val, by omega⟩)) e
theorem vT_at (h : Fin 2) (N : ℕ) (hN : N + 512 ≤ 8192) (c : Fin 512) (x : Fin 128) : vT KV h N (ix2 c x) = vvc KV h x ⟨N + c.val, by omega⟩ := by
  have e : (⟨(N + c.val) % 8192, Nat.mod_lt _ (by omega)⟩ : Fin 8192) = ⟨N + c.val, by omega⟩ := Fin.ext (Nat.mod_eq_of_lt (by omega))
  exact congrArg (fun z : Fin 8192 => KV (ix2 z ⟨256 * h.val + 128 + x.val, by omega⟩)) e

theorem good_tri (hb : b + 1024 ≤ 8192) : ∀ k : ℕ, 512 * k ≤ b → Good q KV KR b (512 * k) (tri (q 0) (q 1) KV KR S00 k)
  | 0, _ => good_zero q KV KR b
  | k + 1, hk => by
    have := good_tri hb k (by omega)
    rw [show 512 * (k + 1) = 512 * k + 512 from by ring]
    refine good_upd q KV KR b (512 * k) (by omega) _ this _ _ (fun h r c => ?_) (fun h c x => vT_at KV h _ (by omega) c x)
    have hq : (![q 0, q 1] : Fin 2 → FVec Ideal S1024x256 .bf16) h = q h := by
      match h with
      | ⟨0, _⟩ => rfl
      | ⟨1, _⟩ => rfl
    unfold sFree
    rw [hq]
    exact sc_free (q h) KV KR h b (512 * k) (by omega) _ _ (krT_at KR _ (by omega)) (knT_at KV h _ (by omega)) (by omega) r c

theorem good_end (hb : b + 1024 ≤ 8192) (hd : 512 * (b / 512) = b) : Good q KV KR b (b + 1024) (stEnd q KV KR b) := by
  have h0 := good_tri q KV KR b hb (b / 512) (by omega)
  rw [hd] at h0
  have h1 := good_upd q KV KR b b (by omega) _ h0 (fun h => k0_pay49 (F := Ideal) (q h) (krT KR b) (knT KV h b)) (fun h => vT KV h b)
    (fun h r c => sc_diag0 (q h) KV KR h b b (by omega) _ _ (krT_at KR _ (by omega)) (knT_at KV h _ (by omega)) rfl r c) (fun h c x => vT_at KV h _ (by omega) c x)
  exact good_upd q KV KR b (b + 512) (by omega) _ h1 (fun h => k0_pay66 (F := Ideal) (q h) k0_pay44 (krT KR (b + 512)) (knT KV h (b + 512))) (fun h => vT KV h (b + 512))
    (fun h r c => sc_diag1 (q h) KV KR h b (b + 512) (by omega) _ _ (krT_at KR _ (by omega)) (knT_at KV h _ (by omega)) rfl r c) (fun h c x => vT_at KV h _ (by omega) c x)

/-- The output block at an index: the quotient of the two sums over every key. -/
theorem out_at (hb : b + 1024 ≤ 8192) (hd : 512 * (b / 512) = b) (h : Fin 2) (r : Fin 1024) (x : Fin 128) :
    outB (stEnd q KV KR b) (ix2 r ⟨128 * h.val + x.val, by omega⟩)
      = Ideal.div (∑ c, e2 (msc (q h) KV KR h b r c - Finset.univ.fold max ⊥ (msc (q h) KV KR h b r)) * vvc KV h x c)
          (∑ c, e2 (msc (q h) KV KR h b r c - Finset.univ.fold max ⊥ (msc (q h) KV KR h b r))) := by
  obtain ⟨hm, hl, ha⟩ := good_end q KV KR b hb hd
  have hp : pm (msc (q h) KV KR h b r) (b + 1024) = msc (q h) KV KR h b r := pm_full _ _ fun c hc => by
    unfold msc; rw [if_neg (by omega)]
  have e : outB (stEnd q KV KR b) (ix2 r ⟨128 * h.val + x.val, by omega⟩) = outHead (stEnd q KV KR b) h (ix2 r x) := by
    unfold outB
    have e1 : (⟨(128 * h.val + x.val) / 128, by omega⟩ : Fin 2) = h := Fin.ext (by show (128 * h.val + x.val) / 128 = h.val; omega)
    have e2 : (⟨(128 * h.val + x.val) % 128, Nat.mod_lt _ (by omega)⟩ : Fin 128) = x := Fin.ext (by show (128 * h.val + x.val) % 128 = x.val; omega)
    show outHead _ (⟨(128 * h.val + x.val) / 128, by omega⟩ : Fin 2) (ix2 r (⟨(128 * h.val + x.val) % 128, Nat.mod_lt _ (by omega)⟩ : Fin 128)) = _
    rw [e1, e2]
  have e' : outHead (stEnd q KV KR b) h (ix2 r x) = Ideal.div ((stEnd q KV KR b).a (ix3 h r x)) ((stEnd q KV KR b).l (ix3 h r x)) := by
    unfold outHead
    generalize stEnd q KV KR b = S
    pointwise [k0_pay2]
    rfl
  rw [e, e', ha h r x, hl h r x]
  unfold AA LL MM
  rw [hp]
end

end Cert.KernelIdeal.Mla

end
-- ==== Proof.Mla.Value.lean ====
module

public import proofs.«01_k».proof.Proof.Gen.KernelIdeal.Frame.Runs
public import Idealize.ShloMosaic.Lib.VecWindow
public import Idealize.ShloMosaic.Lib.Pointwise
public import Idealize.ShloMosaic.PureOps.Ideal
public import Idealize.ShloMosaic.Lib.Claim
public import proofs.«01_k».proof.Proof.Mla.Frame
public import proofs.«01_k».proof.Proof.Mla.State
public import Idealize.ShloMosaic.Lib.Pipeline.ValueKit

@[expose] public section

set_option maxRecDepth 16384

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ
open Cert.Mla.Online

/-! ## The rotated query at its columns -/

section rotated
variable (x3 x4 x5 : Vec Ideal S1024x128 .f32) (v : Vec Ideal S1024x256 .f32) (r : Fin 1024) (x : Fin 128)

theorem lt256 : x.val < 256 := by omega
theorem rotlt (n : ℕ) : 128 + (x.val + n) % 128 < 256 := by have := Nat.mod_lt (x.val + n) (show 0 < 128 by decide); omega

theorem rot0_lo : k0_pay38 (F := Ideal) x3 x4 x5 v (ix2 r ⟨x.val, lt256 x⟩) = v (ix2 r ⟨x.val, lt256 x⟩) := by
  pointwise [k0_pay38, k0_pay35, k0_pay36, k0_pay37]
theorem rot1_lo : k0_pay39 (F := Ideal) x3 x4 x5 v (ix2 r ⟨x.val, lt256 x⟩) = v (ix2 r ⟨x.val, lt256 x⟩) := by
  pointwise [k0_pay39, k0_pay35, k0_pay36, k0_pay37]
theorem rot0_hi : k0_pay38 (F := Ideal) x3 x4 x5 v (ix2 r ⟨128 + x.val, ltq x⟩)
      = (v (ix2 r ⟨128 + x.val, ltq x⟩) * x3 (ix2 r x) + v (ix2 r ⟨128 + (x.val + 96) % 128, rotlt x 96⟩) * x4 (ix2 r x)
        + v (ix2 r ⟨128 + (x.val + 32) % 128, rotlt x 32⟩) * x5 (ix2 r x) : EReal) := by
  pointwise [k0_pay38, k0_pay35, k0_pay36, k0_pay37]
  rfl
theorem rot1_hi : k0_pay39 (F := Ideal) x3 x4 x5 v (ix2 r ⟨128 + x.val, ltq x⟩)
      = (v (ix2 r ⟨128 + x.val, ltq x⟩) * x3 (ix2 r x) + v (ix2 r ⟨128 + (x.val + 96) % 128, rotlt x 96⟩) * x4 (ix2 r x)
        + v (ix2 r ⟨128 + (x.val + 32) % 128, rotlt x 32⟩) * x5 (ix2 r x) : EReal) := by
  pointwise [k0_pay39, k0_pay35, k0_pay36, k0_pay37]
  rfl

theorem qrot_lo (x0 : Vec Ideal S1024x512 .f32) (h : Fin 2) :
    qrot x0 x3 x4 x5 h (ix2 r ⟨x.val, lt256 x⟩) = qwin x0 h (ix2 r ⟨x.val, lt256 x⟩) := by
  match h with
  | 0 => exact rot0_lo x3 x4 x5 (qwin x0 0) r x
  | 1 => exact rot1_lo x3 x4 x5 (qwin x0 1) r x
theorem qrot_hi (x0 : Vec Ideal S1024x512 .f32) (h : Fin 2) :
    qrot x0 x3 x4 x5 h (ix2 r ⟨128 + x.val, ltq x⟩)
      = (qwin x0 h (ix2 r ⟨128 + x.val, ltq x⟩) * x3 (ix2 r x) + qwin x0 h (ix2 r ⟨128 + (x.val + 96) % 128, rotlt x 96⟩) * x4 (ix2 r x)
        + qwin x0 h (ix2 r ⟨128 + (x.val + 32) % 128, rotlt x 32⟩) * x5 (ix2 r x) : EReal) := by
  match h with
  | 0 => exact rot0_hi x3 x4 x5 (qwin x0 0) r x
  | 1 => exact rot1_hi x3 x4 x5 (qwin x0 1) r x
end rotated

/-! ## The attention over the whole arrays -/

/-- Column `x` of head `hd`, a head being 256 columns wide. -/
def col (hd : Fin 32) (x : Fin 256) : Fin 8192 := ⟨256 * hd.val + x.val, by omega⟩
/-- The head a column of the output belongs to. -/
def headOf (j : Fin 4096) : Fin 32 := ⟨j.val / 128, by omega⟩
/-- The place of an output column within its head. -/
def laneOf (j : Fin 4096) : Fin 128 := ⟨j.val % 128, by omega⟩

section whole
variable (Q : Vec Ideal S8192x8192 .f32) (KV : Vec Ideal S8192x8192 .bf16) (KR : Vec Ideal S8192x128 .bf16)
  (C U D : Vec Ideal S8192x128 .f32)

/-- The rotary part of a query row against the three tables. -/
def rotv (s : Fin 8192) (hd : Fin 32) (x : Fin 128) : EReal :=
  Q (ix2 s (col hd ⟨128 + x.val, ltq x⟩)) * C (ix2 s x) + Q (ix2 s (col hd ⟨128 + (x.val + 96) % 128, rotlt x 96⟩)) * U (ix2 s x)
    + Q (ix2 s (col hd ⟨128 + (x.val + 32) % 128, rotlt x 32⟩)) * D (ix2 s x)
/-- Query row `s` against key `k`, in base two. -/
def sc2 (s : Fin 8192) (hd : Fin 32) (k : Fin 8192) : EReal :=
  ((∑ x : Fin 128, Q (ix2 s (col hd ⟨x.val, lt256 x⟩)) * KV (ix2 k (col hd ⟨x.val, lt256 x⟩)) + ∑ x : Fin 128, rotv Q C U D s hd x * KR (ix2 k x)) : EReal) * c2
/-- The same, the keys after the row left out. -/
def ms2 (s : Fin 8192) (hd : Fin 32) (k : Fin 8192) : EReal := if k.val ≤ s.val then sc2 Q KV KR C U D s hd k else ⊥
/-- The attention's result at row `s`, head `hd`, lane `x`. -/
def att (s : Fin 8192) (hd : Fin 32) (x : Fin 128) : EReal :=
  Ideal.div (∑ k : Fin 8192, e2 (ms2 Q KV KR C U D s hd k - Finset.univ.fold max ⊥ (ms2 Q KV KR C U D s hd)) * KV (ix2 k (col hd ⟨128 + x.val, ltq x⟩)))
    (∑ k : Fin 8192, e2 (ms2 Q KV KR C U D s hd k - Finset.univ.fold max ⊥ (ms2 Q KV KR C U D s hd)))
end whole

/-! ## Blocks -/

theorem coords_val : ∀ t : Fin cfg0.N, (grid0.coords t 0).val = t.val / 8 ∧ (grid0.coords t 1).val = t.val % 8 :=
  (by decide +kernel : ∀ t : Fin grid0.N, _)
theorem idx : ∀ t : Fin cfg0.N, win0_0.index t = ![t.val % 8, t.val / 8] ∧ win0_1.index t = ![0, t.val / 8] ∧ win0_2.index t = ![0, 0]
    ∧ win0_3.index t = ![t.val % 8, 0] ∧ win0_4.index t = ![t.val % 8, 0] ∧ win0_5.index t = ![t.val % 8, 0] ∧ win0_6.index t = ![t.val % 8, t.val / 8] :=
  (by decide +kernel : ∀ t : Fin grid0.N, _)

theorem t_lt (t : Fin cfg0.N) : t.val < 128 := t.isLt
/-- The row of the array under a block's row. -/
def row (t : Fin cfg0.N) (r : Fin 1024) : Fin 8192 := ⟨1024 * (t.val % 8) + r.val, by omega⟩
/-- The head a point's `h`-th head is. -/
def hdOf (t : Fin cfg0.N) (h : Fin 2) : Fin 32 := ⟨2 * (t.val / 8) + h.val, by have := t_lt t; omega⟩

variable (m : (ℓ : Loc nD τ sig) → Buf (Elt Ideal) ℓ) (c : Dev nD) (t : Fin cfg0.N)

theorem blk0 (h : Fin 2) (r : Fin 1024) (x : Fin 256) :
    qwin (iblk m c 0 t) h (ix2 r x) = V m c main_arg0 (ix2 (row t r) (col (hdOf t h) x)) := by
  unfold qwin
  have := t_lt t
  blk_ext [iblk, row, col, hdOf, idx t]
theorem blk1 (h : Fin 2) (k : Fin 8192) (x : Fin 256) (hx : 256 * h.val + x.val < 512) :
    iblk m c 1 t (ix2 k ⟨256 * h.val + x.val, hx⟩) = V m c main_arg1 (ix2 k (col (hdOf t h) x)) := by
  have := t_lt t
  blk_ext [iblk, row, col, hdOf, idx t]
theorem blk2 (k : Fin 8192) (x : Fin 128) : iblk m c 2 t (ix2 k x) = V m c main_arg2 (ix2 k x) := by
  blk_ext [iblk, idx t]
theorem blk3 (r : Fin 1024) (x : Fin 128) : iblk m c 3 t (ix2 r x) = V m c main_v16 (ix2 (row t r) x) := by
  blk_ext [iblk, row, idx t]
theorem blk4 (r : Fin 1024) (x : Fin 128) : iblk m c 4 t (ix2 r x) = V m c main_v17 (ix2 (row t r) x) := by
  blk_ext [iblk, row, idx t]
theorem blk5 (r : Fin 1024) (x : Fin 128) : iblk m c 5 t (ix2 r x) = V m c main_v19 (ix2 (row t r) x) := by
  blk_ext [iblk, row, idx t]

/-- A point's masked scores are the whole arrays'. -/
theorem msc_eq (h : Fin 2) (r : Fin 1024) :
    msc (qrot (iblk m c 0 t) (iblk m c 3 t) (iblk m c 4 t) (iblk m c 5 t) h) (iblk m c 1 t) (iblk m c 2 t) h (1024 * (grid0.coords t 1).val) r
      = ms2 (V m c main_arg0) (V m c main_arg1) (V m c main_arg2) (V m c main_v16) (V m c main_v17) (V m c main_v19) (row t r) (hdOf t h) := by
  funext k
  unfold msc ms2
  rw [(coords_val t).2]
  refine if_congr Iff.rfl ?_ rfl
  unfold score sc2
  refine congrArg (· * c2) (congrArg₂ (· + ·) (Finset.sum_congr rfl fun x _ => congrArg₂ (· * ·) ?_ ?_) (Finset.sum_congr rfl fun x _ => congrArg₂ (· * ·) ?_ ?_))
  · exact (qrot_lo _ _ _ r x _ h).trans (blk0 m c t h r ⟨x.val, lt256 x⟩)
  · exact blk1 m c t h k ⟨x.val, lt256 x⟩ _
  · refine (qrot_hi _ _ _ r x _ h).trans ?_
    rw [blk0 m c t h r, blk0 m c t h r, blk0 m c t h r, blk3, blk4, blk5]
    rfl
  · exact blk2 m c t k x

theorem vvc_eq (h : Fin 2) (k : Fin 8192) (x : Fin 128) :
    vvc (iblk m c 1 t) h x k = V m c main_arg1 (ix2 k (col (hdOf t h) ⟨128 + x.val, ltq x⟩)) := by
  unfold vvc
  have := t_lt t
  blk_ext [iblk, row, col, hdOf, idx t]

/-- The output array after the run. -/
theorem final : (dats m 0 c).arrAt 6 (cfgs 0).N
    = fun j : S8192x4096.Idx => att (V m c main_arg0) (V m c main_arg1) (V m c main_arg2) (V m c main_v16) (V m c main_v17) (V m c main_v19) (j 0) (headOf (j 1)) (laneOf (j 1)) := by
  refine (dats m 0 c).arrAt_eq_of_covers 6 _ (by decide +kernel) fun t hf y => ?_
  blk_simp
  rw [after0_6]
  obtain ⟨r, z, rfl⟩ : ∃ (r : Fin 1024) (z : Fin 256), y = ix2 r z := ⟨y 0, y 1, by funext a; match a with | ⟨0, _⟩ => rfl | ⟨1, _⟩ => rfl⟩
  have hq : (grid0.coords t 1).val = t.val % 8 := (coords_val t).2
  have ht := t_lt t
  obtain ⟨h, x, hz⟩ : ∃ (h : Fin 2) (x : Fin 128), z.val = 128 * h.val + x.val := ⟨⟨z.val / 128, by omega⟩, ⟨z.val % 128, by omega⟩, by show z.val = 128 * (z.val / 128) + z.val % 128; omega⟩
  have hz' : z = ⟨128 * h.val + x.val, by omega⟩ := Fin.ext hz
  have e0 : (win0_6.blk t).view.emb (ix2 r z) 0 = row t r := Fin.ext (by
    show ((win0_6.blk t).view.emb (ix2 r z) 0).val = 1024 * (t.val % 8) + r.val
    blk_simp [idx t]
    omega)
  have e1 : headOf ((win0_6.blk t).view.emb (ix2 r z) 1) = hdOf t h := Fin.ext (by
    show ((win0_6.blk t).view.emb (ix2 r z) 1).val / 128 = 2 * (t.val / 8) + h.val
    blk_simp [idx t]
    omega)
  have e2 : laneOf ((win0_6.blk t).view.emb (ix2 r z) 1) = x := Fin.ext (by
    show ((win0_6.blk t).view.emb (ix2 r z) 1).val % 128 = x.val
    blk_simp [idx t]
    omega)
  rw [e0, e1, e2, hz']
  unfold outsAt
  refine (out_at _ _ _ _ (by omega) (by omega) h r x).trans ?_
  rw [msc_eq m c t h r]
  simp only [vvc_eq m c t h]
  rfl

end Cert.KernelIdeal.Mla
end
-- ==== Proof.Mla.Tables.lean ====
module

public import proofs.«01_k».proof.Proof.Gen.KernelIdeal.Frame.Runs
public import Idealize.ShloMosaic.Lib.VecWindow
public import Idealize.ShloMosaic.Lib.Pointwise
public import Idealize.ShloMosaic.PureOps.Ideal
public import Idealize.ShloMosaic.Lib.Claim
public import proofs.«01_k».proof.Proof.Mla.Value
public import proofs.«01_k».proof.Proof.Gen.ReferenceIdeal.Run
public import proofs.«01_k».proof.Proof.Mla.State
public import Idealize.ShloMosaic.Lib.Pipeline.ValueKit

@[expose] public section

set_option maxRecDepth 16384

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ
open Cert.Mla.Online
variable (m : (ℓ : Loc nD τ sig) → Buf (Elt Ideal) ℓ) (c : Dev nD) (s : Fin 8192)

theorem lane0 (i : Fin 32) : i.val < 128 := by omega
theorem lane1 (i : Fin 32) : 32 + i.val < 128 := by omega
theorem lane2 (i : Fin 64) : 64 + i.val < 128 := by omega

/-- The angle of every position and frequency. -/
def angA (P : Vec Ideal S8192 .i32) : FVec Ideal S8192x32 .f32 :=
  mulf (broadcastInDim S8192x32 ![0, 1] bcast_S8192x1_S8192x32_0_1 (broadcastInDim S8192x1 ![0] bcast_S8192_S8192x1_0 (sitofp .f32 P)))
    (broadcastInDim S8192x32 ![0, 1] bcast_S1x32_S8192x32_0_1 (broadcastInDim S1x32 ![1] bcast_S32_S1x32_1
      (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))
/-- Three tables side by side. -/
def cat3 (a b : FVec Ideal S8192x32 .f32) (z : FVec Ideal S8192x64 .f32) : FVec Ideal S8192x128 .f32 :=
  concatenate S8192x128 1 [⟨S8192x32, a⟩, ⟨S8192x32, b⟩, ⟨S8192x64, z⟩] concatenates_S8192x32_S8192x32_S8192x64_S8192x128_d1
def z32 : FVec Ideal S8192x32 .f32 := broadcastInDim S8192x32 ![] bcast_S_S8192x32 (constant S_ .f32 0x00000000#32)
def z64 : FVec Ideal S8192x64 .f32 := broadcastInDim S8192x64 ![] bcast_S_S8192x64 (constant S_ .f32 0x00000000#32)

theorem cat3_congr {a a' b b' : FVec Ideal S8192x32 .f32} {z z' : FVec Ideal S8192x64 .f32} (h : a = a') (h' : b = b') (hz : z = z') :
    cat3 a b z = cat3 a' b' z' := by subst h h' hz; rfl

set_option maxHeartbeats 1000000 in
theorem V16 : V m c main_v16 = cat3 (Host.cos (angA (m ((c : Thread nD τ).loc main_arg3)))) (Host.cos (angA (m ((c : Thread nD τ).loc main_arg3)))) z64 := by
  unfold V hostOps0
  simp only [StableHlo.after_cons, StableHlo.after_nil]
  rw [StableHlo.nary_result_ne (h := by decide), StableHlo.unary_result_ne (h := by decide), StableHlo.nary_result_ne (h := by decide), StableHlo.nary_result]
  refine cat3_congr ?_ ?_ ?_
  · show HloOp.result _ _ (Proc.devRef .tc main_v12) = _
    after_results_simp
    rfl
  · show HloOp.result _ _ (Proc.devRef .tc main_v12) = _
    after_results_simp
    rfl
  · show HloOp.result _ _ (Proc.devRef .tc main_v14) = _
    after_results_simp
    rfl
set_option maxHeartbeats 1000000 in
theorem V17 : V m c main_v17 = cat3 z32 (Host.sin (angA (m ((c : Thread nD τ).loc main_arg3)))) z64 := by
  unfold V hostOps0
  simp only [StableHlo.after_cons, StableHlo.after_nil]
  rw [StableHlo.nary_result_ne (h := by decide), StableHlo.unary_result_ne (h := by decide), StableHlo.nary_result]
  refine cat3_congr ?_ ?_ ?_
  · show HloOp.result _ _ (Proc.devRef .tc main_v15) = _
    after_results_simp
    rfl
  · show HloOp.result _ _ (Proc.devRef .tc main_v13) = _
    after_results_simp
    rfl
  · show HloOp.result _ _ (Proc.devRef .tc main_v14) = _
    after_results_simp
    rfl
set_option maxHeartbeats 1000000 in
theorem V19 : V m c main_v19 = cat3 (Host.negf (Host.sin (angA (m ((c : Thread nD τ).loc main_arg3))))) z32 z64 := by
  unfold V hostOps0
  simp only [StableHlo.after_cons, StableHlo.after_nil]
  rw [StableHlo.nary_result]
  refine cat3_congr ?_ ?_ ?_
  · show HloOp.result _ _ (Proc.devRef .tc main_v18) = _
    after_results_simp
    rfl
  · show HloOp.result _ _ (Proc.devRef .tc main_v15) = _
    after_results_simp
    rfl
  · show HloOp.result _ _ (Proc.devRef .tc main_v14) = _
    after_results_simp
    rfl

section cat
variable (a b : FVec Ideal S8192x32 .f32)
theorem cat3_0 (i : Fin 32) : cat3 a b z64 (ix2 s ⟨i.val, lane0 i⟩) = a (ix2 s i) := by
  pointwise [cat3]
theorem cat3_1 (i : Fin 32) : cat3 a b z64 (ix2 s ⟨32 + i.val, lane1 i⟩) = b (ix2 s i) := by
  pointwise [cat3]
theorem cat3_2 (i : Fin 64) : cat3 a b z64 (ix2 s ⟨64 + i.val, lane2 i⟩) = (0 : EReal) := by
  pointwise [cat3, z64]
  rw [dif_neg (by omega), dif_neg (by omega)]
theorem z32_at (i : Fin 32) : z32 (ix2 s i) = (0 : EReal) := by
  pointwise [z32]
end cat
theorem ang_real (P : Vec Ideal S8192 .i32) (i : Fin 32) : ∃ r : ℝ, angA P (ix2 s i) = ((r : ℝ) : EReal) := by
  have e32 : (Ideal.ofBits FTy.f32 1107296256#32 : EReal) = ((32 : ℝ) : EReal) := by
    simp only [Ideal.ofBits, Ideal.ieee]
    simp
    rw [← EReal.coe_mul]
    norm_num
  have e10 : ∃ r : ℝ, (Ideal.ofBits FTy.f32 1176256512#32 : EReal) = ((r : ℝ) : EReal) := by
    simp only [Ideal.ofBits, Ideal.ieee]
    simp
    rw [← EReal.coe_mul]
    exact ⟨_, rfl⟩
  obtain ⟨r, hr⟩ := e10
  have e : angA P (ix2 s i) = ((FloatOps.sitofp (F := Ideal) FTy.f32 (P (ix1 s)) : EReal) * Ideal.pow (Ideal.ofBits FTy.f32 1176256512#32)
        (Ideal.div (-(FloatOps.sitofp (F := Ideal) FTy.f32 (BitVec.ofNat 32 ↑i) : EReal)) (Ideal.ofBits FTy.f32 1107296256#32)) : EReal) := by
    pointwise [angA]
  rw [e, hr, e32, Ideal.div_coe (by norm_num)]
  refine ⟨((P (ix1 s)).toInt : ℝ) * Real.rpow r (-(((BitVec.ofNat 32 i.val).toInt : ℝ)) * (1 / 32)), ?_⟩
  rw [EReal.coe_mul]
  refine congrArg₂ (· * ·) rfl ?_
  rw [show (-(FloatOps.sitofp (F := Ideal) FTy.f32 (BitVec.ofNat 32 i.val) : EReal) : EReal) = ((-((BitVec.ofNat 32 i.val).toInt : ℝ) : ℝ) : EReal) from rfl, ← EReal.coe_mul]
  rfl
end Cert.KernelIdeal.Mla
end
-- ==== Proof.Mla.Ref.lean ====
module

public import proofs.«01_k».proof.Proof.Gen.ReferenceIdeal.Run
public import Idealize.ShloMosaic.Lib.Pointwise
public import Idealize.ShloMosaic.Lib.Claim
public import Idealize.ShloMosaic.PureOps.Ideal
public import Idealize.ShloMosaic.Lib.WordCmp

@[expose] public section

set_option maxRecDepth 16384

noncomputable section

namespace Cert.ReferenceIdeal.Mla

open Idealize.ShloMosaic Idealize.ShloMosaic.TcCoe Idealize.ShloMosaic.Tactic
open Cert.ReferenceIdeal Cert.ReferenceIdeal.Gen

/-! ## The reference, stage by stage -/

section stages
variable (Q : Vec Ideal S8192x8192 .f32) (KV : Vec Ideal S8192x8192 .bf16) (KR : Vec Ideal S8192x128 .bf16) (P : Vec Ideal S8192 .i32)

/-- The angle of every position and frequency. -/
def rAng : FVec Ideal S8192x32 .f32 :=
  mulf (broadcastInDim S8192x32 ![0, 1] bcast_S8192x1_S8192x32_0_1 (broadcastInDim S8192x1 ![0] bcast_S8192_S8192x1_0 (sitofp .f32 P)))
    (broadcastInDim S8192x32 ![0, 1] bcast_S1x32_S8192x32_0_1 (broadcastInDim S1x32 ![1] bcast_S32_S1x32_1
      (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))
/-- Its cosine and its sine, the same for every head. -/
def rCos : FVec Ideal S8192x32x32 .f32 :=
  broadcastInDim S8192x32x32 ![0, 1, 2] bcast_S8192x1x32_S8192x32x32_0_1_2 (Host.cos (broadcastInDim S8192x1x32 ![0, 2] bcast_S8192x32_S8192x1x32_0_2 (rAng P)))
def rSin : FVec Ideal S8192x32x32 .f32 :=
  broadcastInDim S8192x32x32 ![0, 1, 2] bcast_S8192x1x32_S8192x32x32_0_1_2 (Host.sin (broadcastInDim S8192x1x32 ![0, 2] bcast_S8192x32_S8192x1x32_0_2 (rAng P)))
/-- The query by head, and the halves of its rotary part. -/
def rQ : FVec Ideal S8192x32x256 .f32 := shapeCast _ Q shapeCasts_S8192x8192_S8192x32x256
def rX1 : FVec Ideal S8192x32x32 .f32 :=
  extractStridedSlice S8192x32x32 ![0, 0, 0] (extractStridedSlice S8192x32x64 ![0, 0, 128] (rQ Q) slices_S8192x32x256_S8192x32x64_0_0_128) slices_S8192x32x64_S8192x32x32_0_0_0
def rX2 : FVec Ideal S8192x32x32 .f32 :=
  extractStridedSlice S8192x32x32 ![0, 0, 32] (extractStridedSlice S8192x32x64 ![0, 0, 128] (rQ Q) slices_S8192x32x256_S8192x32x64_0_0_128) slices_S8192x32x64_S8192x32x32_0_0_32
/-- The rotated query. -/
def rRot : FVec Ideal S8192x32x64 .f32 :=
  concatenate S8192x32x64 2 [⟨S8192x32x32, subf (mulf (rX1 Q) (rCos P)) (mulf (rX2 Q) (rSin P))⟩, ⟨S8192x32x32, addf (mulf (rX2 Q) (rCos P)) (mulf (rX1 Q) (rSin P))⟩] concatenates_S8192x32x32_S8192x32x32_S8192x32x64_d2
/-- Keys and values by head. -/
def rKV : FVec Ideal S8192x32x256 .f32 := extf .f32 (shapeCast _ KV shapeCasts_S8192x8192_S8192x32x256) bitsLt_bf16_f32
/-- The scores. -/
def rNope : FVec Ideal S32x8192x8192 .f32 :=
  Host.dotGeneral dot_S8192x32x128_S8192x32x128_S32x8192x8192_2_2_0_0_1_1 none (extractStridedSlice S8192x32x128 ![0, 0, 0] (rQ Q) slices_S8192x32x256_S8192x32x128_0_0_0) (extractStridedSlice S8192x32x128 ![0, 0, 0] (rKV KV) slices_S8192x32x256_S8192x32x128_0_0_0)
def rRope : FVec Ideal S32x8192x8192 .f32 :=
  transpose S32x8192x8192 [2, 1, 0] (Host.dotGeneral dot_S8192x64_S8192x32x64_S8192x8192x32_1_2_0_01_n_n none (extf .f32 (extractStridedSlice S8192x64 ![0, 0] KR slices_S8192x128_S8192x64_0_0) bitsLt_bf16_f32) (rRot Q P)) transposes_S8192x8192x32_S32x8192x8192_2_1_0
def rScale : FVec Ideal S_ .f32 := Host.divf (constant S_ .f32 0x3F800000#32) (Host.sqrt (constant S_ .f32 0x43400000#32))
def rMask : IVec S8192x8192 1 :=
  cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))
/-- The scores scaled, the keys after the row at `-∞`. -/
def rS : FVec Ideal S32x8192x8192 .f32 :=
  select (broadcastInDim S32x8192x8192 ![1, 2] bcast_S8192x8192_S32x8192x8192_1_2 rMask) (mulf (addf (rNope Q KV) (rRope Q KR P)) (broadcastInDim S32x8192x8192 ![] bcast_S_S32x8192x8192 rScale)) (broadcastInDim S32x8192x8192 ![] bcast_S_S32x8192x8192 (id (constant S_ .f32 0xFF800000#32)))
end stages

section softmax
variable (s : FVec Ideal S32x8192x8192 .f32) (kv : FVec Ideal S8192x32x256 .f32)
/-- The largest score of every row. -/
def rMax : FVec Ideal S32x8192 .f32 :=
  maximumf (broadcastInDim S32x8192 ![] bcast_S_S32x8192 (constant S_ .f32 0xFF800000#32)) (Host.reduce FloatOps.maximumf s (constant S_ .f32 0xFF800000#32) reducesTo_S32x8192x8192_S32x8192_d2 h_S_)
/-- The exponentials, their sums, their quotients. -/
def rExp : FVec Ideal S32x8192x8192 .f32 :=
  Host.exp (subf s (broadcastInDim S32x8192x8192 ![0, 1, 2] bcast_S32x8192x1_S32x8192x8192_0_1_2 (broadcastInDim S32x8192x1 ![0, 1] bcast_S32x8192_S32x8192x1_0_1 (rMax s))))
def rSum : FVec Ideal S32x8192 .f32 := Host.reduceAdd (rExp s) (constant S_ .f32 0x00000000#32) reducesTo_S32x8192x8192_S32x8192_d2 h_S_
def rP : FVec Ideal S32x8192x8192 .f32 :=
  Host.divf (rExp s) (broadcastInDim S32x8192x8192 ![0, 1, 2] bcast_S32x8192x1_S32x8192x8192_0_1_2 (broadcastInDim S32x8192x1 ![0, 1] bcast_S32x8192_S32x8192x1_0_1 (rSum s)))
/-- The values weighed. -/
def rOut : FVec Ideal S8192x4096 .bf16 :=
  truncf .bf16 (shapeCast _ (transpose S8192x32x128 [2, 0, 1] (Host.dotGeneral dot_S8192x32x128_S32x8192x8192_S32x128x8192_0_2_2_1_1_0 none (extractStridedSlice S8192x32x128 ![0, 0, 128] kv slices_S8192x32x256_S8192x32x128_0_0_128) (rP s)) transposes_S32x128x8192_S8192x32x128_2_0_1) shapeCasts_S8192x32x128_S8192x4096) bitsLt_bf16_f32
end softmax

/-- The reference's result is the stages'. -/
theorem res_eq (m : (ℓ : Loc nD τ sig) → Buf (Elt Ideal) ℓ) (c : Dev nD) :
    Cert.ReferenceIdeal.Value.res_out0 m c = rOut (rS (m ((c.tc : Thread nD τ).loc main_arg0)) (m ((c.tc : Thread nD τ).loc main_arg1)) (m ((c.tc : Thread nD τ).loc main_arg2)) (m ((c.tc : Thread nD τ).loc main_arg3))) (rKV (m ((c.tc : Thread nD τ).loc main_arg1))) := by
  rfl

/-! ## The stages at an index -/

/-- Column `x` of head `h`. -/
def rcol (h : Fin 32) (x : ℕ) (hx : x < 256) : Fin 8192 := ⟨h.val * 256 + x, by omega⟩

theorem ninf : (Ideal.ofBits FTy.f32 4286578688#32 : EReal) = ⊥ := by
  simp [Ideal.ofBits, Ideal.ieee]

/-- A maximum over the last of three axes, at any extents. -/
theorem reduce_max3 {n0 n1 n2 : ℕ} {u : Shape} (x : FVec Ideal ⟨3, ![n0, n1, n2]⟩ .f32) (c : FVec Ideal u .f32)
    (h : Shape.ReducesTo ⟨3, ![n0, n1, n2]⟩ [2] ⟨2, ![n0, n1]⟩) (hu : 0 < u.numel) (a : Fin n0) (b : Fin n1) :
    Host.reduce FloatOps.maximumf x c h hu (ix2 a b) = Finset.univ.fold max (c (Shape.Idx.first hu)) fun k : Fin n2 => x (ix3 a b k) := by
  simp only [pointwise]

section at_index
variable (Q : Vec Ideal S8192x8192 .f32) (KV : Vec Ideal S8192x8192 .bf16) (KR : Vec Ideal S8192x128 .bf16) (P : Vec Ideal S8192 .i32)
variable (s : Fin 8192) (h : Fin 32) (k : Fin 8192)

theorem h64 (i : Fin 32) : i.val < 64 := by omega
theorem h64' (i : Fin 32) : 32 + i.val < 64 := by omega
theorem hc0 (i : Fin 32) : 128 + i.val < 256 := by omega
theorem hc1 (i : Fin 32) : 128 + (32 + i.val) < 256 := by omega
theorem hc2 (x : Fin 128) : x.val < 256 := by omega
theorem hc3 (x : Fin 64) : x.val < 128 := by omega

theorem rRot_0 (i : Fin 32) : rRot Q P (ix3 s h ⟨i.val, h64 i⟩)
    = (Q (ix2 s (rcol h (128 + i.val) (hc0 i))) * Ideal.cos (rAng P (ix2 s i)) - Q (ix2 s (rcol h (128 + (32 + i.val)) (hc1 i))) * Ideal.sin (rAng P (ix2 s i)) : EReal) := by
  pointwise [rRot, rX1, rX2, rQ, rCos, rSin]
  rfl
theorem rRot_1 (i : Fin 32) : rRot Q P (ix3 s h ⟨32 + i.val, h64' i⟩)
    = (Q (ix2 s (rcol h (128 + (32 + i.val)) (hc1 i))) * Ideal.cos (rAng P (ix2 s i)) + Q (ix2 s (rcol h (128 + i.val) (hc0 i))) * Ideal.sin (rAng P (ix2 s i)) : EReal) := by
  pointwise [rRot, rX1, rX2, rQ, rCos, rSin]
  rfl
theorem rKV_at (x : Fin 256) : rKV KV (ix3 k h x) = KV (ix2 k (rcol h x.val x.isLt)) := by
  pointwise [rKV]
  rfl
/-- A score before its scale. -/
def dotR : EReal :=
  ∑ x : Fin 128, Q (ix2 s (rcol h x.val (hc2 x))) * KV (ix2 k (rcol h x.val (hc2 x))) + ∑ x : Fin 64, KR (ix2 k ⟨x.val, hc3 x⟩) * rRot Q P (ix3 s h x)
theorem scal_sel (k s : ℕ) (hk : k < 8192) (hs : s < 8192) (a b : EReal) :
    Scalar.select (IntOp.cmpi CmpIPredicate.sle (BitVec.ofNat 32 k) (BitVec.ofNat 32 s)) a b = if k ≤ s then a else b := by
  rw [WordCmp.cmpi_sle_of_lt (by rw [BitVec.toNat_ofNat, Nat.mod_eq_of_lt (by omega)]; omega) (by rw [BitVec.toNat_ofNat, Nat.mod_eq_of_lt (by omega)]; omega),
    BitVec.toNat_ofNat, Nat.mod_eq_of_lt (by omega), BitVec.toNat_ofNat, Nat.mod_eq_of_lt (by omega)]
  by_cases hks : k ≤ s
  · simp [hks, Scalar.select]
  · simp [hks, Scalar.select]
theorem rS_at : rS Q KV KR P (ix3 h s k) = if k.val ≤ s.val then dotR Q KV KR P s h k * rScale ix0 else ⊥ := by
  have e : rS Q KV KR P (ix3 h s k) = Scalar.select (IntOp.cmpi CmpIPredicate.sle (BitVec.ofNat 32 k.val) (BitVec.ofNat 32 s.val))
      (dotR Q KV KR P s h k * rScale ix0) (Ideal.ofBits FTy.f32 4286578688#32 : EReal) := by
    pointwise [rS, rNope, rRope, rQ, rMask]
    unfold dotR
    simp only [rKV_at]
    rfl
  rw [e, scal_sel _ _ k.isLt s.isLt, ninf]
theorem rScale_at : rScale ix0 = (((Real.sqrt 192)⁻¹ : ℝ) : EReal) := by
  have e192 : (Ideal.ofBits FTy.f32 1128267776#32 : EReal) = ((192 : ℝ) : EReal) := by
    simp only [Ideal.ofBits, Ideal.ieee]
    simp
    rw [← EReal.coe_mul]
    norm_num
  pointwise [rScale]
  rw [e192]
  have hs : Ideal.sqrt ((192 : ℝ) : EReal) = ((Real.sqrt 192 : ℝ) : EReal) := by
    show (if (192 : ℝ) < 0 then (⊥ : EReal) else ((Real.sqrt 192 : ℝ) : EReal)) = _
    rw [if_neg (by norm_num)]
  rw [hs, show (1 : EReal) = ((1 : ℝ) : EReal) from rfl, Ideal.div_coe (Real.sqrt_pos.mpr (by norm_num : (0 : ℝ) < 192)).ne', ← EReal.coe_mul, one_mul, one_div]

variable (S : FVec Ideal S32x8192x8192 .f32) (kv : FVec Ideal S8192x32x256 .f32)
theorem max_bot (R : FVec Ideal S32x8192 .f32) :
    maximumf (broadcastInDim S32x8192 ![] bcast_S_S32x8192 (constant S_ .f32 0xFF800000#32)) R (ix2 h s) = R (ix2 h s) := by
  pointwise
  rw [ninf]
  exact max_eq_right bot_le
theorem cst_bot (i : S_.Idx) : (constant S_ .f32 0xFF800000#32 : FVec Ideal S_ .f32) i = (⊥ : EReal) := ninf
theorem rMax_at : rMax S (ix2 h s) = Finset.univ.fold max ⊥ (fun x : Fin 8192 => S (ix3 h s x)) := by
  unfold rMax
  rw [max_bot, reduce_max3, cst_bot]
theorem rExp_at : rExp S (ix3 h s k) = Ideal.exp (S (ix3 h s k) - rMax S (ix2 h s) : EReal) := by
  pointwise [rExp]
theorem rSum_at : rSum S (ix2 h s) = (∑ x : Fin 8192, Ideal.exp (S (ix3 h s x) - rMax S (ix2 h s)) : EReal) := by
  pointwise [rSum, rExp]
theorem d128 (j : Fin 4096) : j.val / 128 < 32 := by omega
theorem m128 (j : Fin 4096) : 128 + j.val % 128 < 256 := by omega
theorem rOut_at (j : Fin 4096) : rOut S kv (ix2 s j)
    = (∑ x : Fin 8192, kv (ix3 x ⟨j.val / 128, d128 j⟩ ⟨128 + j.val % 128, m128 j⟩) * Ideal.div (rExp S (ix3 ⟨j.val / 128, d128 j⟩ s x)) (rSum S (ix2 ⟨j.val / 128, d128 j⟩ s)) : EReal) := by
  pointwise [rOut, rP]
end at_index

end Cert.ReferenceIdeal.Mla
end
-- ==== Proof.Mla.Softmax.lean ====
module

public import proofs.«01_k».proof.Proof.Mla.Online

@[expose] public section

noncomputable section

namespace Cert.Mla.Softmax

open Idealize.ShloMosaic Cert.Mla.Online

/-- The largest of finitely many values, given which one it is. -/
theorem fold_max_eq {n : ℕ} (f : Fin n → EReal) (a : EReal) (k0 : Fin n) (h0 : f k0 = a) (h : ∀ k, f k ≤ a) :
    Finset.univ.fold max ⊥ f = a := by
  refine le_antisymm (Finset.sup_le (f := f) fun c _ => h c) ?_
  rw [← h0]
  exact Finset.le_sup (f := f) (Finset.mem_univ k0)

theorem e2_real (r : ℝ) : e2 ((r * (Real.log 2)⁻¹ : ℝ) : EReal) = ((Real.exp r : ℝ) : EReal) := by
  show ((Real.rpow 2 (r * (Real.log 2)⁻¹) : ℝ) : EReal) = _
  congr 1
  have h2 : Real.log 2 ≠ 0 := (Real.log_pos (by norm_num)).ne'
  show (2 : ℝ) ^ (r * (Real.log 2)⁻¹) = Real.exp r
  rw [Real.rpow_def_of_pos (by norm_num)]
  congr 1
  field_simp

/-- The softmax weights in base two, unscaled until the end, and in base `e`, divided first: one result. -/
theorem softmax_eq (s : Fin 8192) (d : Fin 8192 → ℝ) (V : Fin 8192 → EReal) (σ : ℝ) (hσ : 0 < σ) (K R : Fin 8192 → EReal)
    (hK : ∀ k, K k = if k.val ≤ s.val then ((d k : ℝ) : EReal) * ((σ * (Real.log 2)⁻¹ : ℝ) : EReal) else ⊥)
    (hR : ∀ k, R k = if k.val ≤ s.val then ((d k : ℝ) : EReal) * ((σ : ℝ) : EReal) else ⊥) :
    Ideal.div (∑ k, e2 (K k - Finset.univ.fold max ⊥ K) * V k) (∑ k, e2 (K k - Finset.univ.fold max ⊥ K))
      = ∑ k, V k * Ideal.div (Ideal.exp (R k - Finset.univ.fold max ⊥ R)) (∑ k, Ideal.exp (R k - Finset.univ.fold max ⊥ R)) := by
  have h2 : 0 < (Real.log 2)⁻¹ := inv_pos.mpr (Real.log_pos (by norm_num))
  obtain ⟨k0, hk0, hmax⟩ := Finset.exists_max_image (Finset.univ.filter fun k : Fin 8192 => k.val ≤ s.val) d ⟨s, by simp⟩
  have hk0' : k0.val ≤ s.val := by simpa using hk0
  have hm : ∀ k : Fin 8192, k.val ≤ s.val → d k ≤ d k0 := fun k hk => hmax k (by simpa using hk)
  have eK : Finset.univ.fold max ⊥ K = ((d k0 * (σ * (Real.log 2)⁻¹) : ℝ) : EReal) := by
    refine fold_max_eq K _ k0 (by rw [hK, if_pos hk0', ← EReal.coe_mul]) fun k => ?_
    rw [hK]
    by_cases hk : k.val ≤ s.val
    · rw [if_pos hk, ← EReal.coe_mul]
      exact EReal.coe_le_coe_iff.mpr (mul_le_mul_of_nonneg_right (hm k hk) (mul_pos hσ h2).le)
    · rw [if_neg hk]; exact bot_le
  have eR : Finset.univ.fold max ⊥ R = ((d k0 * σ : ℝ) : EReal) := by
    refine fold_max_eq R _ k0 (by rw [hR, if_pos hk0', ← EReal.coe_mul]) fun k => ?_
    rw [hR]
    by_cases hk : k.val ≤ s.val
    · rw [if_pos hk, ← EReal.coe_mul]
      exact EReal.coe_le_coe_iff.mpr (mul_le_mul_of_nonneg_right (hm k hk) hσ.le)
    · rw [if_neg hk]; exact bot_le
  let w : Fin 8192 → ℝ := fun k => if k.val ≤ s.val then Real.exp (d k * σ - d k0 * σ) else 0
  have wK : ∀ k, e2 (K k - Finset.univ.fold max ⊥ K) = ((w k : ℝ) : EReal) := by
    intro k
    rw [eK, hK]
    by_cases hk : k.val ≤ s.val
    · simp only [w, if_pos hk]
      rw [← EReal.coe_mul, ← EReal.coe_sub, ← e2_real]
      exact congrArg e2 (congrArg _ (by ring))
    · simp only [w, if_neg hk]
      rw [bot_sub']; rfl
  have wR : ∀ k, Ideal.exp (R k - Finset.univ.fold max ⊥ R) = ((w k : ℝ) : EReal) := by
    intro k
    rw [eR, hR]
    by_cases hk : k.val ≤ s.val
    · simp only [w, if_pos hk]
      rw [← EReal.coe_mul, ← EReal.coe_sub]
      rfl
    · simp only [w, if_neg hk]
      rw [bot_sub']; rfl
  simp only [wK, wR]
  have hw : ∀ k, 0 ≤ w k := fun k => by
    by_cases hk : k.val ≤ s.val
    · simp only [w, if_pos hk]; exact (Real.exp_pos _).le
    · simp only [w, if_neg hk]; exact le_rfl
  have hs : (∑ k, ((w k : ℝ) : EReal)) = ((∑ k, w k : ℝ) : EReal) := by
    induction (Finset.univ : Finset (Fin 8192)) using Finset.induction_on with
    | empty => simp
    | insert a t ha ih => rw [Finset.sum_insert ha, Finset.sum_insert ha, ih, EReal.coe_add]
  have hL : 0 < ∑ k, w k := by
    refine Finset.sum_pos' (fun k _ => hw k) ⟨k0, Finset.mem_univ _, ?_⟩
    simp only [w, if_pos hk0']; exact Real.exp_pos _
  rw [hs, Ideal.div_coe hL.ne', mul_comm, mul_sum _ _ (EReal.coe_nonneg.mpr (one_div_pos.mpr hL).le) (EReal.coe_ne_top _)]
  refine Finset.sum_congr rfl fun k _ => ?_
  rw [Ideal.div_coe hL.ne', mul_comm, mul_comm ((w k : ℝ) : EReal) (V k), mul_assoc]

end Cert.Mla.Softmax
end
-- ==== Proof.Mla.Algebra.lean ====
module

public import proofs.«01_k».proof.Proof.Gen.KernelIdeal.Frame.Runs
public import Idealize.ShloMosaic.Lib.VecWindow
public import Idealize.ShloMosaic.Lib.Pointwise
public import Idealize.ShloMosaic.PureOps.Ideal
public import Idealize.ShloMosaic.Lib.Claim
public import proofs.«01_k».proof.Proof.Mla.Tables
public import proofs.«01_k».proof.Proof.Mla.Ref
public import proofs.«01_k».proof.Proof.Mla.Softmax

@[expose] public section

set_option maxRecDepth 16384

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ
open Cert.Mla.Online
open Cert.ReferenceIdeal.Mla (rcol rAng rRot rKV rS rOut dotR rScale h64 h64' hc0 hc1 hc2 hc3 d128 m128)

/-! ## The two programs' scores -/

section scores
variable (Q : Vec Ideal S8192x8192 .f32) (KV : Vec Ideal S8192x8192 .bf16) (KR : Vec Ideal S8192x128 .bf16) (P : Vec Ideal S8192 .i32)
  (s : Fin 8192) (hd : Fin 32) (k : Fin 8192)

theorem col_rcol (x : ℕ) (hx : x < 256) : col hd ⟨x, hx⟩ = rcol hd x hx := Fin.ext (by show 256 * hd.val + x = hd.val * 256 + x; omega)
theorem ang_eq : angA P = rAng P := rfl

/-- The three tables of the rotation. -/
def tC : FVec Ideal S8192x128 .f32 := cat3 (Host.cos (angA P)) (Host.cos (angA P)) z64
def tU : FVec Ideal S8192x128 .f32 := cat3 z32 (Host.sin (angA P)) z64
def tD : FVec Ideal S8192x128 .f32 := cat3 (Host.negf (Host.sin (angA P))) z32 z64

theorem cos_at (i : Fin 32) : Host.cos (angA P) (ix2 s i) = (Ideal.cos (angA P (ix2 s i)) : EReal) := by pointwise []
theorem sin_at (i : Fin 32) : Host.sin (angA P) (ix2 s i) = (Ideal.sin (angA P (ix2 s i)) : EReal) := by pointwise []
theorem nsin_at (i : Fin 32) : Host.negf (Host.sin (angA P)) (ix2 s i) = (-(Ideal.sin (angA P (ix2 s i))) : EReal) := by pointwise []

theorem q_congr {x y : ℕ} (hx : x < 256) (hy : y < 256) (e : x = y) : Q (ix2 s (col hd ⟨x, hx⟩)) = Q (ix2 s (rcol hd y hy)) := by
  subst e; rw [col_rcol]

theorem rot_0 (i : Fin 32) : rotv Q (tC P) (tU P) (tD P) s hd ⟨i.val, lane0 i⟩ = rRot Q P (ix3 s hd ⟨i.val, h64 i⟩) := by
  unfold rotv tC tU tD
  rw [cat3_0 s _ _ i, cat3_0 s _ _ i, cat3_0 s _ _ i, z32_at s i, cos_at, nsin_at, Cert.ReferenceIdeal.Mla.rRot_0,
    q_congr Q s hd (y := 128 + i.val) _ (hc0 i) rfl, q_congr Q s hd (x := 128 + (i.val + 32) % 128) (y := 128 + (32 + i.val)) _ (hc1 i) (by omega),
    ang_eq, mul_zero, add_zero, mul_neg, ← sub_eq_add_neg]
theorem rot_1 (i : Fin 32) : rotv Q (tC P) (tU P) (tD P) s hd ⟨32 + i.val, lane1 i⟩ = rRot Q P (ix3 s hd ⟨32 + i.val, h64' i⟩) := by
  unfold rotv tC tU tD
  rw [cat3_1 s _ _ i, cat3_1 s _ _ i, cat3_1 s _ _ i, z32_at s i, cos_at, sin_at, Cert.ReferenceIdeal.Mla.rRot_1,
    q_congr Q s hd (y := 128 + (32 + i.val)) _ (hc1 i) rfl, q_congr Q s hd (x := 128 + (32 + i.val + 96) % 128) (y := 128 + i.val) _ (hc0 i) (by omega),
    ang_eq, mul_zero, add_zero]
theorem rot_2 (i : Fin 64) : rotv Q (tC P) (tU P) (tD P) s hd ⟨64 + i.val, lane2 i⟩ = 0 := by
  unfold rotv tC tU tD
  rw [cat3_2 s _ _ i, cat3_2 s _ _ i, cat3_2 s _ _ i, mul_zero, mul_zero, mul_zero, add_zero, add_zero]
theorem rot_lo (x : Fin 64) : rotv Q (tC P) (tU P) (tD P) s hd ⟨x.val, hc3 x⟩ = rRot Q P (ix3 s hd x) := by
  by_cases h : x.val < 32
  · exact rot_0 Q P s hd ⟨x.val, h⟩
  · have e : x = ⟨32 + (x.val - 32), by omega⟩ := Fin.ext (by show x.val = 32 + (x.val - 32); omega)
    have := rot_1 Q P s hd ⟨x.val - 32, by omega⟩
    have e1 : (⟨32 + (x.val - 32), lane1 ⟨x.val - 32, by omega⟩⟩ : Fin 128) = ⟨x.val, hc3 x⟩ := Fin.ext (by show 32 + (x.val - 32) = x.val; omega)
    have e2 : (⟨32 + (x.val - 32), h64' ⟨x.val - 32, by omega⟩⟩ : Fin 64) = x := Fin.ext (by show 32 + (x.val - 32) = x.val; omega)
    simp only [e1, e2] at this
    exact this

/-- The rotary part of a score: the upper lanes of the tables are zero. -/
theorem rope_sum : (∑ x : Fin 128, rotv Q (tC P) (tU P) (tD P) s hd x * KR (ix2 k x) : EReal)
    = ∑ x : Fin 64, KR (ix2 k ⟨x.val, hc3 x⟩) * rRot Q P (ix3 s hd x) := by
  have e := Fin.sum_univ_add (a := 64) (b := 64) (fun x : Fin 128 => (rotv Q (tC P) (tU P) (tD P) s hd x * KR (ix2 k x) : EReal))
  refine e.trans ?_
  have z : (∑ i : Fin 64, (rotv Q (tC P) (tU P) (tD P) s hd (Fin.natAdd 64 i) * KR (ix2 k (Fin.natAdd 64 i)) : EReal)) = 0 := by
    refine Finset.sum_eq_zero fun i _ => ?_
    rw [show rotv Q (tC P) (tU P) (tD P) s hd (Fin.natAdd 64 i) = 0 from rot_2 Q P s hd i]
    exact zero_mul _
  rw [z, add_zero]
  refine Finset.sum_congr rfl fun i _ => ?_
  rw [show rotv Q (tC P) (tU P) (tD P) s hd (Fin.castAdd 64 i) = rRot Q P (ix3 s hd i) from rot_lo Q P s hd i]
  exact mul_comm _ _

theorem sc2_eq : sc2 Q KV KR (tC P) (tU P) (tD P) s hd k = (dotR Q KV KR P s hd k * c2 : EReal) := by
  unfold sc2 dotR
  rw [rope_sum]
  simp only [col_rcol]

/-! ## Finiteness -/

theorem sum_real {ι : Type} [Fintype ι] (f : ι → EReal) (h : ∀ i, ∃ r : ℝ, f i = ((r : ℝ) : EReal)) : ∃ r : ℝ, ∑ i, f i = ((r : ℝ) : EReal) := by
  classical
  refine Finset.sum_induction f (fun a => ∃ r : ℝ, a = ((r : ℝ) : EReal)) ?_ ⟨0, rfl⟩ fun i _ => h i
  rintro a b ⟨r, rfl⟩ ⟨q, rfl⟩
  exact ⟨r + q, (EReal.coe_add _ _).symm⟩
theorem mul_real {a b : EReal} (ha : ∃ r : ℝ, a = ((r : ℝ) : EReal)) (hb : ∃ r : ℝ, b = ((r : ℝ) : EReal)) : ∃ r : ℝ, a * b = ((r : ℝ) : EReal) := by
  obtain ⟨r, rfl⟩ := ha; obtain ⟨q, rfl⟩ := hb; exact ⟨r * q, (EReal.coe_mul _ _).symm⟩
theorem add_real {a b : EReal} (ha : ∃ r : ℝ, a = ((r : ℝ) : EReal)) (hb : ∃ r : ℝ, b = ((r : ℝ) : EReal)) : ∃ r : ℝ, a + b = ((r : ℝ) : EReal) := by
  obtain ⟨r, rfl⟩ := ha; obtain ⟨q, rfl⟩ := hb; exact ⟨r + q, (EReal.coe_add _ _).symm⟩
theorem sub_real {a b : EReal} (ha : ∃ r : ℝ, a = ((r : ℝ) : EReal)) (hb : ∃ r : ℝ, b = ((r : ℝ) : EReal)) : ∃ r : ℝ, a - b = ((r : ℝ) : EReal) := by
  obtain ⟨r, rfl⟩ := ha; obtain ⟨q, rfl⟩ := hb; exact ⟨r - q, (EReal.coe_sub _ _).symm⟩
theorem cos_real {a : EReal} (ha : ∃ r : ℝ, a = ((r : ℝ) : EReal)) : ∃ r : ℝ, Ideal.cos a = ((r : ℝ) : EReal) := by
  obtain ⟨r, rfl⟩ := ha; exact ⟨Real.cos r, rfl⟩
theorem sin_real {a : EReal} (ha : ∃ r : ℝ, a = ((r : ℝ) : EReal)) : ∃ r : ℝ, Ideal.sin a = ((r : ℝ) : EReal) := by
  obtain ⟨r, rfl⟩ := ha; exact ⟨Real.sin r, rfl⟩

variable (hQ : ∀ (s : Fin 8192) (h : Fin 32) (x : Fin 192), ∃ r : ℝ, Q (ix2 s (rcol h x.val (Nat.lt_trans x.isLt (by decide)))) = ((r : ℝ) : EReal))
  (hKV : ∀ (s : Fin 8192) (h : Fin 32) (x : Fin 128), ∃ r : ℝ, KV (ix2 s (rcol h x.val (hc2 x))) = ((r : ℝ) : EReal))
  (hKR : ∀ (s : Fin 8192) (x : Fin 64), ∃ r : ℝ, KR (ix2 s ⟨x.val, hc3 x⟩) = ((r : ℝ) : EReal))

include hQ in
theorem rot_real (x : Fin 64) : ∃ r : ℝ, rRot Q P (ix3 s hd x) = ((r : ℝ) : EReal) := by
  have hc : ∀ i : Fin 32, ∃ r : ℝ, Ideal.cos (rAng P (ix2 s i)) = ((r : ℝ) : EReal) := fun i => cos_real (ang_real s P i)
  have hs : ∀ i : Fin 32, ∃ r : ℝ, Ideal.sin (rAng P (ix2 s i)) = ((r : ℝ) : EReal) := fun i => sin_real (ang_real s P i)
  by_cases h : x.val < 32
  · have e := Cert.ReferenceIdeal.Mla.rRot_0 Q P s hd ⟨x.val, h⟩
    obtain ⟨r, hr⟩ := sub_real (mul_real (hQ s hd ⟨128 + x.val, by omega⟩) (hc ⟨x.val, h⟩)) (mul_real (hQ s hd ⟨128 + (32 + x.val), by omega⟩) (hs ⟨x.val, h⟩))
    exact ⟨r, e.trans hr⟩
  · have e := Cert.ReferenceIdeal.Mla.rRot_1 Q P s hd ⟨x.val - 32, by omega⟩
    have e2 : (⟨32 + (x.val - 32), h64' ⟨x.val - 32, by omega⟩⟩ : Fin 64) = x := Fin.ext (by show 32 + (x.val - 32) = x.val; omega)
    simp only [e2] at e
    obtain ⟨r, hr⟩ := add_real (mul_real (hQ s hd ⟨128 + (32 + (x.val - 32)), by omega⟩) (hc ⟨x.val - 32, by omega⟩)) (mul_real (hQ s hd ⟨128 + (x.val - 32), by omega⟩) (hs ⟨x.val - 32, by omega⟩))
    exact ⟨r, e.trans hr⟩

include hQ hKV hKR in
theorem dot_real : ∃ r : ℝ, dotR Q KV KR P s hd k = ((r : ℝ) : EReal) :=
  add_real (sum_real _ fun x => mul_real (hQ s hd ⟨x.val, by omega⟩) (hKV k hd x)) (sum_real _ fun x => mul_real (hKR k x) (rot_real Q P s hd hQ x))

/-! ## The results -/

include hQ hKV hKR in
/-- The kernel's attention is the reference's. -/
theorem att_eq (j : Fin 4096) : att Q KV KR (tC P) (tU P) (tD P) s (headOf j) (laneOf j) = rOut (rS Q KV KR P) (rKV KV) (ix2 s j) := by
  rw [Cert.ReferenceIdeal.Mla.rOut_at, Cert.ReferenceIdeal.Mla.rSum_at]
  simp only [Cert.ReferenceIdeal.Mla.rExp_at, Cert.ReferenceIdeal.Mla.rMax_at, Cert.ReferenceIdeal.Mla.rKV_at]
  choose d hd using fun k => dot_real Q KV KR P s (headOf j) k hQ hKV hKR
  have h192 : (0 : ℝ) < (Real.sqrt 192)⁻¹ := inv_pos.mpr (Real.sqrt_pos.mpr (by norm_num))
  have key := Cert.Mla.Softmax.softmax_eq s d (fun k => KV (ix2 k (rcol (headOf j) (128 + j.val % 128) (m128 j)))) (Real.sqrt 192)⁻¹ h192
    (ms2 Q KV KR (tC P) (tU P) (tD P) s (headOf j)) (fun k => rS Q KV KR P (ix3 (headOf j) s k))
    (fun k => by
      unfold ms2
      rw [sc2_eq, hd]
      rfl)
    (fun k => by
      rw [Cert.ReferenceIdeal.Mla.rS_at, hd, Cert.ReferenceIdeal.Mla.rScale_at])
  unfold att
  simp only [col_rcol]
  exact key
end scores

end Cert.KernelIdeal.Mla
end
-- ==== Proof.Mla.Pre.lean ====
module

public import proofs.«01_k».proof.Pre_finite_scores
public import Idealize.ShloMosaic.Lib.Pointwise
public import Idealize.ShloMosaic.Lib.Claim
public import Idealize.ShloMosaic.PureOps.Ideal

@[expose] public section

set_option maxRecDepth 16384

noncomputable section

namespace Cert.Pre_finite_scores.Mla

open Idealize.ShloMosaic Idealize.ShloMosaic.TcCoe Idealize.ShloMosaic.Tactic
open Cert.Pre_finite_scores

/-- A conjunction over a whole array that is true is true everywhere. -/
theorem all_of_reduce {s t u : Shape} {axes : List (Fin s.rank)} (x : s.Idx → BitVec 1) (init : u.Idx → BitVec 1) (h : s.ReducesTo axes t)
    (hu : 0 < u.numel) (j : t.Idx) (e : Host.reduce IntOp.andi x init h hu j = 1#1) (i : s.Idx) (hi : h.drop i = j) : x i = 1#1 := by
  rw [Host.reduce_eq_fold] at e
  have hr : ∀ {a y z : BitVec 1}, (fun (_ : BitVec 1) (y : BitVec 1) => y = 1#1) a (IntOp.andi y z) ↔ (fun (_ : BitVec 1) (y : BitVec 1) => y = 1#1) a y ∧ (fun (_ : BitVec 1) (y : BitVec 1) => y = 1#1) a z := by
    intro a y z
    show y &&& z = 1#1 ↔ y = 1#1 ∧ z = 1#1
    revert y z
    decide
  exact ((Finset.fold_op_rel_iff_and (r := fun (_ : BitVec 1) (y : BitVec 1) => y = 1#1) (c := (0#1 : BitVec 1)) (fun {a y z} => @hr a y z)).1 e).2 i (by simp [hi])

/-- A magnitude under infinity is a real number's. -/
theorem real_of_lt {s : Shape} (X : FVec Ideal s .f32) (b : S_.BroadcastsInDim s (![] : Fin 0 → Fin s.rank)) (i : s.Idx)
    (h : cmpf .olt (Host.absf X) (broadcastInDim s ![] b (constant S_ .f32 0x7F800000#32)) i = 1#1) : ∃ r : ℝ, X i = ((r : ℝ) : EReal) := by
  have h' : BitVec.ofBool (decide ((max (X i) (-(X i)) : EReal) < (Ideal.ofBits FTy.f32 0x7F800000#32 : EReal))) = 1#1 := h
  have e : (Ideal.ofBits FTy.f32 0x7F800000#32 : EReal) = ⊤ := by simp [Ideal.ofBits, Ideal.ieee]
  rw [e] at h'
  have hlt : (max (X i) (-(X i)) : EReal) < ⊤ := by
    by_contra hn
    rw [decide_eq_false hn] at h'
    exact absurd h' (by decide)
  have h1 : (X i : EReal) < ⊤ := lt_of_le_of_lt (le_max_left _ _) hlt
  have h2 : (-(X i : EReal)) < ⊤ := lt_of_le_of_lt (le_max_right _ _) hlt
  have h3 : (X i : EReal) ≠ ⊥ := by
    intro hb
    rw [hb] at h2
    exact absurd h2 (by simp)
  exact ⟨(X i : EReal).toReal, (EReal.coe_toReal h1.ne h3).symm⟩

variable [Facts]
open Facts

theorem lt192 (x : Fin 192) : x.val < 256 := by omega
theorem lt128 (x : Fin 128) : x.val < 256 := by omega
theorem lt64 (x : Fin 64) : x.val < 128 := by omega
/-- Column `x` of head `h`. -/
def pcol (h : Fin 32) (x : ℕ) (hx : x < 256) : Fin 8192 := ⟨h.val * 256 + x, by omega⟩

theorem drop_all {s : Shape} {axes : List (Fin s.rank)} (h : s.ReducesTo axes S_) (i : s.Idx) (j : S_.Idx) : h.drop i = j :=
  funext fun a => a.elim0

section unpack
variable (Q : FVec Ideal S8192x8192 .f32) (KV : FVec Ideal S8192x8192 .bf16) (KR : FVec Ideal S8192x128 .bf16) (P : IVec S8192 32)

/-- The parts of the arguments that enter a score. -/
def pQ : FVec Ideal S8192x32x192 .f32 := extractStridedSlice S8192x32x192 ![0, 0, 0] (shapeCast S8192x32x256 Q shapeCasts_S8192x8192_S8192x32x256) slices_S8192x32x256_S8192x32x192_0_0_0
def pKV : FVec Ideal S8192x32x128 .f32 := extf .f32 (extractStridedSlice S8192x32x128 ![0, 0, 0] (shapeCast S8192x32x256 KV shapeCasts_S8192x8192_S8192x32x256) slices_S8192x32x256_S8192x32x128_0_0_0) bitsLt_bf16_f32
def pKR : FVec Ideal S8192x64 .f32 := extf .f32 (extractStridedSlice S8192x64 ![0, 0] KR slices_S8192x128_S8192x64_0_0) bitsLt_bf16_f32

theorem pQ_at (s : Fin 8192) (h : Fin 32) (x : Fin 192) : pQ Q (ix3 s h x) = Q (ix2 s (pcol h x.val (lt192 x))) := by
  pointwise [pQ]
  rfl
theorem pKV_at (s : Fin 8192) (h : Fin 32) (x : Fin 128) : pKV KV (ix3 s h x) = KV (ix2 s (pcol h x.val (lt128 x))) := by
  pointwise [pKV]
  rfl
theorem pKR_at (s : Fin 8192) (x : Fin 64) : pKR KR (ix2 s x) = KR (ix2 s ⟨x.val, lt64 x⟩) := by
  pointwise [pKR]

theorem fn_q : (fn (F := Ideal) Q KV KR P).1 = Host.reduce IntOp.andi (cmpf .olt (Host.absf (pQ Q)) (broadcastInDim S8192x32x192 ![] bcast_S_S8192x32x192 (constant S_ .f32 0x7F800000#32))) (constantI S_ 1 1#1) reducesTo_S8192x32x192_S_d0_1_2 h_S_ := by
  unfold fn fn_part1 pQ; dsimp only
theorem fn_kv : (fn (F := Ideal) Q KV KR P).2.1 = Host.reduce IntOp.andi (cmpf .olt (Host.absf (pKV KV)) (broadcastInDim S8192x32x128 ![] bcast_S_S8192x32x128 (constant S_ .f32 0x7F800000#32))) (constantI S_ 1 1#1) reducesTo_S8192x32x128_S_d0_1_2 h_S_ := by
  unfold fn fn_part1 pKV; dsimp only
theorem fn_kr : (fn (F := Ideal) Q KV KR P).2.2 = Host.reduce IntOp.andi (cmpf .olt (Host.absf (pKR KR)) (broadcastInDim S8192x64 ![] bcast_S_S8192x64 (constant S_ .f32 0x7F800000#32))) (constantI S_ 1 1#1) reducesTo_S8192x64_S_d0_1 h_S_ := by
  unfold fn fn_part1 pKR; dsimp only

/-- What the precondition says of the query, -/
theorem q_real (e : (fn (F := Ideal) Q KV KR P).1 = fun _ => 1#1) (s : Fin 8192) (h : Fin 32) (x : Fin 192) :
    ∃ r : ℝ, Q (ix2 s (pcol h x.val (lt192 x))) = ((r : ℝ) : EReal) := by
  rw [fn_q] at e
  rw [← pQ_at Q s h x]
  exact real_of_lt (pQ Q) bcast_S_S8192x32x192 _ (all_of_reduce _ _ reducesTo_S8192x32x192_S_d0_1_2 h_S_ ix0 (congrFun e ix0) (ix3 s h x) (drop_all _ _ _))
/-- of the keys, -/
theorem kv_real (e : (fn (F := Ideal) Q KV KR P).2.1 = fun _ => 1#1) (s : Fin 8192) (h : Fin 32) (x : Fin 128) :
    ∃ r : ℝ, KV (ix2 s (pcol h x.val (lt128 x))) = ((r : ℝ) : EReal) := by
  rw [fn_kv] at e
  rw [← pKV_at KV s h x]
  exact real_of_lt (pKV KV) bcast_S_S8192x32x128 _ (all_of_reduce _ _ reducesTo_S8192x32x128_S_d0_1_2 h_S_ ix0 (congrFun e ix0) (ix3 s h x) (drop_all _ _ _))
/-- and of the rotary key. -/
theorem kr_real (e : (fn (F := Ideal) Q KV KR P).2.2 = fun _ => 1#1) (s : Fin 8192) (x : Fin 64) :
    ∃ r : ℝ, KR (ix2 s ⟨x.val, lt64 x⟩) = ((r : ℝ) : EReal) := by
  rw [fn_kr] at e
  rw [← pKR_at KR s x]
  exact real_of_lt (pKR KR) bcast_S_S8192x64 _ (all_of_reduce _ _ reducesTo_S8192x64_S_d0_1 h_S_ ix0 (congrFun e ix0) (ix2 s x) (drop_all _ _ _))
end unpack

end Cert.Pre_finite_scores.Mla
end
-- ==== Proof.Moe.Body.lean ====
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pointwise
public import Idealize.ShloMosaic.PureOps.Ideal
public import Idealize.ShloMosaic.Lib.Pipeline.ReadBack
public import Idealize.ShloMosaic.Lib.Tactic.Stretches

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

/-! What the body of one grid point does, at any float operations. -/

variable {F : FTy → Type} [FloatOps F]

local notation "𝕄" => MT nD τ sig Unit (Elt F) ℕ (UR sig nD τ) ℕ

/-- Entry `k` of the table, its last entry when there is none. -/
def entry (T : S97.Idx → BitVec 32) (k : ℕ) : BitVec 32 := T (fun a => ⟨min k 96, by obtain rfl : a = 0 := Subsingleton.elim _ _; show min k 96 < 97; omega⟩)

theorem off1_eq (i : grid0.Coords) : k0_off1 i = ![(i 0).val] := by
  have h : (i 0).val < 96 := (i 0).isLt
  funext a
  obtain rfl : a = 0 := Subsingleton.elim _ _
  show (BitVec.ofNat 32 (i 0).val).toNat = (i 0).val
  rw [BitVec.toNat_ofNat]; exact Nat.mod_eq_of_lt (by omega)

/-- A word of the table loaded. -/
theorem load_word (v : View sig .tc .smem S97 .i32) (f : v.ty.Contents (Elt F)) {off : Fin 1 → ℕ} (inb : ∀ a, off a + S1.size a ≤ S97.size a)
    (x : (Rect.unit (s := S97) off S1.size inb).toLoadRect.shape.Idx) (k : ℕ) (hk : k ≤ 96) (ho : off = ![k]) :
    v.readAt (Elt F) (Rect.unit (s := S97) off S1.size inb).toLoadRect f x = entry (v.read (Elt F) f) k := by
  subst ho
  refine congrArg (v.read (Elt F) f) (funext fun a => Fin.ext ?_)
  obtain rfl : a = 0 := Subsingleton.elim _ _
  have hx : (x 0).val < 1 := (x 0).isLt
  show k + 1 * (x 0).val = min k 96
  omega

set_option maxHeartbeats 2000000 in
/-- A tile past the used ones: its output block becomes zero. -/
theorem body_unused (c : Dev nD) (E : Set ℕ) (i : grid0.Coords) (q : PosShare TreeShare) (arg1 : Memref sig .tc .smem S97 .i32) (harg1 : arg1.IsWhole) (arg2 : Memref sig .tc .vmem S256x2048 .i32) (harg2 : arg2.IsWhole) (arg3 : Memref sig .tc .vmem S256x128 .i32) (harg3 : arg3.IsWhole) (arg4 : Memref sig .tc .vmem S1x1x4096x256 .f32) (harg4 : arg4.IsWhole) (arg5 : Memref sig .tc .vmem S1x1x4096x256 .f32) (harg5 : arg5.IsWhole) (arg6 : Memref sig .tc .vmem S1x1x256x4096 .f32) (harg6 : arg6.IsWhole) (arg7 : Memref sig .tc .vmem S256x4096 .f32) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S256x4096 .bf16) (harg10 : arg10.IsWhole)
    (T : Vec F S97 .i32)
    (hc1 : k0_cond1 i (entry T 96) = 1#1) (hc2 : ¬ k0_cond2 i (entry T 96) = 1#1)
    (K : PUnit → sProp 𝕄) :
    iprop(owns (c : Thread nD τ) arg1 q T ∗ (∃ d, owns (c : Thread nD τ) arg7 fullShare d)
      ∗ ((owns (c : Thread nD τ) arg1 q T ∗ owns (c : Thread nD τ) arg7 fullShare (k0_pay1 (F := F))) -∗ K ⟨⟩))
    ⊢ wp frame (wpE (defs₀ (F := F)) Variants.none (c : Thread nD τ) none) E (cc0_moe_experts_l0 (F := F) i arg1 harg1 arg2 harg2 arg3 harg3 arg4 harg4 arg5 harg5 arg6 harg6 arg7 harg7 arg8 harg8 arg9 harg9 arg10 harg10) K := by
  simp only [cc0_moe_experts_l0_eq_skeleton]
  unfold cc0_moe_experts_l0_skel
  simp only [k0_part1_eq_skeleton]
  unfold owns
  iintro ⟨⟨%f1, %hf1, H1⟩, ⟨%d7, %f7, %hf7, H7⟩, Hk⟩
  have e96 : ∀ x, View.readAt (Elt F) arg1.view (Rect.unit (s := S97) ![96] S1.size inb_S97_S1_96).toLoadRect f1 x = entry T 96 :=
    fun x => (load_word arg1.view f1 _ x 96 le_rfl rfl).trans (by rw [hf1])
  have hc1' : k0_cond1 i (View.readAt (Elt F) arg1.view (Rect.unit (s := S97) ![96] S1.size inb_S97_S1_96).toLoadRect f1 (Shape.Idx.first (numel1_S1.symm ▸ Nat.one_pos))) = 1#1 := by rw [e96]; exact hc1
  have hc2' : ¬ k0_cond2 i (View.readAt (Elt F) arg1.view (Rect.unit (s := S97) ![96] S1.size inb_S97_S1_96).toLoadRect f1 (Shape.Idx.first (numel1_S1.symm ▸ Nat.one_pos))) = 1#1 := by rw [e96]; exact hc2
  sl_exec
  sl_step
  iapply Hk
  isplitl [H1]; · iexists _; isplitr; · ipureintro; exact hf1
                  iexact H1
  iexists _; isplitr [H7]; swap; · iexact H7
  ipureintro
  exact View.read_writes_full arg7.view f7 _ _ []

/-- What was just stored whole, loaded back whole. -/
theorem cov_full {s : Shape} {e : EltTy} (v : View sig .tc .vmem s e) {off : Fin s.rank → ℕ} (hz : ∀ a, off a = 0) (inb inb' : ∀ a, off a + s.size a ≤ s.size a)
    (w : Vec F s e) :
    v.readCov [⟨Rect.unit (s := s) off s.size inb, w⟩] (Rect.unit (s := s) off s.size inb').toLoadRect = w := by
  funext j
  refine View.read_writes_cons_unit_of_mem v v.junk inb w [] ((Rect.unit (s := s) off s.size inb').toLoadRect.idx j) j rfl (fun a => ?_)
  show off a + 1 * (j a).val = off a + (j a).val
  omega
theorem cov_a (v : View sig .tc .vmem S4096x256 .bf16) (inb inb' : ∀ a, ![0, 0] a + ![4096, 256] a ≤ S4096x256.size a) (w : Vec F S4096x256 .bf16) :
    v.readCov [⟨Rect.unit (s := S4096x256) ![0, 0] ![4096, 256] inb, w⟩] (Rect.unit (s := S4096x256) ![0, 0] ![4096, 256] inb').toLoadRect = w :=
  cov_full v (by intro a; fin_cases a <;> rfl) inb inb' w
theorem cov_b (v : View sig .tc .vmem S256x4096 .bf16) (inb inb' : ∀ a, ![0, 0] a + ![256, 4096] a ≤ S256x4096.size a) (w : Vec F S256x4096 .bf16) :
    v.readCov [⟨Rect.unit (s := S256x4096) ![0, 0] ![256, 4096] inb, w⟩] (Rect.unit (s := S256x4096) ![0, 0] ![256, 4096] inb').toLoadRect = w :=
  cov_full v (by intro a; fin_cases a <;> rfl) inb inb' w

/-- Whether the tile's expert is not the one of the tile before it. -/
def refill (i : grid0.Coords) (v1 v13 : BitVec 32) : BitVec 1 :=
  Scalar.cmpi .ne (Scalar.extui (Scalar.ori (Scalar.cmpi .eq (BitVec.ofNat 32 (i 0).val) 0#32) (Scalar.cmpi .ne v1 v13)) : BitVec 32) 0#32

theorem off2_eq (i : grid0.Coords) : k0_off2 i = ![(i 0).val - 1] := by
  have h : (i 0).val < 96 := (i 0).isLt
  have key : ∀ n : Fin 96, (Scalar.maxsi (Scalar.subi (BitVec.ofNat 32 n.val) 1#32) 0#32).toNat = n.val - 1 := by decide
  funext a
  obtain rfl : a = 0 := Subsingleton.elim _ _
  exact key ⟨(i 0).val, h⟩

set_option maxHeartbeats 2000000 in
/-- A used tile whose expert is not the one before it: the expert's weights are cast, then the output block is computed. -/
theorem body_fill (c : Dev nD) (E : Set ℕ) (i : grid0.Coords) (q : PosShare TreeShare) (arg1 : Memref sig .tc .smem S97 .i32) (harg1 : arg1.IsWhole) (arg2 : Memref sig .tc .vmem S256x2048 .i32) (harg2 : arg2.IsWhole) (arg3 : Memref sig .tc .vmem S256x128 .i32) (harg3 : arg3.IsWhole) (arg4 : Memref sig .tc .vmem S1x1x4096x256 .f32) (harg4 : arg4.IsWhole) (arg5 : Memref sig .tc .vmem S1x1x4096x256 .f32) (harg5 : arg5.IsWhole) (arg6 : Memref sig .tc .vmem S1x1x256x4096 .f32) (harg6 : arg6.IsWhole) (arg7 : Memref sig .tc .vmem S256x4096 .f32) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S256x4096 .bf16) (harg10 : arg10.IsWhole)
    (T : Vec F S97 .i32) (x0 : Vec F S256x2048 .i32) (x1 : Vec F S256x128 .i32) (x2 x3 : Vec F S1x1x4096x256 .f32) (x4 : Vec F S1x1x256x4096 .f32)
    (hc1 : ¬ k0_cond1 i (entry T 96) = 1#1) (hc2 : k0_cond2 i (entry T 96) = 1#1) (hr : refill i (entry T (i 0).val) (entry T ((i 0).val - 1)) = 1#1)
    (K : PUnit → sProp 𝕄) :
    iprop(owns (c : Thread nD τ) arg1 q T ∗ owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
      ∗ ((owns (c : Thread nD τ) arg1 q T ∗ owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay2 (k0_pay6 (entry T (i 0).val) x0 (k0_pay3 x2) (k0_pay4 x3) x1) (k0_pay5 x4)) ∗ owns (c : Thread nD τ) arg8 fullShare (k0_pay3 x2) ∗ owns (c : Thread nD τ) arg9 fullShare (k0_pay4 x3) ∗ owns (c : Thread nD τ) arg10 fullShare (k0_pay5 x4)) -∗ K ⟨⟩))
    ⊢ wp frame (wpE (defs₀ (F := F)) Variants.none (c : Thread nD τ) none) E (cc0_moe_experts_l0 (F := F) i arg1 harg1 arg2 harg2 arg3 harg3 arg4 harg4 arg5 harg5 arg6 harg6 arg7 harg7 arg8 harg8 arg9 harg9 arg10 harg10) K := by
  simp only [cc0_moe_experts_l0_eq_skeleton]
  unfold cc0_moe_experts_l0_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, %hf7, H7⟩, ⟨%d8, %f8, %hf8, H8⟩, ⟨%d9, %f9, %hf9, H9⟩, ⟨%d10, %f10, %hf10, H10⟩, Hk⟩
  have hi : (i 0).val < 96 := (i 0).isLt
  have e96 : ∀ x, View.readAt (Elt F) arg1.view (Rect.unit (s := S97) ![96] S1.size inb_S97_S1_96).toLoadRect f1 x = entry T 96 := fun x => (load_word arg1.view f1 _ x 96 le_rfl rfl).trans (by rw [hf1])
  have e1 : ∀ x, View.readAt (Elt F) arg1.view (Rect.unit (s := S97) (k0_off1 i) S1.size (k0_off1_inb i)).toLoadRect f1 x = entry T (i 0).val := fun x => (load_word arg1.view f1 _ x (i 0).val (by omega) (off1_eq i)).trans (by rw [hf1])
  have e2 : ∀ x, View.readAt (Elt F) arg1.view (Rect.unit (s := S97) (k0_off2 i) S1.size (k0_off2_inb i)).toLoadRect f1 x = entry T ((i 0).val - 1) := fun x => (load_word arg1.view f1 _ x ((i 0).val - 1) (by omega) (off2_eq i)).trans (by rw [hf1])
  have hc1' : ¬ k0_cond1 i (View.readAt (Elt F) arg1.view (Rect.unit (s := S97) ![96] S1.size inb_S97_S1_96).toLoadRect f1 (Shape.Idx.first (numel1_S1.symm ▸ Nat.one_pos))) = 1#1 := by rw [e96]; exact hc1
  have hc2' : k0_cond2 i (View.readAt (Elt F) arg1.view (Rect.unit (s := S97) ![96] S1.size inb_S97_S1_96).toLoadRect f1 (Shape.Idx.first (numel1_S1.symm ▸ Nat.one_pos))) = 1#1 := by rw [e96]; exact hc2
  have hr' : Scalar.cmpi .ne (Scalar.extui (Scalar.ori (Scalar.cmpi .eq (BitVec.ofNat 32 (i 0).val) 0#32) (Scalar.cmpi .ne (View.readAt (Elt F) arg1.view (Rect.unit (s := S97) (k0_off1 i) S1.size (k0_off1_inb i)).toLoadRect f1 (Shape.Idx.first (numel1_S1.symm ▸ Nat.one_pos))) (View.readAt (Elt F) arg1.view (Rect.unit (s := S97) (k0_off2 i) S1.size (k0_off2_inb i)).toLoadRect f1 (Shape.Idx.first (numel1_S1.symm ▸ Nat.one_pos)))))) 0#32 = 1#1 := by
    rw [e1, e2]; exact hr
  sl_exec
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  have c2 : ∀ inb, arg2.view.readAt (Elt F) (Rect.unit (s := S256x2048) ![0, 0] S256x2048.size inb).toLoadRect f2 = x0 := fun inb => (View.readAt_full _ _ _).trans hf2
  have c3 : ∀ inb, arg3.view.readAt (Elt F) (Rect.unit (s := S256x128) ![0, 0] S256x128.size inb).toLoadRect f3 = x1 := fun inb => (View.readAt_full _ _ _).trans hf3
  have c4 : ∀ inb, arg4.view.readAt (Elt F) (Rect.unit (s := S1x1x4096x256) ![0, 0, 0, 0] S1x1x4096x256.size inb).toLoadRect f4 = x2 := fun inb => (View.readAt_full _ _ _).trans hf4
  have c5 : ∀ inb, arg5.view.readAt (Elt F) (Rect.unit (s := S1x1x4096x256) ![0, 0, 0, 0] S1x1x4096x256.size inb).toLoadRect f5 = x3 := fun inb => (View.readAt_full _ _ _).trans hf5
  have c6 : ∀ inb, arg6.view.readAt (Elt F) (Rect.unit (s := S1x1x256x4096) ![0, 0, 0, 0] S1x1x256x4096.size inb).toLoadRect f6 = x4 := fun inb => (View.readAt_full _ _ _).trans hf6
  isplitl [H7]
  · iexists _; isplitr [H7]; swap; · iexact H7
    ipureintro
    sl_open_run
    refine (View.read_writes_full arg7.view f7 _ _ []).trans ?_
    simp only [c2, c3, c4, c5, c6, e1, cov_a, cov_b]
  isplitl [H8]
  · iexists _; isplitr [H8]; swap; · iexact H8
    ipureintro
    refine (View.read_writes_full arg8.view f8 _ _ []).trans ?_
    simp only [c2, c3, c4, c5, c6]
  isplitl [H9]
  · iexists _; isplitr [H9]; swap; · iexact H9
    ipureintro
    refine (View.read_writes_full arg9.view f9 _ _ []).trans ?_
    simp only [c2, c3, c4, c5, c6]
  iexists _; isplitr [H10]; swap; · iexact H10
  ipureintro
  refine (View.read_writes_full arg10.view f10 _ _ []).trans ?_
  simp only [c2, c3, c4, c5, c6]

set_option maxHeartbeats 2000000 in
/-- A used tile whose expert is the one before it: the output block is computed over the weights kept. -/
theorem body_keep (c : Dev nD) (E : Set ℕ) (i : grid0.Coords) (q : PosShare TreeShare) (arg1 : Memref sig .tc .smem S97 .i32) (harg1 : arg1.IsWhole) (arg2 : Memref sig .tc .vmem S256x2048 .i32) (harg2 : arg2.IsWhole) (arg3 : Memref sig .tc .vmem S256x128 .i32) (harg3 : arg3.IsWhole) (arg4 : Memref sig .tc .vmem S1x1x4096x256 .f32) (harg4 : arg4.IsWhole) (arg5 : Memref sig .tc .vmem S1x1x4096x256 .f32) (harg5 : arg5.IsWhole) (arg6 : Memref sig .tc .vmem S1x1x256x4096 .f32) (harg6 : arg6.IsWhole) (arg7 : Memref sig .tc .vmem S256x4096 .f32) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S256x4096 .bf16) (harg10 : arg10.IsWhole)
    (T : Vec F S97 .i32) (x0 : Vec F S256x2048 .i32) (x1 : Vec F S256x128 .i32) (s0 s1 : Vec F S4096x256 .bf16) (s2 : Vec F S256x4096 .bf16)
    (hc1 : ¬ k0_cond1 i (entry T 96) = 1#1) (hc2 : k0_cond2 i (entry T 96) = 1#1) (hr : ¬ refill i (entry T (i 0).val) (entry T ((i 0).val - 1)) = 1#1)
    (K : PUnit → sProp 𝕄) :
    iprop(owns (c : Thread nD τ) arg1 q T ∗ owns (c : Thread nD τ) arg2 fullShare x0 ∗ owns (c : Thread nD τ) arg3 fullShare x1 ∗ (∃ d, owns (c : Thread nD τ) arg7 fullShare d) ∗ owns (c : Thread nD τ) arg8 fullShare s0 ∗ owns (c : Thread nD τ) arg9 fullShare s1 ∗ owns (c : Thread nD τ) arg10 fullShare s2
      ∗ ((owns (c : Thread nD τ) arg1 q T ∗ owns (c : Thread nD τ) arg2 fullShare x0 ∗ owns (c : Thread nD τ) arg3 fullShare x1 ∗ owns (c : Thread nD τ) arg7 fullShare (k0_pay2 (k0_pay6 (entry T (i 0).val) x0 s0 s1 x1) s2) ∗ owns (c : Thread nD τ) arg8 fullShare s0 ∗ owns (c : Thread nD τ) arg9 fullShare s1 ∗ owns (c : Thread nD τ) arg10 fullShare s2) -∗ K ⟨⟩))
    ⊢ wp frame (wpE (defs₀ (F := F)) Variants.none (c : Thread nD τ) none) E (cc0_moe_experts_l0 (F := F) i arg1 harg1 arg2 harg2 arg3 harg3 arg4 harg4 arg5 harg5 arg6 harg6 arg7 harg7 arg8 harg8 arg9 harg9 arg10 harg10) K := by
  simp only [cc0_moe_experts_l0_eq_skeleton]
  unfold cc0_moe_experts_l0_skel
  simp only [k0_part1_eq_skeleton]
  unfold owns
  iintro ⟨⟨%f1, %hf1, H1⟩, ⟨%f2, %hf2, H2⟩, ⟨%f3, %hf3, H3⟩, ⟨%d7, %f7, %hf7, H7⟩, ⟨%f8, %hf8, H8⟩, ⟨%f9, %hf9, H9⟩, ⟨%f10, %hf10, H10⟩, Hk⟩
  have hi : (i 0).val < 96 := (i 0).isLt
  have e96 : ∀ x, View.readAt (Elt F) arg1.view (Rect.unit (s := S97) ![96] S1.size inb_S97_S1_96).toLoadRect f1 x = entry T 96 := fun x => (load_word arg1.view f1 _ x 96 le_rfl rfl).trans (by rw [hf1])
  have e1 : ∀ x, View.readAt (Elt F) arg1.view (Rect.unit (s := S97) (k0_off1 i) S1.size (k0_off1_inb i)).toLoadRect f1 x = entry T (i 0).val := fun x => (load_word arg1.view f1 _ x (i 0).val (by omega) (off1_eq i)).trans (by rw [hf1])
  have e2 : ∀ x, View.readAt (Elt F) arg1.view (Rect.unit (s := S97) (k0_off2 i) S1.size (k0_off2_inb i)).toLoadRect f1 x = entry T ((i 0).val - 1) := fun x => (load_word arg1.view f1 _ x ((i 0).val - 1) (by omega) (off2_eq i)).trans (by rw [hf1])
  have hc1' : ¬ k0_cond1 i (View.readAt (Elt F) arg1.view (Rect.unit (s := S97) ![96] S1.size inb_S97_S1_96).toLoadRect f1 (Shape.Idx.first (numel1_S1.symm ▸ Nat.one_pos))) = 1#1 := by rw [e96]; exact hc1
  have hc2' : k0_cond2 i (View.readAt (Elt F) arg1.view (Rect.unit (s := S97) ![96] S1.size inb_S97_S1_96).toLoadRect f1 (Shape.Idx.first (numel1_S1.symm ▸ Nat.one_pos))) = 1#1 := by rw [e96]; exact hc2
  have hr' : ¬ Scalar.cmpi .ne (Scalar.extui (Scalar.ori (Scalar.cmpi .eq (BitVec.ofNat 32 (i 0).val) 0#32) (Scalar.cmpi .ne (View.readAt (Elt F) arg1.view (Rect.unit (s := S97) (k0_off1 i) S1.size (k0_off1_inb i)).toLoadRect f1 (Shape.Idx.first (numel1_S1.symm ▸ Nat.one_pos))) (View.readAt (Elt F) arg1.view (Rect.unit (s := S97) (k0_off2 i) S1.size (k0_off2_inb i)).toLoadRect f1 (Shape.Idx.first (numel1_S1.symm ▸ Nat.one_pos)))))) 0#32 = 1#1 := by
    rw [e1, e2]; exact hr
  sl_exec
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  have c2 : ∀ inb, arg2.view.readAt (Elt F) (Rect.unit (s := S256x2048) ![0, 0] S256x2048.size inb).toLoadRect f2 = x0 := fun inb => (View.readAt_full _ _ _).trans hf2
  have c3 : ∀ inb, arg3.view.readAt (Elt F) (Rect.unit (s := S256x128) ![0, 0] S256x128.size inb).toLoadRect f3 = x1 := fun inb => (View.readAt_full _ _ _).trans hf3
  have c8 : ∀ inb, arg8.view.readAt (Elt F) (Rect.unit (s := S4096x256) ![0, 0] S4096x256.size inb).toLoadRect f8 = s0 := fun inb => (View.readAt_full _ _ _).trans hf8
  have c9 : ∀ inb, arg9.view.readAt (Elt F) (Rect.unit (s := S4096x256) ![0, 0] S4096x256.size inb).toLoadRect f9 = s1 := fun inb => (View.readAt_full _ _ _).trans hf9
  have c10 : ∀ inb, arg10.view.readAt (Elt F) (Rect.unit (s := S256x4096) ![0, 0] S256x4096.size inb).toLoadRect f10 = s2 := fun inb => (View.readAt_full _ _ _).trans hf10
  isplitl [H7]
  · iexists _; isplitr [H7]; swap; · iexact H7
    ipureintro
    sl_open_run
    refine (View.read_writes_full arg7.view f7 _ _ []).trans ?_
    simp only [c2, c3, c8, c9, c10, e1]
  isplitl [H8]
  · iexists _; isplitr [H8]; swap; · iexact H8
    ipureintro
    exact hf8
  isplitl [H9]
  · iexists _; isplitr [H9]; swap; · iexact H9
    ipureintro
    exact hf9
  iexists _; isplitr [H10]; swap; · iexact H10
  ipureintro
  exact hf10

end Cert.Kernel2Ideal.Moe

end
-- ==== Proof.Moe.Table.lean ====
module

public import proofs.«01_k».proof.Proof.Moe.Body

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

/-! The table: what the precondition says of it, and the index maps in closed form. -/

/-- Every tile's expert is one of the experts, and between one and all of the tiles are used. -/
structure TableOk (T : S97.Idx → BitVec 32) : Prop where
  expert : ∀ k, k < 96 → (entry T k).toNat < 32
  pos : 1 ≤ (entry T 96).toNat
  le : (entry T 96).toNat ≤ 96

variable {F : FTy → Type} [FloatOps F]

theorem at_eq (pf : pre0.Contents (Elt F)) {off : Fin 1 → ℕ} (inb : ∀ a, off a + S1.size a ≤ S97.size a) (h1 : S1.numel = 1) (k : ℕ) (hk : k ≤ 96) (ho : off = ![k]) :
    pf.at 0 (Rect.unit (s := S97) off S1.size inb) h1 = entry (pf 0) k := by
  subst ho
  have key : ∀ (T : S97.Idx → BitVec 32) (x : S1.Idx), T ((Rect.unit (s := S97) ![k] S1.size inb).emb x) = entry T k := fun T x => by
    refine congrArg T (funext fun a => Fin.ext ?_)
    obtain rfl : a = 0 := Subsingleton.elim _ _
    have hx : (x 0).val < 1 := (x 0).isLt
    show k + 1 * (x 0).val = min k 96
    omega
  exact key _ _

theorem ne_zero_iff (b : BitVec 1) : Scalar.cmpi .ne (Scalar.extui b) 0#32 = 1#1 ↔ b = 1#1 := by
  rcases BitVec.eq_zero_or_eq_one b with rfl | rfl <;> decide
theorem xor_iff (b : BitVec 1) : Scalar.xori b 1#1 = 1#1 ↔ ¬ b = 1#1 := by
  rcases BitVec.eq_zero_or_eq_one b with rfl | rfl <;> decide
theorem or_iff (b d : BitVec 1) : Scalar.ori b d = 1#1 ↔ (b = 1#1 ∨ d = 1#1) := by
  rcases BitVec.eq_zero_or_eq_one b with rfl | rfl <;> rcases BitVec.eq_zero_or_eq_one d with rfl | rfl <;> decide
theorem lt_iff (t : ℕ) (ht : t < 96) (v : BitVec 32) (hv : v.toNat ≤ 96) : Scalar.cmpi .slt (BitVec.ofNat 32 t) v = 1#1 ↔ t < v.toNat := by
  have h1 : (BitVec.ofNat 32 t).toNat = t := by rw [BitVec.toNat_ofNat]; exact Nat.mod_eq_of_lt (by omega)
  unfold Scalar.cmpi
  rw [WordCmp.cmpi_slt_of_lt (by rw [h1]; omega) (by omega), WordCmp.ofBool_decide_eq_one_iff, h1]

theorem min_eq (T : S97.Idx → BitVec 32) (hT : TableOk T) (t : ℕ) (ht : t < 96) :
    (Scalar.minsi (BitVec.ofNat 32 t) (Scalar.subi (entry T 96) 1#32)).toNat = min t ((entry T 96).toNat - 1) := by
  have h1 := hT.pos
  have h2 := hT.le
  generalize entry T 96 = v at h1 h2 ⊢
  have hs : (Scalar.subi v 1#32).toNat = v.toNat - 1 := by
    show (v - 1#32).toNat = _
    rw [BitVec.toNat_sub]; simp only [BitVec.toNat_ofNat]; omega
  have ht' : (BitVec.ofNat 32 t).toNat = t := by rw [BitVec.toNat_ofNat]; exact Nat.mod_eq_of_lt (by omega)
  have hl := lt_iff t ht (Scalar.subi v 1#32) (by omega)
  rw [hs] at hl
  have hc : Scalar.cmpi .slt (BitVec.ofNat 32 t) (Scalar.subi v 1#32) = BitVec.ofBool ((BitVec.ofNat 32 t).slt (Scalar.subi v 1#32)) := rfl
  rw [hc, WordCmp.ofBool_eq_one_iff] at hl
  show (if (BitVec.ofNat 32 t).slt (Scalar.subi v 1#32) then BitVec.ofNat 32 t else Scalar.subi v 1#32).toNat = _
  by_cases h : t < v.toNat - 1
  · rw [if_pos (hl.2 h), ht']; omega
  · rw [if_neg (fun h' => h (hl.1 h')), hs]; omega

theorem tr0 (pf : pre0.Contents (Elt F)) (hT : TableOk (pf 0)) (i : grid0.Coords) (h1 h2) :
    cc0_transform_0 h1 h2 pf i = ![min (i 0).val ((entry (pf 0) 96).toNat - 1), 0] := by
  have hi : (i 0).val < 96 := (i 0).isLt
  rw [← min_eq _ hT _ hi, ← at_eq pf h1 h2 96 le_rfl rfl]; rfl
theorem tr1 (pf : pre0.Contents (Elt F)) (hT : TableOk (pf 0)) (i : grid0.Coords) (h1 h2) :
    cc0_transform_1 h1 h2 pf i = ![min (i 0).val ((entry (pf 0) 96).toNat - 1), 16] := by
  have hi : (i 0).val < 96 := (i 0).isLt
  rw [← min_eq _ hT _ hi, ← at_eq pf h1 h2 96 le_rfl rfl]; rfl
theorem tr2 (pf : pre0.Contents (Elt F)) (i : grid0.Coords) (h1 h2) :
    cc0_transform_2 h1 h2 pf i = ![0, (entry (pf 0) (i 0).val).toNat, 0, 0] := by
  have hi : (i 0).val < 96 := (i 0).isLt
  rw [← at_eq pf (h1 i) h2 (i 0).val (by omega) (off1_eq i)]; rfl
theorem tr3 (pf : pre0.Contents (Elt F)) (i : grid0.Coords) (h1 h2) :
    cc0_transform_3 h1 h2 pf i = ![0, (entry (pf 0) (i 0).val).toNat, 0, 0] := by
  have hi : (i 0).val < 96 := (i 0).isLt
  rw [← at_eq pf (h1 i) h2 (i 0).val (by omega) (off1_eq i)]; rfl
theorem tr4 (pf : pre0.Contents (Elt F)) (i : grid0.Coords) (h1 h2) :
    cc0_transform_4 h1 h2 pf i = ![0, (entry (pf 0) (i 0).val).toNat, 0, 0] := by
  have hi : (i 0).val < 96 := (i 0).isLt
  rw [← at_eq pf (h1 i) h2 (i 0).val (by omega) (off1_eq i)]; rfl

/-- Every block the maps name is inside its array. -/
theorem ok_of (pf : pre0.Contents (Elt F)) (hT : TableOk (pf 0)) : ok0 pf := by
  have hp := hT.pos
  have hl := hT.le
  refine ⟨fun i => ⟨fun a => ?_, .inl rfl⟩, fun i => ⟨fun a => ?_, .inl rfl⟩, fun i => ⟨fun a => ?_, .inl rfl⟩, fun i => ⟨fun a => ?_, .inl rfl⟩, fun i => ⟨fun a => ?_, .inl rfl⟩⟩
  · have hi : (i 0).val < 96 := (i 0).isLt
    rw [tr0 pf hT]
    match a with
    | ⟨0, _⟩ => show (min (i 0).val ((entry (pf 0) 96).toNat - 1) + 1) * 256 ≤ 24576; omega
    | ⟨1, _⟩ => show (0 + 1) * 2048 ≤ 2048; omega
  · have hi : (i 0).val < 96 := (i 0).isLt
    rw [tr1 pf hT]
    match a with
    | ⟨0, _⟩ => show (min (i 0).val ((entry (pf 0) 96).toNat - 1) + 1) * 256 ≤ 24576; omega
    | ⟨1, _⟩ => show (16 + 1) * 128 ≤ 2176; omega
  · have he := hT.expert (i 0).val (i 0).isLt
    rw [tr2 pf]
    match a with
    | ⟨0, _⟩ => show (0 + 1) * 1 ≤ 4; omega
    | ⟨1, _⟩ => show ((entry (pf 0) (i 0).val).toNat + 1) * 1 ≤ 32; omega
    | ⟨2, _⟩ => show (0 + 1) * 4096 ≤ 4096; omega
    | ⟨3, _⟩ => show (0 + 1) * 256 ≤ 256; omega
  · have he := hT.expert (i 0).val (i 0).isLt
    rw [tr3 pf]
    match a with
    | ⟨0, _⟩ => show (0 + 1) * 1 ≤ 4; omega
    | ⟨1, _⟩ => show ((entry (pf 0) (i 0).val).toNat + 1) * 1 ≤ 32; omega
    | ⟨2, _⟩ => show (0 + 1) * 4096 ≤ 4096; omega
    | ⟨3, _⟩ => show (0 + 1) * 256 ≤ 256; omega
  · have he := hT.expert (i 0).val (i 0).isLt
    rw [tr4 pf]
    match a with
    | ⟨0, _⟩ => show (0 + 1) * 1 ≤ 4; omega
    | ⟨1, _⟩ => show ((entry (pf 0) (i 0).val).toNat + 1) * 1 ≤ 32; omega
    | ⟨2, _⟩ => show (0 + 1) * 256 ≤ 256; omega
    | ⟨3, _⟩ => show (0 + 1) * 4096 ≤ 4096; omega

/-- Whether tile `t` is one of the used tiles. -/
theorem cond2_iff (T : S97.Idx → BitVec 32) (hT : TableOk T) (i : grid0.Coords) : k0_cond2 i (entry T 96) = 1#1 ↔ (i 0).val < (entry T 96).toNat :=
  (ne_zero_iff _).trans (lt_iff _ (i 0).isLt _ hT.le)
theorem cond1_iff (T : S97.Idx → BitVec 32) (hT : TableOk T) (i : grid0.Coords) : k0_cond1 i (entry T 96) = 1#1 ↔ ¬ (i 0).val < (entry T 96).toNat :=
  (ne_zero_iff _).trans ((xor_iff _).trans (not_congr (lt_iff _ (i 0).isLt _ hT.le)))
/-- Whether the expert's weights are cast at tile `t`. -/
theorem refill_iff (i : grid0.Coords) (v w : BitVec 32) : refill i v w = 1#1 ↔ ((i 0).val = 0 ∨ v ≠ w) := by
  have hi : (i 0).val < 96 := (i 0).isLt
  have ht' : (BitVec.ofNat 32 (i 0).val).toNat = (i 0).val := by rw [BitVec.toNat_ofNat]; exact Nat.mod_eq_of_lt (by omega)
  refine (ne_zero_iff _).trans ((or_iff _ _).trans (or_congr ?_ ?_))
  · unfold Scalar.cmpi
    rw [WordCmp.cmpi_eq_eq_toNat, WordCmp.ofBool_decide_eq_one_iff, ht']; rfl
  · unfold Scalar.cmpi
    rw [WordCmp.cmpi_ne_eq, WordCmp.ofBool_decide_eq_one_iff]

end Cert.Kernel2Ideal.Moe

end
-- ==== Proof.Moe.Dats.lean ====
module

public import proofs.«01_k».proof.Proof.Moe.Table
public import Idealize.ShloMosaic.Lib.Claim
public import Idealize.ShloMosaic.Lib.VecWindow
public import Idealize.ShloMosaic.Lib.Pointwise
public import Idealize.ShloMosaic.PureOps.Ideal
public import Idealize.ShloMosaic.Lib.Pipeline.ValueKit

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers when the grid starts: after the slice of the words. -/
abbrev V (c : Dev nD) (b : Ref sig .tc) : Buf (Elt F) ((c : Thread nD τ).loc b) := StableHlo.after hostOps0 (fun b => m (c, b)) b

theorem hostOps0_fresh : (hostOps0 (F := F) : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The slice writes one buffer and no other. -/
theorem V_of_ne (c : Dev nD) (b : Ref sig .tc) (h : b ≠ main_v0) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact StableHlo.devRef_ne_of_ne h))

/-- The table as launched. -/
def tbl : S97.Idx → BitVec 32 := m (((0 : Dev nD) : Thread nD τ).loc main_arg1)

/-- The table's contents, as the pipeline takes them. -/
def pf : pre0.Contents (Elt F) := fun k => V m 0 (pre0.ref k)

theorem pf_zero : pf m 0 = tbl m := V_of_ne m 0 main_arg1 (by decide)

variable (hT : TableOk (tbl m))

theorem pf_ok (hT : TableOk (tbl m)) : TableOk (pf m 0) := by rw [pf_zero]; exact hT

/-- The table's contents with their side condition. -/
def adm : (p : Fin 1) → (pcfgs (F := F) p).Adm := fun _ => ⟨pf m, ok_of (pf m) (pf_ok m hT)⟩

/-- The pipeline at the table's contents. -/
abbrev cfgT : Cfg sig Λ₀ := cfg0 (adm m hT 0)

/-- Input window `w`'s block at tile `t`. -/
def iblk (c : Dev nD) (w : Fin (cfgT m hT).W) (t : Fin (cfgT m hT).N) : (((cfgT m hT).win w).xblock ((cfgT m hT).grid.coords t)).Idx → Elt F ((cfgT m hT).win w).elt :=
  (((cfgT m hT).win w).blk t).view.read (Elt F) (V m c (Pipeline.arrRef spec0 w))

theorem before_0_of {c : Dev nD} (dat : Dat τ (Elt F) Unit ℕ (UR sig nD τ) ℕ (cfgT m hT) c) (hA : dat.A 0 = V m c (Pipeline.arrRef spec0 0))
    (hafter : ∀ t, dat.after 0 t = iblk m hT c 0 t) (t : Fin (cfgT m hT).N) (d) : dat.before 0 t d = iblk m hT c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ (cfgT m hT) c) (hA : dat.A 1 = V m c (Pipeline.arrRef spec0 1))
    (hafter : ∀ t, dat.after 1 t = iblk m hT c 1 t) (t : Fin (cfgT m hT).N) (d) : dat.before 1 t d = iblk m hT c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ (cfgT m hT) c) (hA : dat.A 2 = V m c (Pipeline.arrRef spec0 2))
    (hafter : ∀ t, dat.after 2 t = iblk m hT c 2 t) (t : Fin (cfgT m hT).N) (d) : dat.before 2 t d = iblk m hT c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ (cfgT m hT) c) (hA : dat.A 3 = V m c (Pipeline.arrRef spec0 3))
    (hafter : ∀ t, dat.after 3 t = iblk m hT c 3 t) (t : Fin (cfgT m hT).N) (d) : dat.before 3 t d = iblk m hT c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ (cfgT m hT) c) (hA : dat.A 4 = V m c (Pipeline.arrRef spec0 4))
    (hafter : ∀ t, dat.after 4 t = iblk m hT c 4 t) (t : Fin (cfgT m hT).N) (d) : dat.before 4 t d = iblk m hT c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Tile `t`'s coordinates. -/
abbrev co (t : Fin (cfgT m hT).N) : grid0.Coords := (cfgT m hT).grid.coords t

theorem coords_val : ∀ t : Fin grid0.N, (grid0.coords t 0).val = t.val := by decide +kernel
theorem co_val (t : Fin (cfgT m hT).N) : (co m hT t 0).val = t.val := coords_val t
theorem lt_N (t : Fin (cfgT m hT).N) : t.val < 96 := t.isLt

/-! The blocks' places in their arrays. -/

theorem idx_0 (t : Fin (cfgT m hT).N) : ((cfgT m hT).win 0).index t = ![min t.val ((entry (tbl m) 96).toNat - 1), 0] := by
  refine (tr0 (pf m) (pf_ok m hT) (co m hT t) _ _).trans ?_
  rw [co_val, pf_zero]
theorem idx_1 (t : Fin (cfgT m hT).N) : ((cfgT m hT).win 1).index t = ![min t.val ((entry (tbl m) 96).toNat - 1), 16] := by
  refine (tr1 (pf m) (pf_ok m hT) (co m hT t) _ _).trans ?_
  rw [co_val, pf_zero]
theorem idx_2 (t : Fin (cfgT m hT).N) : ((cfgT m hT).win 2).index t = ![0, (entry (tbl m) t.val).toNat, 0, 0] := by
  refine (tr2 (pf m) (co m hT t) _ _).trans ?_
  rw [co_val, pf_zero]
theorem idx_3 (t : Fin (cfgT m hT).N) : ((cfgT m hT).win 3).index t = ![0, (entry (tbl m) t.val).toNat, 0, 0] := by
  refine (tr3 (pf m) (co m hT t) _ _).trans ?_
  rw [co_val, pf_zero]
theorem idx_4 (t : Fin (cfgT m hT).N) : ((cfgT m hT).win 4).index t = ![0, (entry (tbl m) t.val).toNat, 0, 0] := by
  refine (tr4 (pf m) (co m hT t) _ _).trans ?_
  rw [co_val, pf_zero]
theorem idx_5 (t : Fin (cfgT m hT).N) : ((cfgT m hT).win 5).index t = ![t.val, 0] := by
  refine (show cc0_transform_5 (co m hT t) = _ from ?_)
  have ht : t.val < 96 := t.isLt
  unfold cc0_transform_5
  rw [co_val]
  funext a
  match a with
  | ⟨0, _⟩ => show (BitVec.ofNat 32 t.val).toNat = t.val; rw [BitVec.toNat_ofNat]; exact Nat.mod_eq_of_lt (by omega)
  | ⟨1, _⟩ => rfl

/-- The row of the array under row `r` of tile `t`'s block, when the tile is used. -/
def row (t : Fin 96) (r : Fin 256) : Fin 24576 := ⟨256 * t.val + r.val, by omega⟩
/-- Tile `k`'s expert. -/
def expert (T : S97.Idx → BitVec 32) (hT : TableOk T) (k : Fin 96) : Fin 32 := ⟨(entry T k.val).toNat, hT.expert k.val k.isLt⟩

theorem blk_2 (c : Dev nD) (t : Fin (cfgT m hT).N) (k : Fin 4096) (f : Fin 256) :
    iblk m hT c 2 t (ix4 0 0 k f) = V m c main_arg2 (ix4 0 (expert (tbl m) hT ⟨t.val, t.isLt⟩) k f) := by
  blk_ext [iblk, expert, idx_2 m hT t]
theorem blk_3 (c : Dev nD) (t : Fin (cfgT m hT).N) (k : Fin 4096) (f : Fin 256) :
    iblk m hT c 3 t (ix4 0 0 k f) = V m c main_arg3 (ix4 0 (expert (tbl m) hT ⟨t.val, t.isLt⟩) k f) := by
  blk_ext [iblk, expert, idx_3 m hT t]
theorem blk_4 (c : Dev nD) (t : Fin (cfgT m hT).N) (f : Fin 256) (d : Fin 4096) :
    iblk m hT c 4 t (ix4 0 0 f d) = V m c main_arg4 (ix4 0 (expert (tbl m) hT ⟨t.val, t.isLt⟩) f d) := by
  blk_ext [iblk, expert, idx_4 m hT t]

/-- Whether tile `t` is used. -/
def used (t : Fin (cfgT m hT).N) : Prop := t.val < (entry (tbl m) 96).toNat

/-- The cast weights of tile `t`'s expert. -/
def wG (c : Dev nD) (t : Fin (cfgT m hT).N) : Vec F S4096x256 .bf16 := k0_pay3 (iblk m hT c 2 t)
def wU (c : Dev nD) (t : Fin (cfgT m hT).N) : Vec F S4096x256 .bf16 := k0_pay4 (iblk m hT c 3 t)
def wD (c : Dev nD) (t : Fin (cfgT m hT).N) : Vec F S256x4096 .bf16 := k0_pay5 (iblk m hT c 4 t)

open Classical in
/-- The output block at tile `t`. -/
def outsAt (c : Dev nD) (t : Fin (cfgT m hT).N) : Vec F S256x4096 .f32 :=
  if used m hT t then k0_pay2 (k0_pay6 (entry (tbl m) t.val) (iblk m hT c 0 t) (wG m hT c t) (wU m hT c t) (iblk m hT c 1 t)) (wD m hT c t) else k0_pay1

/-- The scratch memrefs. -/
abbrev sc0 : Memref sig .tc .vmem S4096x256 .bf16 := Memref.whole cc0_scratch0
abbrev sc1 : Memref sig .tc .vmem S4096x256 .bf16 := Memref.whole cc0_scratch1
abbrev sc2 : Memref sig .tc .vmem S256x4096 .bf16 := Memref.whole cc0_scratch2
/-- The table's memref. -/
abbrev tbM : Memref sig .tc .smem S97 .i32 := Memref.whole main_arg1

/-- What holds before tile `n`: the scratch buffers hold the cast weights of the tile before it, if that one is used. -/
def Keeps (c : Dev nD) (n : ℕ) (d0 d1 : Vec F S4096x256 .bf16) (d2 : Vec F S256x4096 .bf16) : Prop :=
  ∀ t : Fin (cfgT m hT).N, t.val + 1 = n → used m hT t → d0 = wG m hT c t ∧ d1 = wU m hT c t ∧ d2 = wD m hT c t

/-- The body's invariant. -/
def Inv (c : Dev nD) (n : ℕ) : sProp 𝕄 :=
  iprop((∃ d0 d1 d2, ⌜Keeps m hT c n d0 d1 d2⌝ ∗ owns (c : Thread nD τ) sc0 fullShare d0 ∗ owns (c : Thread nD τ) sc1 fullShare d1 ∗ owns (c : Thread nD τ) sc2 fullShare d2)
    ∗ (∃ r, prngReg c r) ∗ owns (c : Thread nD τ) tbM fullShare.right (tbl m))

/-! ## The pipeline's proof data -/

def dats (p : Fin 1) (c : Dev nD) : Dat τ (Elt F) Unit ℕ (UR sig nD τ) ℕ (Pipeline.pin pcfgs (adm m hT) p) c where
  A w := V m c (Pipeline.arrRef spec0 w)
  after w t := match w with
    | ⟨0, _⟩ => iblk m hT c 0 t
    | ⟨1, _⟩ => iblk m hT c 1 t
    | ⟨2, _⟩ => iblk m hT c 2 t
    | ⟨3, _⟩ => iblk m hT c 3 t
    | ⟨4, _⟩ => iblk m hT c 4 t
    | ⟨5, _⟩ => outsAt m hT c t
  Φ n := Inv m hT c n.val
  q _ := fullShare
  owed _ := 0

theorem A_eq (c : Dev nD) (w : Fin (cfgT m hT).W) : (dats m hT 0 c).A w = V m c (Pipeline.arrRef spec0 w) := by
  dsimp only [dats]

theorem after_0 (c : Dev nD) (t : Fin (cfgT m hT).N) : (dats m hT 0 c).after 0 t = iblk m hT c 0 t := by dsimp only [dats]; rfl
theorem after_1 (c : Dev nD) (t : Fin (cfgT m hT).N) : (dats m hT 0 c).after 1 t = iblk m hT c 1 t := by dsimp only [dats]; rfl
theorem after_2 (c : Dev nD) (t : Fin (cfgT m hT).N) : (dats m hT 0 c).after 2 t = iblk m hT c 2 t := by dsimp only [dats]; rfl
theorem after_3 (c : Dev nD) (t : Fin (cfgT m hT).N) : (dats m hT 0 c).after 3 t = iblk m hT c 3 t := by dsimp only [dats]; rfl
theorem after_4 (c : Dev nD) (t : Fin (cfgT m hT).N) : (dats m hT 0 c).after 4 t = iblk m hT c 4 t := by dsimp only [dats]; rfl
theorem after_5 (c : Dev nD) (t : Fin (cfgT m hT).N) : (dats m hT 0 c).after 5 t = outsAt m hT c t := by dsimp only [dats]; rfl

theorem before_0 (c : Dev nD) (t : Fin (cfgT m hT).N) (d) : (dats m hT 0 c).before 0 t d = iblk m hT c 0 t :=
  before_0_of m hT (dats m hT 0 c) (A_eq m hT c 0) (after_0 m hT c) t d
theorem before_1 (c : Dev nD) (t : Fin (cfgT m hT).N) (d) : (dats m hT 0 c).before 1 t d = iblk m hT c 1 t :=
  before_1_of m hT (dats m hT 0 c) (A_eq m hT c 1) (after_1 m hT c) t d
theorem before_2 (c : Dev nD) (t : Fin (cfgT m hT).N) (d) : (dats m hT 0 c).before 2 t d = iblk m hT c 2 t :=
  before_2_of m hT (dats m hT 0 c) (A_eq m hT c 2) (after_2 m hT c) t d
theorem before_3 (c : Dev nD) (t : Fin (cfgT m hT).N) (d) : (dats m hT 0 c).before 3 t d = iblk m hT c 3 t :=
  before_3_of m hT (dats m hT 0 c) (A_eq m hT c 3) (after_3 m hT c) t d
theorem before_4 (c : Dev nD) (t : Fin (cfgT m hT).N) (d) : (dats m hT 0 c).before 4 t d = iblk m hT c 4 t :=
  before_4_of m hT (dats m hT 0 c) (A_eq m hT c 4) (after_4 m hT c) t d

/-- The staging memrefs at tile `t`. -/
abbrev ms0 (t : Fin (cfgT m hT).N) : Memref sig .tc .vmem S256x2048 .i32 := spec0_0.stage ((cfgT m hT).slots t 0)
abbrev ms1 (t : Fin (cfgT m hT).N) : Memref sig .tc .vmem S256x128 .i32 := spec0_1.stage ((cfgT m hT).slots t 1)
abbrev ms2 (t : Fin (cfgT m hT).N) : Memref sig .tc .vmem S1x1x4096x256 .f32 := spec0_2.stage ((cfgT m hT).slots t 2)
abbrev ms3 (t : Fin (cfgT m hT).N) : Memref sig .tc .vmem S1x1x4096x256 .f32 := spec0_3.stage ((cfgT m hT).slots t 3)
abbrev ms4 (t : Fin (cfgT m hT).N) : Memref sig .tc .vmem S1x1x256x4096 .f32 := spec0_4.stage ((cfgT m hT).slots t 4)
abbrev ms5 (t : Fin (cfgT m hT).N) : Memref sig .tc .vmem S256x4096 .f32 := spec0_5.stage ((cfgT m hT).slots t 5)

/-- What the body is called with at tile `t`, -/
def bodyPre (c : Dev nD) (t : Fin (cfgT m hT).N) : sProp 𝕄 :=
  iprop((dats m hT 0 c).Φ t.castSucc ∗ (dats m hT 0 c).owesAt () t.castSucc
    ∗ (∃ d, owns (c : Thread nD τ) (ms0 m hT t) fullShare ((dats m hT 0 c).before 0 t d))
    ∗ (∃ d, owns (c : Thread nD τ) (ms1 m hT t) fullShare ((dats m hT 0 c).before 1 t d))
    ∗ (∃ d, owns (c : Thread nD τ) (ms2 m hT t) fullShare ((dats m hT 0 c).before 2 t d))
    ∗ (∃ d, owns (c : Thread nD τ) (ms3 m hT t) fullShare ((dats m hT 0 c).before 3 t d))
    ∗ (∃ d, owns (c : Thread nD τ) (ms4 m hT t) fullShare ((dats m hT 0 c).before 4 t d))
    ∗ (∃ d, owns (c : Thread nD τ) (ms5 m hT t) fullShare ((dats m hT 0 c).before 5 t d)))

/-- and what it returns. -/
def bodyPost (c : Dev nD) (t : Fin (cfgT m hT).N) : sProp 𝕄 :=
  iprop((dats m hT 0 c).Φ t.succ ∗ (dats m hT 0 c).owesAt () t.succ
    ∗ owns (c : Thread nD τ) (ms0 m hT t) fullShare ((dats m hT 0 c).after 0 t)
    ∗ owns (c : Thread nD τ) (ms1 m hT t) fullShare ((dats m hT 0 c).after 1 t)
    ∗ owns (c : Thread nD τ) (ms2 m hT t) fullShare ((dats m hT 0 c).after 2 t)
    ∗ owns (c : Thread nD τ) (ms3 m hT t) fullShare ((dats m hT 0 c).after 3 t)
    ∗ owns (c : Thread nD τ) (ms4 m hT t) fullShare ((dats m hT 0 c).after 4 t)
    ∗ owns (c : Thread nD τ) (ms5 m hT t) fullShare ((dats m hT 0 c).after 5 t))

/-- The body at tile `t`. -/
def bodyAt (t : Fin (cfgT m hT).N) : Prog (TpuEff nD τ sig (Elt F) Λ₀ .tc) PUnit :=
  cc0_moe_experts_l0 (co m hT t) tbM (Memref.isWhole_whole _) (ms0 m hT t) (Facts₀.hstage0_0 (((cfgT m hT).slots t 0).cast Facts₀.nbuf0_0)) (ms1 m hT t) (Facts₀.hstage0_1 (((cfgT m hT).slots t 1).cast Facts₀.nbuf0_1)) (ms2 m hT t) (Facts₀.hstage0_2 (((cfgT m hT).slots t 2).cast Facts₀.nbuf0_2)) (ms3 m hT t) (Facts₀.hstage0_3 (((cfgT m hT).slots t 3).cast Facts₀.nbuf0_3)) (ms4 m hT t) (Facts₀.hstage0_4 (((cfgT m hT).slots t 4).cast Facts₀.nbuf0_4)) (ms5 m hT t) (Facts₀.hstage0_5 (((cfgT m hT).slots t 5).cast Facts₀.nbuf0_5)) sc0 (Memref.isWhole_whole _) sc1 (Memref.isWhole_whole _) sc2 (Memref.isWhole_whole _)

theorem defs₀_row (t : Fin (cfgT m hT).N) :
    defs₀ (F := F) .tc (cfgT m hT).body ((cfgT m hT).bodyArgs t ((cfgT m hT).slots t)) = bodyAt m hT t := by
  unfold defs₀; rw [Defs.onTc_tc]; rfl

/-- An index whose first two axes are of size one. -/
theorem ix4_of {n k : ℕ} (y : (⟨4, ![1, 1, n, k]⟩ : Shape).Idx) : ∃ (a : Fin n) (b : Fin k), y = ix4 0 0 a b :=
  ⟨y 2, y 3, by
    funext a
    match a with
    | ⟨0, _⟩ => exact Subsingleton.elim (α := Fin 1) _ _
    | ⟨1, _⟩ => exact Subsingleton.elim (α := Fin 1) _ _
    | ⟨2, _⟩ => rfl
    | ⟨3, _⟩ => rfl⟩

/-- The same expert, the same blocks of its weights. -/
theorem same_expert (c : Dev nD) (t s : Fin (cfgT m hT).N) (h : entry (tbl m) t.val = entry (tbl m) s.val) :
    wG m hT c t = wG m hT c s ∧ wU m hT c t = wU m hT c s ∧ wD m hT c t = wD m hT c s := by
  have he : expert (tbl m) hT ⟨t.val, t.isLt⟩ = expert (tbl m) hT ⟨s.val, s.isLt⟩ := Fin.ext (show (entry (tbl m) t.val).toNat = (entry (tbl m) s.val).toNat from congrArg _ h)
  have h2 : (iblk m hT c 2 t : Vec F S1x1x4096x256 .f32) = iblk m hT c 2 s := by
    funext y
    obtain ⟨k, f, rfl⟩ := ix4_of (n := 4096) (k := 256) y
    exact (blk_2 m hT c t k f).trans ((congrArg (fun e => V m c main_arg2 (ix4 0 e k f)) he).trans (blk_2 m hT c s k f).symm)
  have h3 : (iblk m hT c 3 t : Vec F S1x1x4096x256 .f32) = iblk m hT c 3 s := by
    funext y
    obtain ⟨k, f, rfl⟩ := ix4_of (n := 4096) (k := 256) y
    exact (blk_3 m hT c t k f).trans ((congrArg (fun e => V m c main_arg3 (ix4 0 e k f)) he).trans (blk_3 m hT c s k f).symm)
  have h4 : (iblk m hT c 4 t : Vec F S1x1x256x4096 .f32) = iblk m hT c 4 s := by
    funext y
    obtain ⟨f, d, rfl⟩ := ix4_of (n := 256) (k := 4096) y
    exact (blk_4 m hT c t f d).trans ((congrArg (fun e => V m c main_arg4 (ix4 0 e f d)) he).trans (blk_4 m hT c s f d).symm)
  exact ⟨congrArg k0_pay3 h2, congrArg k0_pay4 h3, congrArg k0_pay5 h4⟩

end Cert.Kernel2Ideal.Moe

end
-- ==== Proof.Moe.Frame.lean ====
module

public import proofs.«01_k».proof.Proof.Moe.Dats
import Idealize.ShloMosaic.Adequacy
public import Idealize.ShloMosaic.Lib.Claim
public import Idealize.ShloMosaic.Lib.VecWindow
public import Idealize.ShloMosaic.Lib.Pointwise
public import Idealize.ShloMosaic.PureOps.Ideal
public import Idealize.ShloMosaic.Lib.Pipeline.ValueKit

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (hT : TableOk (tbl m))

/-! ## The body at a tile -/

theorem inv_succ (c : Dev nD) (t : Fin (cfgT m hT).N) : (dats m hT 0 c).Φ t.succ = Inv m hT c (t.val + 1) := rfl
theorem inv_cast (c : Dev nD) (t : Fin (cfgT m hT).N) : (dats m hT 0 c).Φ t.castSucc = Inv m hT c t.val := rfl

theorem outsAt_used (c : Dev nD) (t : Fin (cfgT m hT).N) (h : used m hT t) :
    outsAt m hT c t = k0_pay2 (k0_pay6 (entry (tbl m) t.val) (iblk m hT c 0 t) (wG m hT c t) (wU m hT c t) (iblk m hT c 1 t)) (wD m hT c t) := by
  unfold outsAt; exact if_pos h
theorem outsAt_unused (c : Dev nD) (t : Fin (cfgT m hT).N) (h : ¬ used m hT t) : outsAt m hT c t = k0_pay1 := by
  unfold outsAt; exact if_neg h

theorem keeps_self (c : Dev nD) (t : Fin (cfgT m hT).N) : Keeps m hT c (t.val + 1) (wG m hT c t) (wU m hT c t) (wD m hT c t) := by
  intro s hs _
  obtain rfl : s = t := Fin.ext (by omega)
  exact ⟨rfl, rfl, rfl⟩
theorem keeps_unused (c : Dev nD) (t : Fin (cfgT m hT).N) (h : ¬ used m hT t) (d0 d1 d2) : Keeps m hT c (t.val + 1) d0 d1 d2 := by
  intro s hs hu
  obtain rfl : s = t := Fin.ext (by omega)
  exact absurd hu h

set_option maxHeartbeats 800000 in
theorem sound_unused (c : Dev nD) (t : Fin (cfgT m hT).N) (h : ¬ used m hT t) :
    bodyPre m hT c t ⊢ wp frame (wpE (defs₀ (F := F)) Variants.none c none) Set.univ (bodyAt m hT t) (fun _ => bodyPost m hT c t) := by
  have hu : ¬ (co m hT t 0).val < (entry (tbl m) 96).toNat := by rw [co_val]; exact h
  unfold bodyPre bodyPost bodyAt
  simp only [before_0, before_1, before_2, before_3, before_4]
  rw [inv_succ, inv_cast, show (dats m hT 0 c).owesAt () t.succ = (dats m hT 0 c).owesAt () t.castSucc from rfl,
    after_0, after_1, after_2, after_3, after_4, after_5, outsAt_unused m hT c t h]
  unfold Inv
  iintro ⟨⟨⟨%e0, %e1, %e2, -, HS0, HS1, HS2⟩, Hg, HT⟩, Ho, ⟨%d0, H0⟩, ⟨%d1, H1⟩, ⟨%d2, H2⟩, ⟨%d3, H3⟩, ⟨%d4, H4⟩, H5⟩
  iapply (body_unused c Set.univ (co m hT t) fullShare.right _ _ _ _ _ _ _ _ _ _ _ _ _ _ _ _ _ _ _ _ (tbl m) ((cond1_iff _ hT _).mpr hu) (fun h' => hu ((cond2_iff _ hT _).mp h')) _)
  isplitl [HT]; · iexact HT
  isplitl [H5]; · icases H5 with ⟨%d, H5⟩; iexists _; iexact H5
  iintro ⟨HT, H5⟩
  isplitl [HS0 HS1 HS2 Hg HT]
  · isplitl [HS0 HS1 HS2]
    · iexists _; iexists _; iexists _
      isplitr; · ipureintro; exact keeps_unused m hT c t h e0 e1 e2
      isplitl [HS0]; · iexact HS0
      isplitl [HS1]; · iexact HS1
      iexact HS2
    isplitl [Hg]; · iexact Hg
    iexact HT
  isplitl [Ho]; · iexact Ho
  isplitl [H0]; · iexact H0
  isplitl [H1]; · iexact H1
  isplitl [H2]; · iexact H2
  isplitl [H3]; · iexact H3
  isplitl [H4]; · iexact H4
  iexact H5

set_option maxHeartbeats 800000 in
theorem sound_fill (c : Dev nD) (t : Fin (cfgT m hT).N) (h : used m hT t) (hr : t.val = 0 ∨ entry (tbl m) t.val ≠ entry (tbl m) (t.val - 1)) :
    bodyPre m hT c t ⊢ wp frame (wpE (defs₀ (F := F)) Variants.none c none) Set.univ (bodyAt m hT t) (fun _ => bodyPost m hT c t) := by
  have hu : (co m hT t 0).val < (entry (tbl m) 96).toNat := by rw [co_val]; exact h
  have hr' : refill (co m hT t) (entry (tbl m) (co m hT t 0).val) (entry (tbl m) ((co m hT t 0).val - 1)) = 1#1 :=
    (refill_iff _ _ _).mpr (by rw [co_val]; exact hr)
  unfold bodyPre bodyPost bodyAt
  simp only [before_0, before_1, before_2, before_3, before_4]
  rw [inv_succ, inv_cast, show (dats m hT 0 c).owesAt () t.succ = (dats m hT 0 c).owesAt () t.castSucc from rfl,
    after_0, after_1, after_2, after_3, after_4, after_5, outsAt_used m hT c t h, ← co_val m hT t]
  unfold Inv
  iintro ⟨⟨⟨%e0, %e1, %e2, -, HS0, HS1, HS2⟩, Hg, HT⟩, Ho, ⟨%d0, H0⟩, ⟨%d1, H1⟩, ⟨%d2, H2⟩, ⟨%d3, H3⟩, ⟨%d4, H4⟩, H5⟩
  iapply (body_fill c Set.univ (co m hT t) fullShare.right _ _ _ _ _ _ _ _ _ _ _ _ _ _ _ _ _ _ _ _ (tbl m) (iblk m hT c 0 t) (iblk m hT c 1 t) (iblk m hT c 2 t) (iblk m hT c 3 t) (iblk m hT c 4 t) (fun h' => (cond1_iff _ hT _).mp h' hu) ((cond2_iff _ hT _).mpr hu) hr' _)
  isplitl [HT]; · iexact HT
  isplitl [H0]; · iexact H0
  isplitl [H1]; · iexact H1
  isplitl [H2]; · iexact H2
  isplitl [H3]; · iexact H3
  isplitl [H4]; · iexact H4
  isplitl [H5]; · icases H5 with ⟨%d, H5⟩; iexists _; iexact H5
  isplitl [HS0]; · iexists _; iexact HS0
  isplitl [HS1]; · iexists _; iexact HS1
  isplitl [HS2]; · iexists _; iexact HS2
  iintro ⟨HT, H0, H1, H2, H3, H4, H5, HS0, HS1, HS2⟩
  isplitl [HS0 HS1 HS2 Hg HT]
  · isplitl [HS0 HS1 HS2]
    · iexists _; iexists _; iexists _
      isplitr; · ipureintro; rw [co_val]; exact keeps_self m hT c t
      isplitl [HS0]; · iexact HS0
      isplitl [HS1]; · iexact HS1
      iexact HS2
    isplitl [Hg]; · iexact Hg
    iexact HT
  isplitl [Ho]; · iexact Ho
  isplitl [H0]; · iexact H0
  isplitl [H1]; · iexact H1
  isplitl [H2]; · iexact H2
  isplitl [H3]; · iexact H3
  isplitl [H4]; · iexact H4
  iexact H5

/-- A used tile whose expert is the one of the tile before finds its own cast weights in the scratch buffers. -/
theorem keeps_before (c : Dev nD) (t : Fin (cfgT m hT).N) (h : used m hT t) (hr : ¬ (t.val = 0 ∨ entry (tbl m) t.val ≠ entry (tbl m) (t.val - 1)))
    (d0 d1 d2) (hk : Keeps m hT c t.val d0 d1 d2) : d0 = wG m hT c t ∧ d1 = wU m hT c t ∧ d2 = wD m hT c t := by
  have h0 : t.val ≠ 0 := fun e => hr (.inl e)
  have he : entry (tbl m) t.val = entry (tbl m) (t.val - 1) := by
    by_contra e; exact hr (.inr e)
  have hs : t.val - 1 < (cfgT m hT).N := lt_of_le_of_lt (Nat.sub_le _ _) t.isLt
  have hk' := hk ⟨t.val - 1, hs⟩ (by show t.val - 1 + 1 = t.val; omega) (show t.val - 1 < _ from lt_of_le_of_lt (Nat.sub_le _ _) h)
  have hw := same_expert m hT c t ⟨t.val - 1, hs⟩ he
  exact ⟨hk'.1.trans hw.1.symm, hk'.2.1.trans hw.2.1.symm, hk'.2.2.trans hw.2.2.symm⟩

set_option maxHeartbeats 800000 in
theorem sound_keep (c : Dev nD) (t : Fin (cfgT m hT).N) (h : used m hT t) (hr : ¬ (t.val = 0 ∨ entry (tbl m) t.val ≠ entry (tbl m) (t.val - 1))) :
    bodyPre m hT c t ⊢ wp frame (wpE (defs₀ (F := F)) Variants.none c none) Set.univ (bodyAt m hT t) (fun _ => bodyPost m hT c t) := by
  have hu : (co m hT t 0).val < (entry (tbl m) 96).toNat := by rw [co_val]; exact h
  have hr' : ¬ refill (co m hT t) (entry (tbl m) (co m hT t 0).val) (entry (tbl m) ((co m hT t 0).val - 1)) = 1#1 :=
    fun h' => hr (by have := (refill_iff _ _ _).mp h'; rwa [co_val] at this)
  unfold bodyPre bodyPost bodyAt
  simp only [before_0, before_1, before_2, before_3, before_4]
  rw [inv_succ, inv_cast, show (dats m hT 0 c).owesAt () t.succ = (dats m hT 0 c).owesAt () t.castSucc from rfl,
    after_0, after_1, after_2, after_3, after_4, after_5, outsAt_used m hT c t h]
  unfold Inv
  iintro ⟨⟨⟨%e0, %e1, %e2, %hk, HS0, HS1, HS2⟩, Hg, HT⟩, Ho, ⟨%d0, H0⟩, ⟨%d1, H1⟩, ⟨%d2, H2⟩, ⟨%d3, H3⟩, ⟨%d4, H4⟩, H5⟩
  obtain ⟨rfl, rfl, rfl⟩ := keeps_before m hT c t h hr e0 e1 e2 hk
  rw [← co_val m hT t]
  iapply (body_keep c Set.univ (co m hT t) fullShare.right _ _ _ _ _ _ _ _ _ _ _ _ _ _ _ _ _ _ _ _ (tbl m) (iblk m hT c 0 t) (iblk m hT c 1 t) (wG m hT c t) (wU m hT c t) (wD m hT c t) (fun h' => (cond1_iff _ hT _).mp h' hu) ((cond2_iff _ hT _).mpr hu) hr' _)
  isplitl [HT]; · iexact HT
  isplitl [H0]; · iexact H0
  isplitl [H1]; · iexact H1
  isplitl [H5]; · icases H5 with ⟨%d, H5⟩; iexists _; iexact H5
  isplitl [HS0]; · iexact HS0
  isplitl [HS1]; · iexact HS1
  isplitl [HS2]; · iexact HS2
  iintro ⟨HT, H0, H1, H5, HS0, HS1, HS2⟩
  isplitl [HS0 HS1 HS2 Hg HT]
  · isplitl [HS0 HS1 HS2]
    · iexists _; iexists _; iexists _
      isplitr; · ipureintro; rw [co_val]; exact keeps_self m hT c t
      isplitl [HS0]; · iexact HS0
      isplitl [HS1]; · iexact HS1
      iexact HS2
    isplitl [Hg]; · iexact Hg
    iexact HT
  isplitl [Ho]; · iexact Ho
  isplitl [H0]; · iexact H0
  isplitl [H1]; · iexact H1
  isplitl [H2]; · iexact H2
  isplitl [H3]; · iexact H3
  isplitl [H4]; · iexact H4
  iexact H5

theorem sound_body (c : Dev nD) (t : Fin (cfgT m hT).N) :
    bodyPre m hT c t ⊢ wp frame (wpE (defs₀ (F := F)) Variants.none c none) Set.univ (bodyAt m hT t) (fun _ => bodyPost m hT c t) := by
  by_cases h : used m hT t
  · by_cases hr : t.val = 0 ∨ entry (tbl m) t.val ≠ entry (tbl m) (t.val - 1)
    · exact sound_fill m hT c t h hr
    · exact sound_keep m hT c t h hr
  · exact sound_unused m hT c t h

/-- The body writes its output window at every tile. -/
theorem idle_5 (t : Fin (cfgT m hT).N) : (cfgT m hT).idle 5 ((cfgT m hT).grid.coords t) = false := by
  have hat : (pf m).atD 0 ![96] = entry (tbl m) 96 := by
    rw [← pf_zero]
    refine (dif_pos (show ∀ a : Fin 1, (![96] : Fin 1 → ℕ) a + 1 ≤ S97.size a by decide)).trans ?_
    exact congrArg (show S97.Idx → BitVec 32 from pf m 0) (funext fun a : Fin 1 => by obtain rfl : a = 0 := Subsingleton.elim _ _; rfl)
  show (!(k0_cond1 (co m hT t) ((pf m).atD 0 ![96]) == 1#1) && !(k0_cond2 (co m hT t) ((pf m).atD 0 ![96]) == 1#1)) = false
  rw [hat]
  by_cases h : (co m hT t 0).val < (entry (tbl m) 96).toNat
  · rw [(cond2_iff _ hT _).mpr h]; simp
  · rw [(cond1_iff _ hT _).mpr h]; simp

theorem body_obligation (c : Dev nD) : BodyObligation (dats m hT 0 c) (defs₀ (F := F)) Variants.none () Set.univ := fun t => by
  rw [bigSep_W0, bigSep_W0, idle_5]
  refine triple_restated (sound_body m hT c t) ?_ .rfl fun _ => .rfl
  exact congrArg (wp frame (wpE (defs₀ (F := F)) Variants.none c none) Set.univ) (defs₀_row m hT t).symm

/-! ## The run -/

theorem scratch_eq (c : Dev nD) : (Pipeline.ΦA spec0 c : sProp 𝕄) = iprop(((∃ d, owns (c : Thread nD τ) sc0 fullShare d) ∗ (∃ d, owns (c : Thread nD τ) sc1 fullShare d) ∗ (∃ d, owns (c : Thread nD τ) sc2 fullShare d)) ∗ ∃ r, prngReg c r) := by
  unfold Pipeline.ΦA; rw [scopedRest0_eq]; simp only [sc0, sc1, sc2, owns_whole]; rfl

theorem table_eq (c : Dev nD) : (Pipeline.ΦT pre0 (pf m) c : sProp 𝕄) = owns (c : Thread nD τ) tbM fullShare.right (tbl m) := by
  unfold Pipeline.ΦT Pipeline.prefHeld
  rw [show (Finset.univ : Finset (Fin pre0.K)) = {0} from rfl, bigSep_singleton, pf_zero]
  simp only [tbM, owns_whole]; rfl

set_option backward.isDefEq.respectTransparency.types false in
/-- The run of the whole program, every semaphore counter at zero at its end. -/
theorem run_main : θ_run defs (onTc (τ := τ) (main (F := F))) (s₀ m ρ) (fun r => (Pipeline.FramePost (Pipeline.pin pcfgs (adm m hT)) (dats m hT) 0 (V m)) r ∧ r.2.sem = fun _ => 0) :=
  Pipeline.θ_run_frameP_track (Q' := _) pcfgs (adm m hT) (dats m hT) (0 : Fin 1) launch0 defs₀ Variants.none m ρ main
    (hbody := fun c => (body_obligation m hT c).loose) (hshare := fun c => (dats m hT 0 c).share_full fun _ => rfl)
    (howed := fun _ _ => rfl) (V := V m) (hmain := hmain m Variants.none) (hA := A_eq m hT)
    (hpf := fun c k => by obtain rfl : c = 0 := Subsingleton.elim _ _; rfl)
    (hin := fun c => by
      refine (show iprop(Pipeline.ΦA spec0 c ∗ Pipeline.ΦT pre0 (pf m) c) ⊢ Inv m hT c 0 from ?_)
      rw [scratch_eq, table_eq]
      unfold Inv
      iintro ⟨⟨⟨⟨%d0, H0⟩, ⟨%d1, H1⟩, ⟨%d2, H2⟩⟩, Hg⟩, HT⟩
      isplitl [H0 H1 H2]
      · iexists d0; iexists d1; iexists d2
        isplitr; · ipureintro; exact fun t ht => absurd ht (by omega)
        isplitl [H0]; · iexact H0
        isplitl [H1]; · iexact H1
        iexact H2
      isplitl [Hg]; · iexact Hg
      iexact HT)
    (hout := fun c => by
      refine (show Inv m hT c _ ⊢ Pipeline.ΦA spec0 c from ?_)
      rw [scratch_eq]
      unfold Inv
      iintro ⟨⟨%d0, %d1, %d2, -, H0, H1, H2⟩, Hg, -⟩
      isplitl [H0 H1 H2]
      · isplitl [H0]; · iexists _; iexact H0
        isplitl [H1]; · iexists _; iexact H1
        iexists _; iexact H2
      iexact Hg)

include hT in
/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨
      ((h.1 c).1 1).trans (((dats m hT 0 c).arrAt_in 1 rfl _).trans ((A_eq m hT c 1).trans (V_of_ne m c main_arg0 (by decide)))),
      ((h.1 c).2 main_arg1 (Pipeline.mem_restRefs_of main_arg1 (by decide) (show ∀ w : Fin 6, (spec0 w).arr.view.ref ≠ main_arg1 by decide))).trans (V_of_ne m c main_arg1 (by decide)),
      ((h.1 c).1 2).trans (((dats m hT 0 c).arrAt_in 2 rfl _).trans ((A_eq m hT c 2).trans (V_of_ne m c main_arg2 (by decide)))),
      ((h.1 c).1 3).trans (((dats m hT 0 c).arrAt_in 3 rfl _).trans ((A_eq m hT c 3).trans (V_of_ne m c main_arg3 (by decide)))),
      ((h.1 c).1 4).trans (((dats m hT 0 c).arrAt_in 4 rfl _).trans ((A_eq m hT c 4).trans (V_of_ne m c main_arg4 (by decide))))⟩, h.2⟩) (run_main m ρ hT)

/-- The result's array at the end. -/
theorem run_result : θ_run defs (onTc (τ := τ) (main (F := F))) ⟨m, fun _ => 0, ρ⟩ (fun r => ∀ c : Dev nD,
      r.2.mem ((c.tc : Thread nD τ).loc main_v1) = (dats m hT 0 c).arrAt 5 (cfgT m hT).N) :=
  (θ_run defs _ _).mono (fun _ h c => (h.1 c).1 5) (run_main m ρ hT)

end Cert.Kernel2Ideal.Moe

end
-- ==== Proof.Moe.Bits.lean ====
module

public import proofs.«01_k».proof.Proof.Moe.Frame
public import proofs.«01_k».proof.Proof.Gen.Kernel2

@[expose] public section

set_option maxRecDepth 16384

noncomputable section

namespace Cert.Kernel2.Moe

open Idealize.ShloMosaic Idealize.ShloMosaic.TcCoe Idealize.SL.Sem

/-! The program printed at the machine's floats and the one printed at the ideal ones have the same text: no
operation was rewritten. -/

attribute [local instance] Cert.Kernel2.Gen.facts Cert.Kernel2Ideal.Gen.facts

variable {F : FTy → Type} [FloatOps F]

theorem pcfgs_eq : @Cert.Kernel2.pcfgs F _ _ = @Cert.Kernel2Ideal.pcfgs F _ _ := rfl

theorem defs₀_eq : (Cert.Kernel2.defs₀ (F := F)) = (Cert.Kernel2Ideal.defs₀ (F := F)) := by
  unfold Cert.Kernel2.defs₀ Cert.Kernel2Ideal.defs₀
  refine congrArg Defs.onTc ?_
  funext ℓ a
  match ℓ, a with
  | 0, (t, s) => rfl

theorem defs_eq : (Cert.Kernel2.defs (F := F)) = (Cert.Kernel2Ideal.defs (F := F)) := by
  unfold Cert.Kernel2.defs Cert.Kernel2Ideal.defs
  rw [defs₀_eq]
  rfl

theorem main_eq : (Cert.Kernel2.main (F := F)) = (Cert.Kernel2Ideal.main (F := F)) := rfl

open Cert.Kernel2 in
/-- The arguments end unchanged and every counter at zero. -/
theorem frame (m : (ℓ : Loc nD τ sig) → Buf (Elt F) ℓ) (ρ : Dev nD → PrngReg) (hT : Cert.Kernel2Ideal.Moe.TableOk (m (((0 : Dev nD) : Thread nD τ).loc main_arg1))) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  have h := Cert.Kernel2Ideal.Moe.frame (F := F) m ρ hT
  rw [← defs_eq] at h
  exact h

end Cert.Kernel2.Moe

end
-- ==== Proof.Moe.Pre.lean ====
module

public import proofs.«01_k».proof.Proof.Mla.Pre
public import proofs.«01_k».proof.Proof.Moe.Table
public import proofs.«01_k».proof.Pre_tile_table

@[expose] public section

set_option maxRecDepth 16384

noncomputable section

namespace Cert.Pre_tile_table.Moe

open Idealize.ShloMosaic Idealize.ShloMosaic.TcCoe Idealize.ShloMosaic.Tactic
open Cert.Pre_tile_table Cert.Kernel2Ideal.Moe

theorem and_one {a b : BitVec 1} (h : IntOp.andi a b = 1#1) : a = 1#1 ∧ b = 1#1 := by
  rcases BitVec.eq_zero_or_eq_one a with rfl | rfl <;> rcases BitVec.eq_zero_or_eq_one b with rfl | rfl <;> revert h <;> decide

theorem range (v : BitVec 32) (h1 : IntOp.cmpi .sge v 0#32 = 1#1) (h2 : IntOp.cmpi .slt v 32#32 = 1#1) : v.toNat < 32 := by
  rw [WordCmp.cmpi_sge_eq, WordCmp.ofBool_decide_eq_one_iff, show (0#32 : BitVec 32).toInt = 0 from by decide] at h1
  rw [WordCmp.cmpi_slt_eq, WordCmp.ofBool_decide_eq_one_iff, show (32#32 : BitVec 32).toInt = 32 from by decide] at h2
  have e := BitVec.toInt_eq_toNat_cond v
  have hv := v.isLt
  split at e <;> omega
theorem range' (v : BitVec 32) (h1 : IntOp.cmpi .sge v 1#32 = 1#1) (h2 : IntOp.cmpi .sle v 96#32 = 1#1) : 1 ≤ v.toNat ∧ v.toNat ≤ 96 := by
  rw [WordCmp.cmpi_sge_eq, WordCmp.ofBool_decide_eq_one_iff, show (1#32 : BitVec 32).toInt = 1 from by decide] at h1
  rw [WordCmp.cmpi_sle_eq, WordCmp.ofBool_decide_eq_one_iff, show (96#32 : BitVec 32).toInt = 96 from by decide] at h2
  have e := BitVec.toInt_eq_toNat_cond v
  have hv := v.isLt
  split at e <;> omega

variable [Facts] {F : FTy → Type} [FloatOps F]
open Facts

/-- The precondition, at the table: every tile has an expert and at least one tile is in use. -/
theorem ok_of_fn (A : IVec S24576x2176 32) (T : IVec S97 32) (G U : FVec F S4x32x4096x256 .f32) (D : FVec F S4x32x256x4096 .f32)
    (h1 : (fn (F := F) A T G U D).1 = fun _ => 1#1) (h2 : (fn (F := F) A T G U D).2 = fun _ => 1#1) : TableOk T := by
  have e1 : (fn (F := F) A T G U D).1 = Host.reduce IntOp.andi (andi
      (cmpi .sge (extractStridedSlice S96 ![0] T slices_S97_S96_0) (broadcastInDim S96 ![] bcast_S_S96 (constantI S_ 32 0#32)))
      (cmpi .slt (extractStridedSlice S96 ![0] T slices_S97_S96_0) (broadcastInDim S96 ![] bcast_S_S96 (constantI S_ 32 32#32))))
      (constantI S_ 1 1#1) reducesTo_S96_S_d0 h_S_ := by
    unfold fn; dsimp only
  have e2 : (fn (F := F) A T G U D).2 = andi
      (cmpi .sge (shapeCast S_ (extractStridedSlice S1 ![96] T slices_S97_S1_96) shapeCasts_S1_S_) (constantI S_ 32 1#32))
      (cmpi .sle (shapeCast S_ (extractStridedSlice S1 ![96] T slices_S97_S1_96) shapeCasts_S1_S_) (constantI S_ 32 96#32)) := by
    unfold fn; dsimp only
  rw [e1] at h1
  rw [e2] at h2
  have p1 := fun i : S96.Idx => Cert.Pre_finite_scores.Mla.all_of_reduce _ _ reducesTo_S96_S_d0 h_S_ (fun a => a.elim0) (congrFun h1 _) i (funext fun a => a.elim0)
  have p2 := congrFun h2 (fun a => a.elim0)
  have hn := and_one p2
  have e96 : shapeCast S_ (extractStridedSlice S1 ![96] T slices_S97_S1_96) shapeCasts_S1_S_ (fun a => a.elim0) = entry T 96 := by
    pointwise [entry]
    exact congrArg T (funext fun a : Fin 1 => by obtain rfl : a = 0 := Subsingleton.elim _ _; exact Fin.ext (show (96 : ℕ) = min 96 96 by decide))
  have hn' := range' (entry T 96) (by rw [← e96]; exact hn.1) (by rw [← e96]; exact hn.2)
  refine ⟨fun k hk => ?_, hn'.1, hn'.2⟩
  have hk' := and_one (p1 (ix1 ⟨k, hk⟩))
  have ek : extractStridedSlice S96 ![0] T slices_S97_S96_0 (ix1 ⟨k, hk⟩) = entry T k := by
    pointwise [entry]
    exact congrArg T (funext fun a : Fin 1 => by obtain rfl : a = 0 := Subsingleton.elim _ _; exact Fin.ext (show k = min k 96 by omega))
  exact range _ (by rw [← ek]; exact hk'.1) (by rw [← ek]; exact hk'.2)

end Cert.Pre_tile_table.Moe

end
-- ==== Proof.Moe.Math.lean ====
module

public import Idealize.ShloMosaic.Lib.Pointwise
public import Idealize.ShloMosaic.Lib.WordCmp
public import Idealize.ShloMosaic.PureOps.Ideal

@[expose] public section

noncomputable section

namespace Cert.Moe

open Idealize.ShloMosaic

/-! # The experts' layer, row by row

A row is 2048 words of two values each, then its weight on each expert. -/

/-- The value in a word's low half. -/
def lo (w : BitVec 32) : EReal := Ideal.ofBits .f32 (IntOp.shli .vector w 16#32)
/-- The value in a word's high half. -/
def hi (w : BitVec 32) : EReal := Ideal.ofBits .f32 (IntOp.andi w 4294901760#32)

/-- A row's product with a column of a weight: the low halves are the first 2048 values. -/
def dt (X : Fin 2048 → BitVec 32) (W : Fin 4096 → EReal) : EReal :=
  ∑ x : Fin 2048, lo (X x) * W ⟨x.val, by omega⟩ + ∑ x : Fin 2048, hi (X x) * W ⟨2048 + x.val, by omega⟩

/-- One hidden value, weighted. -/
def hid (a b g : EReal) : EReal := a * Ideal.logistic a * b * g

/-- The weight a row has in lane `e` of its lanes. -/
def pick (e : BitVec 32) (R : Fin 128 → BitVec 32) : EReal :=
  ∑ l : Fin 128, Scalar.select (IntOp.cmpi .eq (BitVec.ofNat 32 l.val) e) (Ideal.ofBits .f32 (R l)) 0

theorem pick_eq (e : BitVec 32) (R : Fin 128 → BitVec 32) (h : e.toNat < 128) : pick e R = Ideal.ofBits .f32 (R ⟨e.toNat, h⟩) := by
  unfold pick
  rw [Finset.sum_eq_single (⟨e.toNat, h⟩ : Fin 128)]
  · have : IntOp.cmpi .eq (BitVec.ofNat 32 e.toNat) e = 1#1 := by
      rw [WordCmp.cmpi_eq_eq, WordCmp.ofBool_decide_eq_one_iff]; simp
    rw [this]; rfl
  · intro l _ hl
    have : ¬ IntOp.cmpi .eq (BitVec.ofNat 32 l.val) e = 1#1 := by
      rw [WordCmp.cmpi_eq_eq, WordCmp.ofBool_decide_eq_one_iff]
      intro h'
      refine hl (Fin.ext ?_)
      show l.val = e.toNat
      rw [← h', BitVec.toNat_ofNat, Nat.mod_eq_of_lt (by omega)]
    exact if_neg this
  · intro h'; exact absurd (Finset.mem_univ _) h'

open Classical in
/-- The layer's value at row `r` of tile `t`, column `d`: a tile in use takes its one expert's output, any other is zero. -/
def out (A : Fin 24576 → Fin 2176 → BitVec 32) (n : ℕ) (e : Fin 96 → Fin 32) (G U : Fin 32 → Fin 4096 → Fin 256 → EReal) (D : Fin 32 → Fin 256 → Fin 4096 → EReal)
    (t : Fin 96) (s : Fin 24576) (d : Fin 4096) : EReal :=
  if t.val < n then
    ∑ f : Fin 256, hid (dt (fun x => A s ⟨x.val, by omega⟩) fun k => G (e t) k f) (dt (fun x => A s ⟨x.val, by omega⟩) fun k => U (e t) k f)
      (Ideal.ofBits .f32 (A s ⟨2048 + (e t).val, by omega⟩)) * D (e t) f d
  else 0

end Cert.Moe

end
-- ==== Proof.Moe.Pay.lean ====
module

public import proofs.«01_k».proof.Proof.Gen.Kernel2Ideal.Skeleton
public import proofs.«01_k».proof.Proof.Moe.Math

@[expose] public section

set_option maxRecDepth 16384

noncomputable section

namespace Cert.Kernel2Ideal.Moe

open Idealize.ShloMosaic Idealize.ShloMosaic.TcCoe Idealize.ShloMosaic.Tactic
open Cert.Kernel2Ideal Cert.Kernel2Ideal.Gen Cert.Moe

/-! The body's values at an index. -/

theorem pay6_at (e : BitVec 32) (X : Vec Ideal S256x2048 .i32) (G U : Vec Ideal S4096x256 .bf16) (R : Vec Ideal S256x128 .i32) (r f : Fin 256) :
    k0_pay6 (F := Ideal) e X G U R (ix2 r f)
      = hid (dt (fun x => X (ix2 r x)) fun k => G (ix2 k f)) (dt (fun x => X (ix2 r x)) fun k => U (ix2 k f)) (pick e fun l => R (ix2 r l)) := by
  unfold hid dt lo hi pick
  pointwise [k0_pay6]
theorem pay2_at (D : Vec Ideal S256x4096 .bf16) (h : FVec Ideal S256x256 .bf16) (r : Fin 256) (d : Fin 4096) :
    k0_pay2 (F := Ideal) h D (ix2 r d) = ∑ f : Fin 256, h (ix2 r f) * D (ix2 f d) := by
  pointwise [k0_pay2]
theorem pay1_at (r : Fin 256) (d : Fin 4096) : k0_pay1 (F := Ideal) (ix2 r d) = 0 := by
  pointwise [k0_pay1]
theorem pay3_at (w : Vec Ideal S1x1x4096x256 .f32) (k : Fin 4096) (f : Fin 256) : k0_pay3 (F := Ideal) w (ix2 k f) = w (ix4 0 0 k f) := by
  pointwise [k0_pay3]
theorem pay4_at (w : Vec Ideal S1x1x4096x256 .f32) (k : Fin 4096) (f : Fin 256) : k0_pay4 (F := Ideal) w (ix2 k f) = w (ix4 0 0 k f) := by
  pointwise [k0_pay4]
theorem pay5_at (w : Vec Ideal S1x1x256x4096 .f32) (f : Fin 256) (d : Fin 4096) : k0_pay5 (F := Ideal) w (ix2 f d) = w (ix4 0 0 f d) := by
  pointwise [k0_pay5]

/-- A used tile's block from the blocks it reads. -/
theorem tile_at (e : BitVec 32) (he : e.toNat < 128) (X : Vec Ideal S256x2048 .i32) (R : Vec Ideal S256x128 .i32) (G U : Vec Ideal S1x1x4096x256 .f32) (D : Vec Ideal S1x1x256x4096 .f32)
    (r : Fin 256) (d : Fin 4096) : k0_pay2 (F := Ideal) (k0_pay6 e X (k0_pay3 G) (k0_pay4 U) R) (k0_pay5 D) (ix2 r d)
      = ∑ f : Fin 256, hid (dt (fun x => X (ix2 r x)) fun k => G (ix4 0 0 k f)) (dt (fun x => X (ix2 r x)) fun k => U (ix4 0 0 k f)) (Ideal.ofBits .f32 (R (ix2 r ⟨e.toNat, he⟩))) * D (ix4 0 0 f d) := by
  rw [pay2_at]
  refine Finset.sum_congr rfl fun f _ => ?_
  rw [pay6_at, pick_eq _ _ he, pay5_at]
  simp only [pay3_at, pay4_at]

end Cert.Kernel2Ideal.Moe

end
-- ==== Proof.Moe.Value.lean ====
module

public import proofs.«01_k».proof.Proof.Moe.Frame
public import proofs.«01_k».proof.Proof.Moe.Pay
public import Idealize.ShloMosaic.Lib.Pipeline.Covers
public import Idealize.ShloMosaic.Lib.Claim
public import Idealize.ShloMosaic.Lib.VecWindow
public import Idealize.ShloMosaic.Lib.Pointwise
public import Idealize.ShloMosaic.PureOps.Ideal
public import Idealize.ShloMosaic.Lib.Pipeline.ValueKit

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen Cert.Moe

variable (m : (ℓ : Loc nD τ sig) → Buf (Elt Ideal) ℓ) (ρ : Dev nD → PrngReg)
variable (hT : TableOk (tbl m))

/-! # The output array -/

theorem V_0 (c : Dev nD) (s : Fin 24576) (k : Fin 2048) :
    V m c main_v0 (ix2 s k) = m ((c : Thread nD τ).loc main_arg0) (ix2 s ⟨k.val, by omega⟩) := by
  have : V m c main_v0 = extractStridedSlice S24576x2048 ![0, 0] (m ((c : Thread nD τ).loc main_arg0)) slices_S24576x2176_S24576x2048_0_0 := by
    unfold V hostOps0
    simp only [StableHlo.after_cons, StableHlo.after_nil]
    rw [StableHlo.unary_result]
  rw [this]
  pointwise []

theorem blk_0 (c : Dev nD) (t : Fin (cfgT m hT).N) (hu : used m hT t) (r : Fin 256) (k : Fin 2048) :
    iblk m hT c 0 t (ix2 r k) = V m c main_v0 (ix2 (row ⟨t.val, t.isLt⟩ r) k) := by
  have hi := idx_0 m hT t
  rw [show min t.val ((entry (tbl m) 96).toNat - 1) = t.val from Nat.min_eq_left (by unfold used at hu; omega)] at hi
  blk_ext [iblk, row, hi]
theorem blk_1 (c : Dev nD) (t : Fin (cfgT m hT).N) (hu : used m hT t) (r : Fin 256) (l : Fin 128) :
    iblk m hT c 1 t (ix2 r l) = V m c main_arg0 (ix2 (row ⟨t.val, t.isLt⟩ r) ⟨2048 + l.val, by omega⟩) := by
  have hi := idx_1 m hT t
  rw [show min t.val ((entry (tbl m) 96).toNat - 1) = t.val from Nat.min_eq_left (by unfold used at hu; omega)] at hi
  blk_ext [iblk, row, hi]

/-- The layer's value from a core's arguments. -/
def val (c : Dev nD) (t : Fin 96) (s : Fin 24576) (d : Fin 4096) : EReal :=
  out (fun s k => m ((c : Thread nD τ).loc main_arg0) (ix2 s k)) (entry (tbl m) 96).toNat (expert (tbl m) hT)
    (fun e k f => m ((c : Thread nD τ).loc main_arg2) (ix4 0 e k f)) (fun e k f => m ((c : Thread nD τ).loc main_arg3) (ix4 0 e k f))
    (fun e f d => m ((c : Thread nD τ).loc main_arg4) (ix4 0 e f d)) t s d

/-- A tile's output block. -/
theorem outsAt_at (c : Dev nD) (t : Fin (cfgT m hT).N) (r : Fin 256) (d : Fin 4096) :
    outsAt m hT c t (ix2 r d) = val m hT c ⟨t.val, t.isLt⟩ (row ⟨t.val, t.isLt⟩ r) d := by
  by_cases hu : used m hT t
  · have he : (entry (tbl m) t.val).toNat < 128 := by have := hT.expert t.val t.isLt; omega
    refine (congrFun (outsAt_used m hT c t hu) (ix2 r d)).trans ((tile_at _ he (iblk m hT c 0 t) (iblk m hT c 1 t) (iblk m hT c 2 t) (iblk m hT c 3 t) (iblk m hT c 4 t) r d).trans ?_)
    refine Eq.trans ?_ (if_pos hu).symm
    have h0 : (fun x => (iblk m hT c 0 t : Vec Ideal S256x2048 .i32) (ix2 r x)) = fun x : Fin 2048 => m ((c : Thread nD τ).loc main_arg0) (ix2 (row ⟨t.val, t.isLt⟩ r) ⟨x.val, by omega⟩) :=
      funext fun x => (blk_0 m hT c t hu r x).trans (V_0 m c _ _)
    refine Finset.sum_congr rfl fun f _ => congrArg₂ (· * ·) (congr (congrArg₂ hid (congrArg₂ dt h0 (funext fun k => ?_)) (congrArg₂ dt h0 (funext fun k => ?_))) (congrArg (Ideal.ofBits .f32) ?_)) ?_
    · exact (blk_2 m hT c t k f).trans (congrFun (V_of_ne m c main_arg2 (by decide)) _)
    · exact (blk_3 m hT c t k f).trans (congrFun (V_of_ne m c main_arg3 (by decide)) _)
    · exact (blk_1 m hT c t hu r _).trans (congrFun (V_of_ne m c main_arg0 (by decide)) _)
    · exact (blk_4 m hT c t f d).trans (congrFun (V_of_ne m c main_arg4 (by decide)) _)
  · refine (congrFun (outsAt_unused m hT c t hu) (ix2 r d)).trans ((pay1_at r d).trans (if_neg hu).symm)

theorem ix2_of {n k : ℕ} (y : Shape.Idx ⟨2, ![n, k]⟩) : ∃ (a : Fin n) (b : Fin k), y = ix2 a b :=
  ⟨y 0, y 1, by funext a; match a with | ⟨0, _⟩ => rfl | ⟨1, _⟩ => rfl⟩

/-- The output array after the run. -/
theorem final (c : Dev nD) : (dats m hT 0 c).arrAt 5 (cfgT m hT).N
    = fun j : S24576x4096.Idx => val m hT c ⟨(j 0).val / 256, by have : (j 0).val < 24576 := (j 0).isLt; omega⟩ (j 0) (j 1) := by
  refine (dats m hT 0 c).arrAt_eq_of_covers 5 _ ?_ fun t hf y => ?_
  · refine Pipeline.Window.covers_of_index_surj _ rfl (show ∀ a : Fin 2, 0 < (![256, 4096] : Fin 2 → ℕ) a by decide) fun β => ?_
    have h0 : (β (0 : Fin 2)).val < 96 := lt_of_lt_of_eq (β (0 : Fin 2)).isLt (show (24576 + 256 - 1) / 256 = 96 by rfl)
    have h1 : (β (1 : Fin 2)).val < 1 := lt_of_lt_of_eq (β (1 : Fin 2)).isLt (show (4096 + 4096 - 1) / 4096 = 1 by rfl)
    refine ⟨⟨(β (0 : Fin 2)).val, h0⟩, ?_⟩
    show ∀ a : Fin 2, ((cfgT m hT).win 5).index ⟨(β (0 : Fin 2)).val, h0⟩ a = (β a).val
    rw [idx_5]
    intro a
    match a with
    | ⟨0, _⟩ => rfl
    | ⟨1, _⟩ => show 0 = (β (1 : Fin 2)).val; omega
  obtain ⟨r, d, rfl⟩ : ∃ (r : Fin 256) (d : Fin 4096), y = ix2 r d := ix2_of y
  have ht : t.val < 96 := t.isLt
  have e0 : (((cfgT m hT).win 5).blk t).view.emb (ix2 r d) (0 : Fin 2) = row ⟨t.val, ht⟩ r := Fin.ext (by
    show ((((cfgT m hT).win 5).blk t).view.emb (ix2 r d) (0 : Fin 2)).val = 256 * t.val + r.val
    blk_simp [idx_5 m hT t]
    omega)
  have e1 : (((cfgT m hT).win 5).blk t).view.emb (ix2 r d) (1 : Fin 2) = d := Fin.ext (by
    show ((((cfgT m hT).win 5).blk t).view.emb (ix2 r d) (1 : Fin 2)).val = d.val
    blk_simp [idx_5 m hT t]
    try omega)
  have eq : (((cfgT m hT).win 5).index t (0 : Fin 2) * 256 + r.val) / 256 = t.val := by
    rw [idx_5]
    show (t.val * 256 + r.val) / 256 = t.val
    omega
  have key : ∀ (q : ℕ) (a : Fin 24576) (b : Fin 4096) (h : q < 96), q = t.val → a = row ⟨t.val, ht⟩ r → b = d → outsAt m hT c t (ix2 r d) = val m hT c ⟨q, h⟩ a b := by
    rintro _ _ _ h rfl rfl rfl
    exact outsAt_at m hT c t r _
  blk_simp
  rw [after_5]
  exact key _ _ _ _ eq e0 e1

end Cert.Kernel2Ideal.Moe

end
-- ==== Proof.Mm.Common.lean ====
module

public import Idealize.ShloMosaic.PureOps.Ideal
public import Idealize.ShloMosaic.Lib.Pointwise

@[expose] public section

namespace Cert.Mm

open Idealize.ShloMosaic

/-! What the projections share: the weights' scratch is filled at the first tile of rows of each block of columns and kept for the other seven. -/

theorem hz2 : (![0, 0] : Fin 2 → Nat) = fun _ => 0 := funext fun a => by fin_cases a <;> rfl
theorem hz3 : (![0, 0, 0] : Fin 3 → Nat) = fun _ => 0 := funext fun a => by fin_cases a <;> rfl

/-- An array of two axes is its entries. -/
theorem ext2 {n m : ℕ} (a b : (⟨2, ![n, m]⟩ : Shape).Idx → EReal) (h : ∀ (k : Fin n) (d : Fin m), a (ix2 k d) = b (ix2 k d)) : a = b := by
  funext y
  obtain ⟨k, d, rfl⟩ : ∃ (k : Fin n) (d : Fin m), y = ix2 k d := ⟨y 0, y 1, by funext a; match a with | ⟨0, _⟩ => rfl | ⟨1, _⟩ => rfl⟩
  exact h k d

/-- A pair whose second half is renewed at every eighth step and kept between, when what renews it changes at every eighth step only, holds at each step what that
step would have renewed it to. -/
theorem carried {A B : Type} {N : ℕ} (f : (n : ℕ) → n < N → A × B) (g : Fin N → B → A) (s : Fin N → B) (hs : ∀ t u : Fin N, t.val / 8 = u.val / 8 → s t = s u)
    (h0 : ∀ t : Fin N, t.val % 8 = 0 → f t.val t.isLt = (g t (s t), s t))
    (h1 : ∀ t : Fin N, ¬ t.val % 8 = 0 → f t.val t.isLt = (g t (f (t.val - 1) (Nat.lt_of_le_of_lt (Nat.sub_le _ _) t.isLt)).2, (f (t.val - 1) (Nat.lt_of_le_of_lt (Nat.sub_le _ _) t.isLt)).2)) :
    ∀ (n : ℕ) (hn : n < N), f n hn = (g ⟨n, hn⟩ (s ⟨n, hn⟩), s ⟨n, hn⟩) := by
  intro n
  induction n using Nat.strong_induction_on with
  | _ n ih =>
    intro hn
    by_cases h : n % 8 = 0
    · exact h0 ⟨n, hn⟩ h
    · have e : (f (n - 1) (Nat.lt_of_le_of_lt (Nat.sub_le _ _) hn)).2 = s ⟨n, hn⟩ := by
        rw [ih (n - 1) (by omega)]
        exact hs _ _ (by show (n - 1) / 8 = n / 8; omega)
      refine (h1 ⟨n, hn⟩ h).trans ?_
      show (g ⟨n, hn⟩ (f (n - 1) _).2, (f (n - 1) _).2) = _
      rw [e]

/-- One block of the result, from its pieces. `X` and `W` are the points' blocks of rows and of weights, of which `wat` reads an entry, `cast` fills the scratch and
`mul` multiplies with it: the output's block holds the whole arrays' product. -/
theorem blockOf {B WB : Type} {N n n' K : ℕ} (hN : 8 * n' = N) (hn : 512 * n' ≤ n)
    (f : (n : ℕ) → n < N → ((⟨2, ![1024, 512]⟩ : Shape).Idx → EReal) × B)
    (X : Fin N → (⟨2, ![1024, K]⟩ : Shape).Idx → EReal) (W : Fin N → WB) (wat : WB → Fin K → Fin 512 → EReal) (hinj : ∀ a b, (∀ k d, wat a k d = wat b k d) → a = b)
    (cast : WB → B) (mul : ((⟨2, ![1024, K]⟩ : Shape).Idx → EReal) → B → (⟨2, ![1024, 512]⟩ : Shape).Idx → EReal)
    (hmul : ∀ x w (r : Fin 1024) (d : Fin 512), mul x (cast w) (ix2 r d) = ∑ k : Fin K, x (ix2 r k) * wat w k d)
    (h0 : ∀ t : Fin N, t.val % 8 = 0 → f t.val t.isLt = (mul (X t) (cast (W t)), cast (W t)))
    (h1 : ∀ t : Fin N, ¬ t.val % 8 = 0 → f t.val t.isLt = (mul (X t) (f (t.val - 1) (Nat.lt_of_le_of_lt (Nat.sub_le _ _) t.isLt)).2, (f (t.val - 1) (Nat.lt_of_le_of_lt (Nat.sub_le _ _) t.isLt)).2))
    (x : (⟨2, ![8192, K]⟩ : Shape).Idx → EReal) (w : Fin K → Fin n → EReal)
    (hX : ∀ (t : Fin N) (r : Fin 1024) (k : Fin K), X t (ix2 r k) = x (ix2 (⟨1024 * (t.val % 8) + r.val, by omega⟩ : Fin 8192) k))
    (hW : ∀ (t : Fin N) (k : Fin K) (d : Fin 512), wat (W t) k d = w k ⟨512 * (t.val / 8) + d.val, by omega⟩)
    (t : Fin N) (r : Fin 1024) (d : Fin 512) (s : Fin 8192) (q : Fin n) (hs : s.val = 1024 * (t.val % 8) + r.val) (hq : q.val = 512 * (t.val / 8) + d.val) :
    (f t.val t.isLt).1 (ix2 r d) = ∑ k : Fin K, x (ix2 s k) * w k q := by
  have hw : ∀ t u : Fin N, t.val / 8 = u.val / 8 → W t = W u := fun t u h => hinj _ _ fun k d => by
    refine (hW t k d).trans (Eq.trans ?_ (hW u k d).symm)
    exact congrArg (w k) (Fin.ext (by show 512 * (t.val / 8) + d.val = 512 * (u.val / 8) + d.val; rw [h]))
  have e := congrArg Prod.fst (carried f (fun t s => mul (X t) s) (fun t => cast (W t)) (fun t u h => congrArg cast (hw t u h)) h0 h1 t.val t.isLt)
  refine ((congrFun e _).trans (hmul _ _ r d)).trans (Finset.sum_congr rfl fun k _ => congrArg₂ (· * ·) ((hX t r k).trans ?_) ((hW t k d).trans ?_))
  · exact congrArg (fun q => x (ix2 q k)) (Fin.ext hs.symm)
  · exact congrArg (w k) (Fin.ext hq.symm)

/-- The same where the weights are one layer's, `z`, of several, and `col q` is the column of them that makes the result's column `q`. -/
theorem block {B : Type} {N n n' L K : ℕ} (hN : 8 * n' = N) (hn : 512 * n' ≤ n) (nw : ℕ)
    (f : (n : ℕ) → n < N → ((⟨2, ![1024, 512]⟩ : Shape).Idx → EReal) × B)
    (X : Fin N → (⟨2, ![1024, K]⟩ : Shape).Idx → EReal) (W : Fin N → (⟨3, ![1, K, 512]⟩ : Shape).Idx → EReal)
    (cast : ((⟨3, ![1, K, 512]⟩ : Shape).Idx → EReal) → B) (mul : ((⟨2, ![1024, K]⟩ : Shape).Idx → EReal) → B → (⟨2, ![1024, 512]⟩ : Shape).Idx → EReal)
    (hmul : ∀ x w (r : Fin 1024) (d : Fin 512), mul x (cast w) (ix2 r d) = ∑ k : Fin K, x (ix2 r k) * w (ix3 (0 : Fin 1) k d))
    (h0 : ∀ t : Fin N, t.val % 8 = 0 → f t.val t.isLt = (mul (X t) (cast (W t)), cast (W t)))
    (h1 : ∀ t : Fin N, ¬ t.val % 8 = 0 → f t.val t.isLt = (mul (X t) (f (t.val - 1) (Nat.lt_of_le_of_lt (Nat.sub_le _ _) t.isLt)).2, (f (t.val - 1) (Nat.lt_of_le_of_lt (Nat.sub_le _ _) t.isLt)).2))
    (x : (⟨2, ![8192, K]⟩ : Shape).Idx → EReal) (w : (⟨3, ![L, K, nw]⟩ : Shape).Idx → EReal) (z : Fin L) (col : Fin n → Fin nw)
    (hX : ∀ (t : Fin N) (r : Fin 1024) (k : Fin K), X t (ix2 r k) = x (ix2 (⟨1024 * (t.val % 8) + r.val, by omega⟩ : Fin 8192) k))
    (hW : ∀ (t : Fin N) (k : Fin K) (d : Fin 512), W t (ix3 (0 : Fin 1) k d) = w (ix3 z k (col ⟨512 * (t.val / 8) + d.val, by omega⟩)))
    (t : Fin N) (r : Fin 1024) (d : Fin 512) (s : Fin 8192) (q : Fin n) (hs : s.val = 1024 * (t.val % 8) + r.val) (hq : q.val = 512 * (t.val / 8) + d.val) :
    (f t.val t.isLt).1 (ix2 r d) = ∑ k : Fin K, x (ix2 s k) * w (ix3 z k (col q)) :=
  blockOf hN hn f X W (fun w k d => w (ix3 (0 : Fin 1) k d))
    (fun a b h => by
      funext y
      obtain ⟨o, k, d, rfl⟩ : ∃ (o : Fin 1) (k : Fin K) (d : Fin 512), y = ix3 o k d := ⟨y 0, y 1, y 2, by funext a; match a with | ⟨0, _⟩ => rfl | ⟨1, _⟩ => rfl | ⟨2, _⟩ => rfl⟩
      obtain rfl : o = 0 := Subsingleton.elim _ _
      exact h k d)
    cast mul hmul h0 h1 x (fun k q => w (ix3 z k (col q))) hX hW t r d s q hs hq

end Cert.Mm

end
-- ==== Proof.Mm.Qkv.lean ====
module

public import proofs.«01_k».proof.Proof.Gen.Kernel3Ideal.Frame
public import proofs.«01_k».proof.Proof.Mm.Common
public import Idealize.ShloMosaic.Lib.Pointwise
public import Idealize.ShloMosaic.Lib.Pipeline.Covers

@[expose] public section

set_option maxRecDepth 16384

noncomputable section

namespace Cert.Kernel3Ideal.Mm

open Idealize.ShloMosaic Idealize.ShloMosaic.TcCoe Idealize.ShloMosaic.Tactic Idealize.SL.Sem
open Cert.Kernel3Ideal Cert.Kernel3Ideal.Gen Cert.Mm

/-! The projection to queries, keys and values. Grid point `t` is the tile of rows `t % 8` and the block of columns `t / 8`. -/

section
variable (c : Dev nD) (i : grid0.Coords) (a2 : Memref sig .tc .vmem S1024x4096 .bf16) (h2 : a2.IsWhole) (a3 : Memref sig .tc .vmem S1x4096x512 .f32) (h3 : a3.IsWhole)
  (a4 : Memref sig .tc .vmem S1024x512 .bf16) (h4 : a4.IsWhole) (a5 : Memref sig .tc .vmem S4096x512 .bf16) (h5 : a5.IsWhole)
  (x0 : Vec Ideal S1024x4096 .bf16) (x1 : Vec Ideal S1x4096x512 .f32) (xs : Vec Ideal S4096x512 .bf16)

/-- At a block's first tile of rows the scratch takes the block of weights. -/
theorem scr_A (hc : cond0_0 i) : sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz2]
  simp only [View.readAt_eq_ld, h3.read_unread, View.ld_unit_zero (S := S1x4096x512) hz3]
/-- and the output takes the rows' product with it. -/
theorem out_A (hc : cond0_0 i) : out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz2, View.readCov_unit_zero (S := S4096x512) _ hz2]
  simp only [View.readAt_eq_ld, h2.read_unread, h3.read_unread, View.ld_unit_zero (S := S1024x4096) hz2, View.ld_unit_zero (S := S1x4096x512) hz3]
/-- At the other tiles the output takes the rows' product with what the scratch holds. -/
theorem out_B (hc : ¬ cond0_0 i) : out0_B_2 c i a2 h2 a3 h3 a4 h4 a5 h5 hc x0 x1 xs = k0_pay2 x0 xs := by
  unfold out0_B_2
  rw [View.read_writes_eq_canon _ _ _ (cover0_B_2 c i a2 h2 a3 h3 a4 h4 a5 h5 hc x0 x1 xs)]
  unfold kernelRun0_B
  dsimp only
  sl_unfold_words
  rw [View.canon_unit_zero hz2]
  simp only [View.readAt_eq_ld, h2.read_unread, h5.read_unread, View.ld_unit_zero (S := S1024x4096) hz2, View.ld_unit_zero (S := S4096x512) hz2]

/-- A tile of rows' product with a block of weights, at an index. -/
theorem tile_at (r : Fin 1024) (d : Fin 512) : k0_pay2 x0 (k0_pay1 x1) (ix2 r d) = ∑ k : Fin 4096, x0 (ix2 r k) * x1 (ix3 (0 : Fin 1) k d) := by
  pointwise [k0_pay2, k0_pay1]
end

variable (m : (ℓ : Loc nD τ sig) → Buf (Elt Ideal) ℓ) (c : Dev nD)

theorem idx : ∀ t : Fin cfg0.N, win0_0.index t = ![t.val % 8, 0] ∧ win0_1.index t = ![0, 0, t.val / 8] ∧ win0_2.index t = ![t.val % 8, t.val / 8] := by decide +kernel

theorem t_lt (t : Fin cfg0.N) : t.val < 192 := lt_of_lt_of_eq t.isLt (show cfg0.N = 192 from N_0)

theorem blk0 (t : Fin cfg0.N) (r : Fin 1024) (k : Fin 4096) :
    iblk m c 0 t (ix2 r k) = V m c main_arg0 (ix2 ⟨1024 * (t.val % 8) + r.val, by omega⟩ k) := by
  have := t_lt t
  blk_ext [iblk, (idx t).1]
theorem blk1 (t : Fin cfg0.N) (k : Fin 4096) (d : Fin 512) :
    iblk m c 1 t (ix3 (0 : Fin 1) k d) = V m c main_arg1 (ix3 (0 : Fin 2) k ⟨512 * (t.val / 8) + d.val, by have := t_lt t; omega⟩) := by
  have := t_lt t
  blk_ext [iblk, (idx t).2.1]

/-- The projection, of whole arrays. -/
def proj (x : Vec Ideal S8192x4096 .bf16) (w : Vec Ideal S2x4096x12288 .f32) (s : Fin 8192) (d : Fin 12288) : EReal :=
  ∑ k : Fin 4096, x (ix2 s k) * w (ix3 (0 : Fin 2) k d)

theorem key (t : Fin cfg0.N) (r : Fin 1024) (d : Fin 512) (s : Fin 8192) (q : Fin 12288) (hs : s.val = 1024 * (t.val % 8) + r.val) (hq : q.val = 512 * (t.val / 8) + d.val) :
    (outsAt0 m c t.val t.isLt).1 (ix2 r d) = proj (V m c main_arg0) (V m c main_arg1) s q :=
  block (n' := 24) N_0.symm (by decide) 12288 (outsAt0 m c) (fun t => iblk m c 0 t) (fun t => iblk m c 1 t) (fun w => k0_pay1 (F := Ideal) w) (fun x s => k0_pay2 (F := Ideal) x s) tile_at
    (fun t h => (outsAt0_A m c t h).trans (congrArg₂ Prod.mk (out_A ..) (scr_A ..))) (fun t h => (outsAt0_B m c t h).trans (congrArg₂ Prod.mk (out_B ..) rfl))
    (V m c main_arg0) (V m c main_arg1) 0 (fun q => q) (blk0 m c) (blk1 m c) t r d s q hs hq

/-- The output array after the run. -/
theorem final : (dats m 0 c).arrAt 2 (cfgs 0).N = fun j : S8192x12288.Idx => proj (V m c main_arg0) (V m c main_arg1) (j 0) (j 1) := by
  refine (dats m 0 c).arrAt_eq_of_covers 2 _ (by decide +kernel) fun t hf y => ?_
  blk_simp
  rw [after0_2]
  obtain ⟨r, d, rfl⟩ : ∃ (r : Fin 1024) (d : Fin 512), y = ix2 r d := ⟨y 0, y 1, by funext a; match a with | ⟨0, _⟩ => rfl | ⟨1, _⟩ => rfl⟩
  have ht := t_lt t
  have e0 : ((win0_2.blk t).view.emb (ix2 r d) (0 : Fin 2)).val = 1024 * (t.val % 8) + r.val := by blk_simp [(idx t).2.2]; omega
  have e1 : ((win0_2.blk t).view.emb (ix2 r d) (1 : Fin 2)).val = 512 * (t.val / 8) + d.val := by blk_simp [(idx t).2.2]; omega
  exact key m c t r d _ _ e0 e1

end Cert.Kernel3Ideal.Mm

end
-- ==== Proof.Mm.Out.lean ====
module

public import proofs.«01_k».proof.Proof.Gen.Kernel4Ideal.Frame
public import proofs.«01_k».proof.Proof.Mm.Common
public import Idealize.ShloMosaic.Lib.Pointwise
public import Idealize.ShloMosaic.Lib.Pipeline.Covers

@[expose] public section

set_option maxRecDepth 16384

noncomputable section

namespace Cert.Kernel4Ideal.Mm

open Idealize.ShloMosaic Idealize.ShloMosaic.TcCoe Idealize.ShloMosaic.Tactic Idealize.SL.Sem
open Cert.Kernel4Ideal Cert.Kernel4Ideal.Gen Cert.Mm

/-! The projection of the heads' results back to the model's width. Grid point `t` is the tile of rows `t % 8` and the block of columns `t / 8`. -/

section
variable (c : Dev nD) (i : grid0.Coords) (a2 : Memref sig .tc .vmem S1024x4096 .bf16) (h2 : a2.IsWhole) (a3 : Memref sig .tc .vmem S1x4096x512 .f32) (h3 : a3.IsWhole)
  (a4 : Memref sig .tc .vmem S1024x512 .f32) (h4 : a4.IsWhole) (a5 : Memref sig .tc .vmem S4096x512 .bf16) (h5 : a5.IsWhole)
  (x0 : Vec Ideal S1024x4096 .bf16) (x1 : Vec Ideal S1x4096x512 .f32) (xs : Vec Ideal S4096x512 .bf16)

/-- At a block's first tile of rows the scratch takes the block of weights. -/
theorem scr_A (hc : cond0_0 i) : sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz2]
  simp only [View.readAt_eq_ld, h3.read_unread, View.ld_unit_zero (S := S1x4096x512) hz3]
/-- and the output takes the rows' product with it. -/
theorem out_A (hc : cond0_0 i) : out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz2, View.readCov_unit_zero (S := S4096x512) _ hz2]
  simp only [View.readAt_eq_ld, h2.read_unread, h3.read_unread, View.ld_unit_zero (S := S1024x4096) hz2, View.ld_unit_zero (S := S1x4096x512) hz3]
/-- At the other tiles the output takes the rows' product with what the scratch holds. -/
theorem out_B (hc : ¬ cond0_0 i) : out0_B_2 c i a2 h2 a3 h3 a4 h4 a5 h5 hc x0 x1 xs = k0_pay2 x0 xs := by
  unfold out0_B_2
  rw [View.read_writes_eq_canon _ _ _ (cover0_B_2 c i a2 h2 a3 h3 a4 h4 a5 h5 hc x0 x1 xs)]
  unfold kernelRun0_B
  dsimp only
  sl_unfold_words
  rw [View.canon_unit_zero hz2]
  simp only [View.readAt_eq_ld, h2.read_unread, h5.read_unread, View.ld_unit_zero (S := S1024x4096) hz2, View.ld_unit_zero (S := S4096x512) hz2]

/-- A tile of rows' product with a block of weights, at an index. -/
theorem tile_at (r : Fin 1024) (d : Fin 512) : k0_pay2 x0 (k0_pay1 x1) (ix2 r d) = ∑ k : Fin 4096, x0 (ix2 r k) * x1 (ix3 (0 : Fin 1) k d) := by
  pointwise [k0_pay2, k0_pay1]
end

variable (m : (ℓ : Loc nD τ sig) → Buf (Elt Ideal) ℓ) (c : Dev nD)

theorem idx : ∀ t : Fin cfg0.N, win0_0.index t = ![t.val % 8, 0] ∧ win0_1.index t = ![0, 0, t.val / 8] ∧ win0_2.index t = ![t.val % 8, t.val / 8] := by decide +kernel

theorem t_lt (t : Fin cfg0.N) : t.val < 64 := lt_of_lt_of_eq t.isLt (show cfg0.N = 64 from N_0)

theorem blk0 (t : Fin cfg0.N) (r : Fin 1024) (k : Fin 4096) :
    iblk m c 0 t (ix2 r k) = V m c main_arg0 (ix2 ⟨1024 * (t.val % 8) + r.val, by omega⟩ k) := by
  have := t_lt t
  blk_ext [iblk, (idx t).1]
theorem blk1 (t : Fin cfg0.N) (k : Fin 4096) (d : Fin 512) :
    iblk m c 1 t (ix3 (0 : Fin 1) k d) = V m c main_arg1 (ix3 (0 : Fin 2) k ⟨512 * (t.val / 8) + d.val, by have := t_lt t; omega⟩) := by
  have := t_lt t
  blk_ext [iblk, (idx t).2.1]

/-- The projection, of whole arrays. -/
def proj (x : Vec Ideal S8192x4096 .bf16) (w : Vec Ideal S2x4096x4096 .f32) (s : Fin 8192) (d : Fin 4096) : EReal :=
  ∑ k : Fin 4096, x (ix2 s k) * w (ix3 (0 : Fin 2) k d)

theorem key (t : Fin cfg0.N) (r : Fin 1024) (d : Fin 512) (s : Fin 8192) (q : Fin 4096) (hs : s.val = 1024 * (t.val % 8) + r.val) (hq : q.val = 512 * (t.val / 8) + d.val) :
    (outsAt0 m c t.val t.isLt).1 (ix2 r d) = proj (V m c main_arg0) (V m c main_arg1) s q :=
  block (n' := 8) N_0.symm (by decide) 4096 (outsAt0 m c) (fun t => iblk m c 0 t) (fun t => iblk m c 1 t) (fun w => k0_pay1 (F := Ideal) w) (fun x s => k0_pay2 (F := Ideal) x s) tile_at
    (fun t h => (outsAt0_A m c t h).trans (congrArg₂ Prod.mk (out_A ..) (scr_A ..))) (fun t h => (outsAt0_B m c t h).trans (congrArg₂ Prod.mk (out_B ..) rfl))
    (V m c main_arg0) (V m c main_arg1) 0 (fun q => q) (blk0 m c) (blk1 m c) t r d s q hs hq

/-- The output array after the run. -/
theorem final : (dats m 0 c).arrAt 2 (cfgs 0).N = fun j : S8192x4096.Idx => proj (V m c main_arg0) (V m c main_arg1) (j 0) (j 1) := by
  refine (dats m 0 c).arrAt_eq_of_covers 2 _ (by decide +kernel) fun t hf y => ?_
  blk_simp
  rw [after0_2]
  obtain ⟨r, d, rfl⟩ : ∃ (r : Fin 1024) (d : Fin 512), y = ix2 r d := ⟨y 0, y 1, by funext a; match a with | ⟨0, _⟩ => rfl | ⟨1, _⟩ => rfl⟩
  have ht := t_lt t
  have e0 : ((win0_2.blk t).view.emb (ix2 r d) (0 : Fin 2)).val = 1024 * (t.val % 8) + r.val := by blk_simp [(idx t).2.2]; omega
  have e1 : ((win0_2.blk t).view.emb (ix2 r d) (1 : Fin 2)).val = 512 * (t.val / 8) + d.val := by blk_simp [(idx t).2.2]; omega
  exact key m c t r d _ _ e0 e1

end Cert.Kernel4Ideal.Mm

end
-- ==== Proof.Mm.MlaOut.lean ====
module

public import proofs.«01_k».proof.Proof.Gen.Kernel6Ideal.Frame
public import proofs.«01_k».proof.Proof.Mm.Out
public import Idealize.ShloMosaic.Lib.Pointwise
public import Idealize.ShloMosaic.Lib.Pipeline.Covers

@[expose] public section

set_option maxRecDepth 16384

noncomputable section

namespace Cert.Kernel6Ideal.Mm

open Idealize.ShloMosaic Idealize.ShloMosaic.TcCoe Idealize.ShloMosaic.Tactic Idealize.SL.Sem
open Cert.Kernel6Ideal Cert.Kernel6Ideal.Gen Cert.Mm

/-! The latent attention's projection of the heads' results back to the model's width: that of the stick-breaking layers, of the one layer's weights. Grid point `t` is the tile of rows `t % 8` and the block of columns `t / 8`. -/

section
variable (c : Dev nD) (i : grid0.Coords) (a2 : Memref sig .tc .vmem S1024x4096 .bf16) (h2 : a2.IsWhole) (a3 : Memref sig .tc .vmem S1x4096x512 .f32) (h3 : a3.IsWhole)
  (a4 : Memref sig .tc .vmem S1024x512 .f32) (h4 : a4.IsWhole) (a5 : Memref sig .tc .vmem S4096x512 .bf16) (h5 : a5.IsWhole)
  (x0 : Vec Ideal S1024x4096 .bf16) (x1 : Vec Ideal S1x4096x512 .f32) (xs : Vec Ideal S4096x512 .bf16)

/-- At a block's first tile of rows the scratch takes the block of weights. -/
theorem scr_A (hc : cond0_0 i) : sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz2]
  simp only [View.readAt_eq_ld, h3.read_unread, View.ld_unit_zero (S := S1x4096x512) hz3]
/-- and the output takes the rows' product with it. -/
theorem out_A (hc : cond0_0 i) : out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz2, View.readCov_unit_zero (S := S4096x512) _ hz2]
  simp only [View.readAt_eq_ld, h2.read_unread, h3.read_unread, View.ld_unit_zero (S := S1024x4096) hz2, View.ld_unit_zero (S := S1x4096x512) hz3]
/-- At the other tiles the output takes the rows' product with what the scratch holds. -/
theorem out_B (hc : ¬ cond0_0 i) : out0_B_2 c i a2 h2 a3 h3 a4 h4 a5 h5 hc x0 x1 xs = k0_pay2 x0 xs := by
  unfold out0_B_2
  rw [View.read_writes_eq_canon _ _ _ (cover0_B_2 c i a2 h2 a3 h3 a4 h4 a5 h5 hc x0 x1 xs)]
  unfold kernelRun0_B
  dsimp only
  sl_unfold_words
  rw [View.canon_unit_zero hz2]
  simp only [View.readAt_eq_ld, h2.read_unread, h5.read_unread, View.ld_unit_zero (S := S1024x4096) hz2, View.ld_unit_zero (S := S4096x512) hz2]

/-- A tile of rows' product with a block of weights, at an index. -/
theorem tile_at (r : Fin 1024) (d : Fin 512) : k0_pay2 x0 (k0_pay1 x1) (ix2 r d) = ∑ k : Fin 4096, x0 (ix2 r k) * x1 (ix3 (0 : Fin 1) k d) := by
  exact Cert.Kernel4Ideal.Mm.tile_at x0 x1 r d
end

variable (m : (ℓ : Loc nD τ sig) → Buf (Elt Ideal) ℓ) (c : Dev nD)

theorem idx : ∀ t : Fin cfg0.N, win0_0.index t = ![t.val % 8, 0] ∧ win0_1.index t = ![0, 0, t.val / 8] ∧ win0_2.index t = ![t.val % 8, t.val / 8] := by decide +kernel

theorem t_lt (t : Fin cfg0.N) : t.val < 64 := lt_of_lt_of_eq t.isLt (show cfg0.N = 64 from N_0)

theorem blk0 (t : Fin cfg0.N) (r : Fin 1024) (k : Fin 4096) :
    iblk m c 0 t (ix2 r k) = V m c main_arg0 (ix2 ⟨1024 * (t.val % 8) + r.val, by omega⟩ k) := by
  have := t_lt t
  blk_ext [iblk, (idx t).1]
theorem blk1 (t : Fin cfg0.N) (k : Fin 4096) (d : Fin 512) :
    iblk m c 1 t (ix3 (0 : Fin 1) k d) = V m c main_arg1 (ix3 (0 : Fin 1) k ⟨512 * (t.val / 8) + d.val, by have := t_lt t; omega⟩) := by
  have := t_lt t
  blk_ext [iblk, (idx t).2.1]

/-- The projection, of whole arrays. -/
def proj (x : Vec Ideal S8192x4096 .bf16) (w : Vec Ideal S1x4096x4096 .f32) (s : Fin 8192) (d : Fin 4096) : EReal :=
  ∑ k : Fin 4096, x (ix2 s k) * w (ix3 (0 : Fin 1) k d)

theorem key (t : Fin cfg0.N) (r : Fin 1024) (d : Fin 512) (s : Fin 8192) (q : Fin 4096) (hs : s.val = 1024 * (t.val % 8) + r.val) (hq : q.val = 512 * (t.val / 8) + d.val) :
    (outsAt0 m c t.val t.isLt).1 (ix2 r d) = proj (V m c main_arg0) (V m c main_arg1) s q :=
  block (n' := 8) N_0.symm (by decide) 4096 (outsAt0 m c) (fun t => iblk m c 0 t) (fun t => iblk m c 1 t) (fun w => k0_pay1 (F := Ideal) w) (fun x s => k0_pay2 (F := Ideal) x s) tile_at
    (fun t h => (outsAt0_A m c t h).trans (congrArg₂ Prod.mk (out_A ..) (scr_A ..))) (fun t h => (outsAt0_B m c t h).trans (congrArg₂ Prod.mk (out_B ..) rfl))
    (V m c main_arg0) (V m c main_arg1) 0 (fun q => q) (blk0 m c) (blk1 m c) t r d s q hs hq

/-- The output array after the run. -/
theorem final : (dats m 0 c).arrAt 2 (cfgs 0).N = fun j : S8192x4096.Idx => proj (V m c main_arg0) (V m c main_arg1) (j 0) (j 1) := by
  refine (dats m 0 c).arrAt_eq_of_covers 2 _ (by decide +kernel) fun t hf y => ?_
  blk_simp
  rw [after0_2]
  obtain ⟨r, d, rfl⟩ : ∃ (r : Fin 1024) (d : Fin 512), y = ix2 r d := ⟨y 0, y 1, by funext a; match a with | ⟨0, _⟩ => rfl | ⟨1, _⟩ => rfl⟩
  have ht := t_lt t
  have e0 : ((win0_2.blk t).view.emb (ix2 r d) (0 : Fin 2)).val = 1024 * (t.val % 8) + r.val := by blk_simp [(idx t).2.2]; omega
  have e1 : ((win0_2.blk t).view.emb (ix2 r d) (1 : Fin 2)).val = 512 * (t.val / 8) + d.val := by blk_simp [(idx t).2.2]; omega
  exact key m c t r d _ _ e0 e1

end Cert.Kernel6Ideal.Mm

end
-- ==== Proof.Mm.Dil.lean ====
module

public import proofs.«01_k».proof.Proof.Gen.Kernel5Ideal.Frame
public import proofs.«01_k».proof.Proof.Mm.Common
public import Idealize.ShloMosaic.Lib.Pointwise
public import Idealize.ShloMosaic.Lib.Pipeline.Covers

@[expose] public section

set_option maxRecDepth 16384

noncomputable section

namespace Cert.Kernel5Ideal.Mm

open Idealize.ShloMosaic Idealize.ShloMosaic.TcCoe Idealize.ShloMosaic.Tactic Idealize.SL.Sem
open Cert.Kernel5Ideal Cert.Kernel5Ideal.Gen Cert.Mm

/-! The dilated attention's projection to the first group's queries, keys and values, which are the columns 0 to 2047 of every 6144 of the weights. Grid point `t` is the tile of rows `t % 8` and the block of columns `t / 8`. -/

section
variable (c : Dev nD) (i : grid0.Coords) (a2 : Memref sig .tc .vmem S1024x4096 .bf16) (h2 : a2.IsWhole) (a3 : Memref sig .tc .vmem S1x4096x512 .f32) (h3 : a3.IsWhole)
  (a4 : Memref sig .tc .vmem S1024x512 .bf16) (h4 : a4.IsWhole) (a5 : Memref sig .tc .vmem S4096x512 .bf16) (h5 : a5.IsWhole)
  (x0 : Vec Ideal S1024x4096 .bf16) (x1 : Vec Ideal S1x4096x512 .f32) (xs : Vec Ideal S4096x512 .bf16)

/-- At a block's first tile of rows the scratch takes the block of weights. -/
theorem scr_A (hc : cond0_0 i) : sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz2]
  simp only [View.readAt_eq_ld, h3.read_unread, View.ld_unit_zero (S := S1x4096x512) hz3]
/-- and the output takes the rows' product with it. -/
theorem out_A (hc : cond0_0 i) : out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz2, View.readCov_unit_zero (S := S4096x512) _ hz2]
  simp only [View.readAt_eq_ld, h2.read_unread, h3.read_unread, View.ld_unit_zero (S := S1024x4096) hz2, View.ld_unit_zero (S := S1x4096x512) hz3]
/-- At the other tiles the output takes the rows' product with what the scratch holds. -/
theorem out_B (hc : ¬ cond0_0 i) : out0_B_2 c i a2 h2 a3 h3 a4 h4 a5 h5 hc x0 x1 xs = k0_pay2 x0 xs := by
  unfold out0_B_2
  rw [View.read_writes_eq_canon _ _ _ (cover0_B_2 c i a2 h2 a3 h3 a4 h4 a5 h5 hc x0 x1 xs)]
  unfold kernelRun0_B
  dsimp only
  sl_unfold_words
  rw [View.canon_unit_zero hz2]
  simp only [View.readAt_eq_ld, h2.read_unread, h5.read_unread, View.ld_unit_zero (S := S1024x4096) hz2, View.ld_unit_zero (S := S4096x512) hz2]

/-- A tile of rows' product with a block of weights, at an index. -/
theorem tile_at (r : Fin 1024) (d : Fin 512) : k0_pay2 x0 (k0_pay1 x1) (ix2 r d) = ∑ k : Fin 4096, x0 (ix2 r k) * x1 (ix3 (0 : Fin 1) k d) := by
  pointwise [k0_pay2, k0_pay1]
end

variable (m : (ℓ : Loc nD τ sig) → Buf (Elt Ideal) ℓ) (c : Dev nD)

theorem idx : ∀ t : Fin cfg0.N, win0_0.index t = ![t.val % 8, 0] ∧ win0_1.index t = ![0, 0, t.val / 32 * 12 + t.val / 8 % 4] ∧ win0_2.index t = ![t.val % 8, t.val / 8] := by decide +kernel

theorem t_lt (t : Fin cfg0.N) : t.val < 96 := lt_of_lt_of_eq t.isLt (show cfg0.N = 96 from N_0)

/-- The column of the weights that makes a column of the result. -/
def wcol (q : Fin 6144) : Fin 18432 := ⟨6144 * (q.val / 2048) + q.val % 2048, by omega⟩

theorem blk0 (t : Fin cfg0.N) (r : Fin 1024) (k : Fin 4096) :
    iblk m c 0 t (ix2 r k) = V m c main_arg0 (ix2 ⟨1024 * (t.val % 8) + r.val, by omega⟩ k) := by
  have := t_lt t
  blk_ext [iblk, (idx t).1]
theorem blk1 (t : Fin cfg0.N) (k : Fin 4096) (d : Fin 512) :
    iblk m c 1 t (ix3 (0 : Fin 1) k d) = V m c main_arg1 (ix3 (0 : Fin 1) k (wcol ⟨512 * (t.val / 8) + d.val, by have := t_lt t; omega⟩)) := by
  have := t_lt t
  blk_ext [iblk, wcol, (idx t).2.1]

/-- The projection, of whole arrays. -/
def proj (x : Vec Ideal S8192x4096 .bf16) (w : Vec Ideal S1x4096x18432 .f32) (s : Fin 8192) (d : Fin 6144) : EReal :=
  ∑ k : Fin 4096, x (ix2 s k) * w (ix3 (0 : Fin 1) k (wcol d))

theorem key (t : Fin cfg0.N) (r : Fin 1024) (d : Fin 512) (s : Fin 8192) (q : Fin 6144) (hs : s.val = 1024 * (t.val % 8) + r.val) (hq : q.val = 512 * (t.val / 8) + d.val) :
    (outsAt0 m c t.val t.isLt).1 (ix2 r d) = proj (V m c main_arg0) (V m c main_arg1) s q :=
  block (n' := 12) N_0.symm (by decide) 18432 (outsAt0 m c) (fun t => iblk m c 0 t) (fun t => iblk m c 1 t) (fun w => k0_pay1 (F := Ideal) w) (fun x s => k0_pay2 (F := Ideal) x s) tile_at
    (fun t h => (outsAt0_A m c t h).trans (congrArg₂ Prod.mk (out_A ..) (scr_A ..))) (fun t h => (outsAt0_B m c t h).trans (congrArg₂ Prod.mk (out_B ..) rfl))
    (V m c main_arg0) (V m c main_arg1) 0 wcol (blk0 m c) (blk1 m c) t r d s q hs hq

/-- The output array after the run. -/
theorem final : (dats m 0 c).arrAt 2 (cfgs 0).N = fun j : S8192x6144.Idx => proj (V m c main_arg0) (V m c main_arg1) (j 0) (j 1) := by
  refine (dats m 0 c).arrAt_eq_of_covers 2 _ (by decide +kernel) fun t hf y => ?_
  blk_simp
  rw [after0_2]
  obtain ⟨r, d, rfl⟩ : ∃ (r : Fin 1024) (d : Fin 512), y = ix2 r d := ⟨y 0, y 1, by funext a; match a with | ⟨0, _⟩ => rfl | ⟨1, _⟩ => rfl⟩
  have ht := t_lt t
  have e0 : ((win0_2.blk t).view.emb (ix2 r d) (0 : Fin 2)).val = 1024 * (t.val % 8) + r.val := by blk_simp [(idx t).2.2]; omega
  have e1 : ((win0_2.blk t).view.emb (ix2 r d) (1 : Fin 2)).val = 512 * (t.val / 8) + d.val := by blk_simp [(idx t).2.2]; omega
  exact key m c t r d _ _ e0 e1

end Cert.Kernel5Ideal.Mm

end
-- ==== Proof.Mm.Dil1.lean ====
module

public import proofs.«01_k».proof.Proof.Gen.Kernel7Ideal.Frame
public import proofs.«01_k».proof.Proof.Mm.Dil
public import Idealize.ShloMosaic.Lib.Pointwise
public import Idealize.ShloMosaic.Lib.Pipeline.Covers

@[expose] public section

set_option maxRecDepth 16384

noncomputable section

namespace Cert.Kernel7Ideal.Mm

open Idealize.ShloMosaic Idealize.ShloMosaic.TcCoe Idealize.ShloMosaic.Tactic Idealize.SL.Sem
open Cert.Kernel7Ideal Cert.Kernel7Ideal.Gen Cert.Mm

/-! The dilated attention's projection to the second group's queries, keys and values, which are the columns 2048 to 4095 of every 6144 of the weights. The body is the first group's. Grid point `t` is the tile of rows `t % 8` and the block of columns `t / 8`. -/

section
variable (c : Dev nD) (i : grid0.Coords) (a2 : Memref sig .tc .vmem S1024x4096 .bf16) (h2 : a2.IsWhole) (a3 : Memref sig .tc .vmem S1x4096x512 .f32) (h3 : a3.IsWhole)
  (a4 : Memref sig .tc .vmem S1024x512 .bf16) (h4 : a4.IsWhole) (a5 : Memref sig .tc .vmem S4096x512 .bf16) (h5 : a5.IsWhole)
  (x0 : Vec Ideal S1024x4096 .bf16) (x1 : Vec Ideal S1x4096x512 .f32) (xs : Vec Ideal S4096x512 .bf16)

theorem scr_A (hc : cond0_0 i) : sout0_A_0 c i a2 h2 a3 h3 a4 h4 a5 h5 hc x0 x1 = k0_pay1 x1 :=
  Cert.Kernel5Ideal.Mm.scr_A c i a2 h2 a3 h3 a4 h4 a5 h5 x0 x1 hc
theorem out_A (hc : cond0_0 i) : out0_A_2 c i a2 h2 a3 h3 a4 h4 a5 h5 hc x0 x1 = k0_pay2 x0 (k0_pay1 x1) :=
  Cert.Kernel5Ideal.Mm.out_A c i a2 h2 a3 h3 a4 h4 a5 h5 x0 x1 hc
theorem out_B (hc : ¬ cond0_0 i) : out0_B_2 c i a2 h2 a3 h3 a4 h4 a5 h5 hc x0 x1 xs = k0_pay2 x0 xs :=
  Cert.Kernel5Ideal.Mm.out_B c i a2 h2 a3 h3 a4 h4 a5 h5 x0 x1 xs hc

/-- A tile of rows' product with a block of weights, at an index. -/
theorem tile_at (r : Fin 1024) (d : Fin 512) : k0_pay2 x0 (k0_pay1 x1) (ix2 r d) = ∑ k : Fin 4096, x0 (ix2 r k) * x1 (ix3 (0 : Fin 1) k d) := by
  exact Cert.Kernel5Ideal.Mm.tile_at x0 x1 r d
end

variable (m : (ℓ : Loc nD τ sig) → Buf (Elt Ideal) ℓ) (c : Dev nD)

theorem idx : ∀ t : Fin cfg0.N, win0_0.index t = ![t.val % 8, 0] ∧ win0_1.index t = ![0, 0, t.val / 32 * 12 + 4 + t.val / 8 % 4] ∧ win0_2.index t = ![t.val % 8, t.val / 8] := by decide +kernel

theorem t_lt (t : Fin cfg0.N) : t.val < 96 := lt_of_lt_of_eq t.isLt (show cfg0.N = 96 from N_0)

/-- The column of the weights that makes a column of the result. -/
def wcol (q : Fin 6144) : Fin 18432 := ⟨6144 * (q.val / 2048) + 2048 + q.val % 2048, by omega⟩

theorem blk0 (t : Fin cfg0.N) (r : Fin 1024) (k : Fin 4096) :
    iblk m c 0 t (ix2 r k) = V m c main_arg0 (ix2 ⟨1024 * (t.val % 8) + r.val, by omega⟩ k) := by
  have := t_lt t
  blk_ext [iblk, (idx t).1]
theorem blk1 (t : Fin cfg0.N) (k : Fin 4096) (d : Fin 512) :
    iblk m c 1 t (ix3 (0 : Fin 1) k d) = V m c main_arg1 (ix3 (0 : Fin 1) k (wcol ⟨512 * (t.val / 8) + d.val, by have := t_lt t; omega⟩)) := by
  have := t_lt t
  blk_ext [iblk, wcol, (idx t).2.1]

/-- The projection, of whole arrays. -/
def proj (x : Vec Ideal S8192x4096 .bf16) (w : Vec Ideal S1x4096x18432 .f32) (s : Fin 8192) (d : Fin 6144) : EReal :=
  ∑ k : Fin 4096, x (ix2 s k) * w (ix3 (0 : Fin 1) k (wcol d))

/-- A block of the result. -/
theorem key (t : Fin cfg0.N) (r : Fin 1024) (d : Fin 512) (s : Fin 8192) (q : Fin 6144) (hs : s.val = 1024 * (t.val % 8) + r.val) (hq : q.val = 512 * (t.val / 8) + d.val) :
    (outsAt0 m c t.val t.isLt).1 (ix2 r d) = proj (V m c main_arg0) (V m c main_arg1) s q :=
  block (n' := 12) N_0.symm (by decide) 18432 (outsAt0 m c) (fun t => iblk m c 0 t) (fun t => iblk m c 1 t) (fun w => k0_pay1 (F := Ideal) w) (fun x s => k0_pay2 (F := Ideal) x s) tile_at
    (fun t h => (outsAt0_A m c t h).trans (congrArg₂ Prod.mk (out_A ..) (scr_A ..))) (fun t h => (outsAt0_B m c t h).trans (congrArg₂ Prod.mk (out_B ..) rfl))
    (V m c main_arg0) (V m c main_arg1) 0 wcol (blk0 m c) (blk1 m c) t r d s q hs hq

/-- The output array after the run. -/
theorem final : (dats m 0 c).arrAt 2 (cfgs 0).N = fun j : S8192x6144.Idx => proj (V m c main_arg0) (V m c main_arg1) (j 0) (j 1) := by
  refine (dats m 0 c).arrAt_eq_of_covers 2 _ (by decide +kernel) fun t hf y => ?_
  blk_simp
  rw [after0_2]
  obtain ⟨r, d, rfl⟩ : ∃ (r : Fin 1024) (d : Fin 512), y = ix2 r d := ⟨y 0, y 1, by funext a; match a with | ⟨0, _⟩ => rfl | ⟨1, _⟩ => rfl⟩
  have ht := t_lt t
  have e0 : ((win0_2.blk t).view.emb (ix2 r d) (0 : Fin 2)).val = 1024 * (t.val % 8) + r.val := by blk_simp [(idx t).2.2]; omega
  have e1 : ((win0_2.blk t).view.emb (ix2 r d) (1 : Fin 2)).val = 512 * (t.val / 8) + d.val := by blk_simp [(idx t).2.2]; omega
  exact key m c t r d _ _ e0 e1

end Cert.Kernel7Ideal.Mm

end
-- ==== Proof.Mm.Dil2.lean ====
module

public import proofs.«01_k».proof.Proof.Gen.Kernel8Ideal.Frame
public import proofs.«01_k».proof.Proof.Mm.Dil
public import Idealize.ShloMosaic.Lib.Pointwise
public import Idealize.ShloMosaic.Lib.Pipeline.Covers

@[expose] public section

set_option maxRecDepth 16384

noncomputable section

namespace Cert.Kernel8Ideal.Mm

open Idealize.ShloMosaic Idealize.ShloMosaic.TcCoe Idealize.ShloMosaic.Tactic Idealize.SL.Sem
open Cert.Kernel8Ideal Cert.Kernel8Ideal.Gen Cert.Mm

/-! The dilated attention's projection to the third group's queries, keys and values, which are the columns 4096 to 6143 of every 6144 of the weights. The body is the first group's. Grid point `t` is the tile of rows `t % 8` and the block of columns `t / 8`. -/

section
variable (c : Dev nD) (i : grid0.Coords) (a2 : Memref sig .tc .vmem S1024x4096 .bf16) (h2 : a2.IsWhole) (a3 : Memref sig .tc .vmem S1x4096x512 .f32) (h3 : a3.IsWhole)
  (a4 : Memref sig .tc .vmem S1024x512 .bf16) (h4 : a4.IsWhole) (a5 : Memref sig .tc .vmem S4096x512 .bf16) (h5 : a5.IsWhole)
  (x0 : Vec Ideal S1024x4096 .bf16) (x1 : Vec Ideal S1x4096x512 .f32) (xs : Vec Ideal S4096x512 .bf16)

theorem scr_A (hc : cond0_0 i) : sout0_A_0 c i a2 h2 a3 h3 a4 h4 a5 h5 hc x0 x1 = k0_pay1 x1 :=
  Cert.Kernel5Ideal.Mm.scr_A c i a2 h2 a3 h3 a4 h4 a5 h5 x0 x1 hc
theorem out_A (hc : cond0_0 i) : out0_A_2 c i a2 h2 a3 h3 a4 h4 a5 h5 hc x0 x1 = k0_pay2 x0 (k0_pay1 x1) :=
  Cert.Kernel5Ideal.Mm.out_A c i a2 h2 a3 h3 a4 h4 a5 h5 x0 x1 hc
theorem out_B (hc : ¬ cond0_0 i) : out0_B_2 c i a2 h2 a3 h3 a4 h4 a5 h5 hc x0 x1 xs = k0_pay2 x0 xs :=
  Cert.Kernel5Ideal.Mm.out_B c i a2 h2 a3 h3 a4 h4 a5 h5 x0 x1 xs hc

/-- A tile of rows' product with a block of weights, at an index. -/
theorem tile_at (r : Fin 1024) (d : Fin 512) : k0_pay2 x0 (k0_pay1 x1) (ix2 r d) = ∑ k : Fin 4096, x0 (ix2 r k) * x1 (ix3 (0 : Fin 1) k d) := by
  exact Cert.Kernel5Ideal.Mm.tile_at x0 x1 r d
end

variable (m : (ℓ : Loc nD τ sig) → Buf (Elt Ideal) ℓ) (c : Dev nD)

theorem idx : ∀ t : Fin cfg0.N, win0_0.index t = ![t.val % 8, 0] ∧ win0_1.index t = ![0, 0, t.val / 32 * 12 + 8 + t.val / 8 % 4] ∧ win0_2.index t = ![t.val % 8, t.val / 8] := by decide +kernel

theorem t_lt (t : Fin cfg0.N) : t.val < 96 := lt_of_lt_of_eq t.isLt (show cfg0.N = 96 from N_0)

/-- The column of the weights that makes a column of the result. -/
def wcol (q : Fin 6144) : Fin 18432 := ⟨6144 * (q.val / 2048) + 4096 + q.val % 2048, by omega⟩

theorem blk0 (t : Fin cfg0.N) (r : Fin 1024) (k : Fin 4096) :
    iblk m c 0 t (ix2 r k) = V m c main_arg0 (ix2 ⟨1024 * (t.val % 8) + r.val, by omega⟩ k) := by
  have := t_lt t
  blk_ext [iblk, (idx t).1]
theorem blk1 (t : Fin cfg0.N) (k : Fin 4096) (d : Fin 512) :
    iblk m c 1 t (ix3 (0 : Fin 1) k d) = V m c main_arg1 (ix3 (0 : Fin 1) k (wcol ⟨512 * (t.val / 8) + d.val, by have := t_lt t; omega⟩)) := by
  have := t_lt t
  blk_ext [iblk, wcol, (idx t).2.1]

/-- The projection, of whole arrays. -/
def proj (x : Vec Ideal S8192x4096 .bf16) (w : Vec Ideal S1x4096x18432 .f32) (s : Fin 8192) (d : Fin 6144) : EReal :=
  ∑ k : Fin 4096, x (ix2 s k) * w (ix3 (0 : Fin 1) k (wcol d))

/-- A block of the result. -/
theorem key (t : Fin cfg0.N) (r : Fin 1024) (d : Fin 512) (s : Fin 8192) (q : Fin 6144) (hs : s.val = 1024 * (t.val % 8) + r.val) (hq : q.val = 512 * (t.val / 8) + d.val) :
    (outsAt0 m c t.val t.isLt).1 (ix2 r d) = proj (V m c main_arg0) (V m c main_arg1) s q :=
  block (n' := 12) N_0.symm (by decide) 18432 (outsAt0 m c) (fun t => iblk m c 0 t) (fun t => iblk m c 1 t) (fun w => k0_pay1 (F := Ideal) w) (fun x s => k0_pay2 (F := Ideal) x s) tile_at
    (fun t h => (outsAt0_A m c t h).trans (congrArg₂ Prod.mk (out_A ..) (scr_A ..))) (fun t h => (outsAt0_B m c t h).trans (congrArg₂ Prod.mk (out_B ..) rfl))
    (V m c main_arg0) (V m c main_arg1) 0 wcol (blk0 m c) (blk1 m c) t r d s q hs hq

/-- The output array after the run. -/
theorem final : (dats m 0 c).arrAt 2 (cfgs 0).N = fun j : S8192x6144.Idx => proj (V m c main_arg0) (V m c main_arg1) (j 0) (j 1) := by
  refine (dats m 0 c).arrAt_eq_of_covers 2 _ (by decide +kernel) fun t hf y => ?_
  blk_simp
  rw [after0_2]
  obtain ⟨r, d, rfl⟩ : ∃ (r : Fin 1024) (d : Fin 512), y = ix2 r d := ⟨y 0, y 1, by funext a; match a with | ⟨0, _⟩ => rfl | ⟨1, _⟩ => rfl⟩
  have ht := t_lt t
  have e0 : ((win0_2.blk t).view.emb (ix2 r d) (0 : Fin 2)).val = 1024 * (t.val % 8) + r.val := by blk_simp [(idx t).2.2]; omega
  have e1 : ((win0_2.blk t).view.emb (ix2 r d) (1 : Fin 2)).val = 512 * (t.val / 8) + d.val := by blk_simp [(idx t).2.2]; omega
  exact key m c t r d _ _ e0 e1

end Cert.Kernel8Ideal.Mm

end
-- ==== Proof.Mm.DilOut.lean ====
module

public import proofs.«01_k».proof.Proof.Gen.Kernel9Ideal.Frame
public import proofs.«01_k».proof.Proof.Mm.Common
public import Idealize.ShloMosaic.Lib.Pointwise
public import Idealize.ShloMosaic.Lib.Pipeline.Covers

@[expose] public section

set_option maxRecDepth 16384

noncomputable section

namespace Cert.Kernel9Ideal.Mm

open Idealize.ShloMosaic Idealize.ShloMosaic.TcCoe Idealize.ShloMosaic.Tactic Idealize.SL.Sem
open Cert.Kernel9Ideal Cert.Kernel9Ideal.Gen Cert.Mm

/-! The dilated attention's projection of the heads' results back to the model's width. Grid point `t` is the tile of rows `t % 8` and the block of columns `t / 8`. -/

section
variable (c : Dev nD) (i : grid0.Coords) (a2 : Memref sig .tc .vmem S1024x2048 .bf16) (h2 : a2.IsWhole) (a3 : Memref sig .tc .vmem S1x2048x512 .f32) (h3 : a3.IsWhole)
  (a4 : Memref sig .tc .vmem S1024x512 .f32) (h4 : a4.IsWhole) (a5 : Memref sig .tc .vmem S2048x512 .bf16) (h5 : a5.IsWhole)
  (x0 : Vec Ideal S1024x2048 .bf16) (x1 : Vec Ideal S1x2048x512 .f32) (xs : Vec Ideal S2048x512 .bf16)

/-- At a block's first tile of rows the scratch takes the block of weights. -/
theorem scr_A (hc : cond0_0 i) : sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz2]
  simp only [View.readAt_eq_ld, h3.read_unread, View.ld_unit_zero (S := S1x2048x512) hz3]
/-- and the output takes the rows' product with it. -/
theorem out_A (hc : cond0_0 i) : out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz2, View.readCov_unit_zero (S := S2048x512) _ hz2]
  simp only [View.readAt_eq_ld, h2.read_unread, h3.read_unread, View.ld_unit_zero (S := S1024x2048) hz2, View.ld_unit_zero (S := S1x2048x512) hz3]
/-- At the other tiles the output takes the rows' product with what the scratch holds. -/
theorem out_B (hc : ¬ cond0_0 i) : out0_B_2 c i a2 h2 a3 h3 a4 h4 a5 h5 hc x0 x1 xs = k0_pay2 x0 xs := by
  unfold out0_B_2
  rw [View.read_writes_eq_canon _ _ _ (cover0_B_2 c i a2 h2 a3 h3 a4 h4 a5 h5 hc x0 x1 xs)]
  unfold kernelRun0_B
  dsimp only
  sl_unfold_words
  rw [View.canon_unit_zero hz2]
  simp only [View.readAt_eq_ld, h2.read_unread, h5.read_unread, View.ld_unit_zero (S := S1024x2048) hz2, View.ld_unit_zero (S := S2048x512) hz2]

/-- A tile of rows' product with a block of weights, at an index. -/
theorem tile_at (r : Fin 1024) (d : Fin 512) : k0_pay2 x0 (k0_pay1 x1) (ix2 r d) = ∑ k : Fin 2048, x0 (ix2 r k) * x1 (ix3 (0 : Fin 1) k d) := by
  pointwise [k0_pay2, k0_pay1]
end

variable (m : (ℓ : Loc nD τ sig) → Buf (Elt Ideal) ℓ) (c : Dev nD)

theorem idx : ∀ t : Fin cfg0.N, win0_0.index t = ![t.val % 8, 0] ∧ win0_1.index t = ![0, 0, t.val / 8] ∧ win0_2.index t = ![t.val % 8, t.val / 8] := by decide +kernel

theorem t_lt (t : Fin cfg0.N) : t.val < 64 := lt_of_lt_of_eq t.isLt (show cfg0.N = 64 from N_0)

theorem blk0 (t : Fin cfg0.N) (r : Fin 1024) (k : Fin 2048) :
    iblk m c 0 t (ix2 r k) = V m c main_arg0 (ix2 ⟨1024 * (t.val % 8) + r.val, by omega⟩ k) := by
  have := t_lt t
  blk_ext [iblk, (idx t).1]
theorem blk1 (t : Fin cfg0.N) (k : Fin 2048) (d : Fin 512) :
    iblk m c 1 t (ix3 (0 : Fin 1) k d) = V m c main_arg1 (ix3 (0 : Fin 1) k ⟨512 * (t.val / 8) + d.val, by have := t_lt t; omega⟩) := by
  have := t_lt t
  blk_ext [iblk, (idx t).2.1]

/-- The projection, of whole arrays. -/
def proj (x : Vec Ideal S8192x2048 .bf16) (w : Vec Ideal S1x2048x4096 .f32) (s : Fin 8192) (d : Fin 4096) : EReal :=
  ∑ k : Fin 2048, x (ix2 s k) * w (ix3 (0 : Fin 1) k d)

theorem key (t : Fin cfg0.N) (r : Fin 1024) (d : Fin 512) (s : Fin 8192) (q : Fin 4096) (hs : s.val = 1024 * (t.val % 8) + r.val) (hq : q.val = 512 * (t.val / 8) + d.val) :
    (outsAt0 m c t.val t.isLt).1 (ix2 r d) = proj (V m c main_arg0) (V m c main_arg1) s q :=
  block (n' := 8) N_0.symm (by decide) 4096 (outsAt0 m c) (fun t => iblk m c 0 t) (fun t => iblk m c 1 t) (fun w => k0_pay1 (F := Ideal) w) (fun x s => k0_pay2 (F := Ideal) x s) tile_at
    (fun t h => (outsAt0_A m c t h).trans (congrArg₂ Prod.mk (out_A ..) (scr_A ..))) (fun t h => (outsAt0_B m c t h).trans (congrArg₂ Prod.mk (out_B ..) rfl))
    (V m c main_arg0) (V m c main_arg1) 0 (fun q => q) (blk0 m c) (blk1 m c) t r d s q hs hq

/-- The output array after the run. -/
theorem final : (dats m 0 c).arrAt 2 (cfgs 0).N = fun j : S8192x4096.Idx => proj (V m c main_arg0) (V m c main_arg1) (j 0) (j 1) := by
  refine (dats m 0 c).arrAt_eq_of_covers 2 _ (by decide +kernel) fun t hf y => ?_
  blk_simp
  rw [after0_2]
  obtain ⟨r, d, rfl⟩ : ∃ (r : Fin 1024) (d : Fin 512), y = ix2 r d := ⟨y 0, y 1, by funext a; match a with | ⟨0, _⟩ => rfl | ⟨1, _⟩ => rfl⟩
  have ht := t_lt t
  have e0 : ((win0_2.blk t).view.emb (ix2 r d) (0 : Fin 2)).val = 1024 * (t.val % 8) + r.val := by blk_simp [(idx t).2.2]; omega
  have e1 : ((win0_2.blk t).view.emb (ix2 r d) (1 : Fin 2)).val = 512 * (t.val / 8) + d.val := by blk_simp [(idx t).2.2]; omega
  exact key m c t r d _ _ e0 e1

end Cert.Kernel9Ideal.Mm

end
-- ==== Proof.Mm.Kvb.lean ====
module

public import proofs.«01_k».proof.Proof.Gen.Kernel10Ideal.Frame
public import proofs.«01_k».proof.Proof.Mm.Common
public import Idealize.ShloMosaic.Lib.Pointwise
public import Idealize.ShloMosaic.Lib.Pipeline.Covers

@[expose] public section

set_option maxRecDepth 16384

noncomputable section

namespace Cert.Kernel10Ideal.Mm

open Idealize.ShloMosaic Idealize.ShloMosaic.TcCoe Idealize.ShloMosaic.Tactic Idealize.SL.Sem
open Cert.Kernel10Ideal Cert.Kernel10Ideal.Gen Cert.Mm

/-! The latent attention's projection of its compressed rows to keys and values. Grid point `t` is the tile of rows `t % 8` and the block of columns `t / 8`. -/

section
variable (c : Dev nD) (i : grid0.Coords) (a2 : Memref sig .tc .vmem S1024x512 .bf16) (h2 : a2.IsWhole) (a3 : Memref sig .tc .vmem S1x512x512 .f32) (h3 : a3.IsWhole)
  (a4 : Memref sig .tc .vmem S1024x512 .bf16) (h4 : a4.IsWhole) (a5 : Memref sig .tc .vmem S512x512 .bf16) (h5 : a5.IsWhole)
  (x0 : Vec Ideal S1024x512 .bf16) (x1 : Vec Ideal S1x512x512 .f32) (xs : Vec Ideal S512x512 .bf16)

/-- At a block's first tile of rows the scratch takes the block of weights. -/
theorem scr_A (hc : cond0_0 i) : sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz2]
  simp only [View.readAt_eq_ld, h3.read_unread, View.ld_unit_zero (S := S1x512x512) hz3]
/-- and the output takes the rows' product with it. -/
theorem out_A (hc : cond0_0 i) : out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz2, View.readCov_unit_zero (S := S512x512) _ hz2]
  simp only [View.readAt_eq_ld, h2.read_unread, h3.read_unread, View.ld_unit_zero (S := S1024x512) hz2, View.ld_unit_zero (S := S1x512x512) hz3]
/-- At the other tiles the output takes the rows' product with what the scratch holds. -/
theorem out_B (hc : ¬ cond0_0 i) : out0_B_2 c i a2 h2 a3 h3 a4 h4 a5 h5 hc x0 x1 xs = k0_pay2 x0 xs := by
  unfold out0_B_2
  rw [View.read_writes_eq_canon _ _ _ (cover0_B_2 c i a2 h2 a3 h3 a4 h4 a5 h5 hc x0 x1 xs)]
  unfold kernelRun0_B
  dsimp only
  sl_unfold_words
  rw [View.canon_unit_zero hz2]
  simp only [View.readAt_eq_ld, h2.read_unread, h5.read_unread, View.ld_unit_zero (S := S1024x512) hz2, View.ld_unit_zero (S := S512x512) hz2]

/-- A tile of rows' product with a block of weights, at an index. -/
theorem tile_at (r : Fin 1024) (d : Fin 512) : k0_pay2 x0 (k0_pay1 x1) (ix2 r d) = ∑ k : Fin 512, x0 (ix2 r k) * x1 (ix3 (0 : Fin 1) k d) := by
  pointwise [k0_pay2, k0_pay1]
end

variable (m : (ℓ : Loc nD τ sig) → Buf (Elt Ideal) ℓ) (c : Dev nD)

theorem idx : ∀ t : Fin cfg0.N, win0_0.index t = ![t.val % 8, 0] ∧ win0_1.index t = ![0, 0, t.val / 8] ∧ win0_2.index t = ![t.val % 8, t.val / 8] := by decide +kernel

theorem t_lt (t : Fin cfg0.N) : t.val < 128 := lt_of_lt_of_eq t.isLt (show cfg0.N = 128 from N_0)

theorem blk0 (t : Fin cfg0.N) (r : Fin 1024) (k : Fin 512) :
    iblk m c 0 t (ix2 r k) = V m c main_arg0 (ix2 ⟨1024 * (t.val % 8) + r.val, by omega⟩ k) := by
  have := t_lt t
  blk_ext [iblk, (idx t).1]
theorem blk1 (t : Fin cfg0.N) (k : Fin 512) (d : Fin 512) :
    iblk m c 1 t (ix3 (0 : Fin 1) k d) = V m c main_arg1 (ix3 (0 : Fin 1) k ⟨512 * (t.val / 8) + d.val, by have := t_lt t; omega⟩) := by
  have := t_lt t
  blk_ext [iblk, (idx t).2.1]

/-- The projection, of whole arrays. -/
def proj (x : Vec Ideal S8192x512 .bf16) (w : Vec Ideal S1x512x8192 .f32) (s : Fin 8192) (d : Fin 8192) : EReal :=
  ∑ k : Fin 512, x (ix2 s k) * w (ix3 (0 : Fin 1) k d)

theorem key (t : Fin cfg0.N) (r : Fin 1024) (d : Fin 512) (s : Fin 8192) (q : Fin 8192) (hs : s.val = 1024 * (t.val % 8) + r.val) (hq : q.val = 512 * (t.val / 8) + d.val) :
    (outsAt0 m c t.val t.isLt).1 (ix2 r d) = proj (V m c main_arg0) (V m c main_arg1) s q :=
  block (n' := 16) N_0.symm (by decide) 8192 (outsAt0 m c) (fun t => iblk m c 0 t) (fun t => iblk m c 1 t) (fun w => k0_pay1 (F := Ideal) w) (fun x s => k0_pay2 (F := Ideal) x s) tile_at
    (fun t h => (outsAt0_A m c t h).trans (congrArg₂ Prod.mk (out_A ..) (scr_A ..))) (fun t h => (outsAt0_B m c t h).trans (congrArg₂ Prod.mk (out_B ..) rfl))
    (V m c main_arg0) (V m c main_arg1) 0 (fun q => q) (blk0 m c) (blk1 m c) t r d s q hs hq

/-- The output array after the run. -/
theorem final : (dats m 0 c).arrAt 2 (cfgs 0).N = fun j : S8192x8192.Idx => proj (V m c main_arg0) (V m c main_arg1) (j 0) (j 1) := by
  refine (dats m 0 c).arrAt_eq_of_covers 2 _ (by decide +kernel) fun t hf y => ?_
  blk_simp
  rw [after0_2]
  obtain ⟨r, d, rfl⟩ : ∃ (r : Fin 1024) (d : Fin 512), y = ix2 r d := ⟨y 0, y 1, by funext a; match a with | ⟨0, _⟩ => rfl | ⟨1, _⟩ => rfl⟩
  have ht := t_lt t
  have e0 : ((win0_2.blk t).view.emb (ix2 r d) (0 : Fin 2)).val = 1024 * (t.val % 8) + r.val := by blk_simp [(idx t).2.2]; omega
  have e1 : ((win0_2.blk t).view.emb (ix2 r d) (1 : Fin 2)).val = 512 * (t.val / 8) + d.val := by blk_simp [(idx t).2.2]; omega
  exact key m c t r d _ _ e0 e1

end Cert.Kernel10Ideal.Mm

end
-- ==== Proof.Mm.MlaA.lean ====
module

public import proofs.«01_k».proof.Proof.Gen.Kernel11Ideal.Frame
public import proofs.«01_k».proof.Proof.Mm.Common
public import Idealize.ShloMosaic.Lib.Pointwise
public import Idealize.ShloMosaic.Lib.Pipeline.Covers

@[expose] public section

set_option maxRecDepth 16384

noncomputable section

namespace Cert.Kernel11Ideal.Mm

open Idealize.ShloMosaic Idealize.ShloMosaic.TcCoe Idealize.ShloMosaic.Tactic Idealize.SL.Sem
open Cert.Kernel11Ideal Cert.Kernel11Ideal.Gen Cert.Mm

/-! The latent attention's projection to its compressed rows: queries', keys' and values' and the shared key, side by side, then columns of zeros. Grid point `t` is the tile of rows `t % 8` and the block of columns `t / 8`. -/

section
variable (c : Dev nD) (i : grid0.Coords) (a2 : Memref sig .tc .vmem S1024x4096 .bf16) (h2 : a2.IsWhole) (a3 : Memref sig .tc .vmem S4096x512 .f32) (h3 : a3.IsWhole)
  (a4 : Memref sig .tc .vmem S1024x512 .f32) (h4 : a4.IsWhole) (a5 : Memref sig .tc .vmem S4096x512 .bf16) (h5 : a5.IsWhole)
  (x0 : Vec Ideal S1024x4096 .bf16) (x1 : Vec Ideal S4096x512 .f32) (xs : Vec Ideal S4096x512 .bf16)

/-- At a block's first tile of rows the scratch takes the block of weights. -/
theorem scr_A (hc : cond0_0 i) : sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz2]
  simp only [View.readAt_eq_ld, h3.read_unread, View.ld_unit_zero (S := S4096x512) hz2]
/-- and the output takes the rows' product with it. -/
theorem out_A (hc : cond0_0 i) : out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz2, View.readCov_unit_zero (S := S4096x512) _ hz2]
  simp only [View.readAt_eq_ld, h2.read_unread, h3.read_unread, View.ld_unit_zero (S := S1024x4096) hz2, View.ld_unit_zero (S := S4096x512) hz2]
/-- At the other tiles the output takes the rows' product with what the scratch holds. -/
theorem out_B (hc : ¬ cond0_0 i) : out0_B_2 c i a2 h2 a3 h3 a4 h4 a5 h5 hc x0 x1 xs = k0_pay2 x0 xs := by
  unfold out0_B_2
  rw [View.read_writes_eq_canon _ _ _ (cover0_B_2 c i a2 h2 a3 h3 a4 h4 a5 h5 hc x0 x1 xs)]
  unfold kernelRun0_B
  dsimp only
  sl_unfold_words
  rw [View.canon_unit_zero hz2]
  simp only [View.readAt_eq_ld, h2.read_unread, h5.read_unread, View.ld_unit_zero (S := S1024x4096) hz2, View.ld_unit_zero (S := S4096x512) hz2]

/-- A tile of rows' product with a block of weights, at an index. -/
theorem tile_at (r : Fin 1024) (d : Fin 512) : k0_pay2 x0 (k0_pay1 x1) (ix2 r d) = ∑ k : Fin 4096, x0 (ix2 r k) * x1 (ix2 k d) := by
  pointwise [k0_pay2, k0_pay1]
end

variable (m : (ℓ : Loc nD τ sig) → Buf (Elt Ideal) ℓ) (c : Dev nD)

theorem idx : ∀ t : Fin cfg0.N, win0_0.index t = ![t.val % 8, 0] ∧ win0_1.index t = ![0, t.val / 8] ∧ win0_2.index t = ![t.val % 8, t.val / 8] := by decide +kernel

theorem t_lt (t : Fin cfg0.N) : t.val < 32 := lt_of_lt_of_eq t.isLt (show cfg0.N = 32 from N_0)

theorem blk0 (t : Fin cfg0.N) (r : Fin 1024) (k : Fin 4096) :
    iblk m c 0 t (ix2 r k) = V m c main_arg0 (ix2 ⟨1024 * (t.val % 8) + r.val, by omega⟩ k) := by
  have := t_lt t
  blk_ext [iblk, (idx t).1]
theorem blk1 (t : Fin cfg0.N) (k : Fin 4096) (d : Fin 512) :
    iblk m c 1 t (ix2 k d) = V m c main_v1 (ix2 k ⟨512 * (t.val / 8) + d.val, by have := t_lt t; omega⟩) := by
  have := t_lt t
  blk_ext [iblk, (idx t).2.1]

/-- The projection, of whole arrays. -/
def proj (x : Vec Ideal S8192x4096 .bf16) (w : Vec Ideal S4096x2048 .f32) (s : Fin 8192) (d : Fin 2048) : EReal :=
  ∑ k : Fin 4096, x (ix2 s k) * w (ix2 k d)

theorem key (t : Fin cfg0.N) (r : Fin 1024) (d : Fin 512) (s : Fin 8192) (q : Fin 2048) (hs : s.val = 1024 * (t.val % 8) + r.val) (hq : q.val = 512 * (t.val / 8) + d.val) :
    (outsAt0 m c t.val t.isLt).1 (ix2 r d) = proj (V m c main_arg0) (V m c main_v1) s q :=
  blockOf (n' := 4) (WB := (⟨2, ![4096, 512]⟩ : Shape).Idx → EReal) N_0.symm (by decide) (outsAt0 m c) (fun t => iblk m c 0 t) (fun t => iblk m c 1 t) (fun w k d => w (ix2 k d)) (ext2 (n := 4096) (m := 512)) (fun w => k0_pay1 (F := Ideal) w) (fun x s => k0_pay2 (F := Ideal) x s) tile_at
    (fun t h => (outsAt0_A m c t h).trans (congrArg₂ Prod.mk (out_A ..) (scr_A ..))) (fun t h => (outsAt0_B m c t h).trans (congrArg₂ Prod.mk (out_B ..) rfl))
    (V m c main_arg0) (fun k q => V m c main_v1 (ix2 k q)) (blk0 m c) (blk1 m c) t r d s q hs hq

/-- The three arrays of weights side by side. -/
def wcat (a : Vec Ideal S4096x1024 .f32) (b : Vec Ideal S4096x576 .f32) : FVec Ideal S4096x2048 .f32 :=
  concatenate S4096x2048 1 [⟨S4096x1024, a⟩, ⟨S4096x576, b⟩, ⟨S4096x448, broadcastInDim S4096x448 ![] bcast_S_S4096x448 (constant S_ .f32 0x00000000#32)⟩] concatenates_S4096x1024_S4096x576_S4096x448_S4096x2048_d1

theorem V1 : V m c main_v1 = wcat (m ((c : Thread nD τ).loc main_arg1)) (m ((c : Thread nD τ).loc main_arg2)) := by
  unfold V hostOps0
  after_results_simp
  rfl

theorem wcat_0 (a : Vec Ideal S4096x1024 .f32) (b : Vec Ideal S4096x576 .f32) (k : Fin 4096) (l : Fin 1024) :
    wcat a b (ix2 k (⟨l.val, by omega⟩ : Fin 2048)) = a (ix2 k l) := by
  pointwise [wcat]
theorem wcat_1 (a : Vec Ideal S4096x1024 .f32) (b : Vec Ideal S4096x576 .f32) (k : Fin 4096) (l : Fin 576) :
    wcat a b (ix2 k (⟨1024 + l.val, by omega⟩ : Fin 2048)) = b (ix2 k l) := by
  pointwise [wcat]
theorem wcat_2 (a : Vec Ideal S4096x1024 .f32) (b : Vec Ideal S4096x576 .f32) (k : Fin 4096) (l : Fin 448) :
    wcat a b (ix2 k (⟨1600 + l.val, by omega⟩ : Fin 2048)) = 0 := by
  pointwise [wcat]
  rw [dif_neg (by omega), dif_neg (by omega)]

/-- The output array after the run. -/
theorem final : (dats m 0 c).arrAt 2 (cfgs 0).N = fun j : S8192x2048.Idx => proj (V m c main_arg0) (V m c main_v1) (j 0) (j 1) := by
  refine (dats m 0 c).arrAt_eq_of_covers 2 _ (by decide +kernel) fun t hf y => ?_
  blk_simp
  rw [after0_2]
  obtain ⟨r, d, rfl⟩ : ∃ (r : Fin 1024) (d : Fin 512), y = ix2 r d := ⟨y 0, y 1, by funext a; match a with | ⟨0, _⟩ => rfl | ⟨1, _⟩ => rfl⟩
  have ht := t_lt t
  have e0 : ((win0_2.blk t).view.emb (ix2 r d) (0 : Fin 2)).val = 1024 * (t.val % 8) + r.val := by blk_simp [(idx t).2.2]; omega
  have e1 : ((win0_2.blk t).view.emb (ix2 r d) (1 : Fin 2)).val = 512 * (t.val / 8) + d.val := by blk_simp [(idx t).2.2]; omega
  exact key m c t r d _ _ e0 e1

end Cert.Kernel11Ideal.Mm

end
-- ==== Proof.Mm.MlaQb.lean ====
module

public import proofs.«01_k».proof.Proof.Gen.Kernel12Ideal.Frame
public import proofs.«01_k».proof.Proof.Mm.Common
public import Idealize.ShloMosaic.Lib.Pointwise
public import Idealize.ShloMosaic.Lib.Pipeline.Covers

@[expose] public section

set_option maxRecDepth 16384

noncomputable section

namespace Cert.Kernel12Ideal.Mm

open Idealize.ShloMosaic Idealize.ShloMosaic.TcCoe Idealize.ShloMosaic.Tactic Idealize.SL.Sem
open Cert.Kernel12Ideal Cert.Kernel12Ideal.Gen Cert.Mm

/-! The latent attention's projection of its compressed queries to the heads' queries, each head's columns followed by columns of zeros. Grid point `t` is the tile of rows `t % 8` and the block of columns `t / 8`. -/

section
variable (c : Dev nD) (i : grid0.Coords) (a2 : Memref sig .tc .vmem S1024x1024 .bf16) (h2 : a2.IsWhole) (a3 : Memref sig .tc .vmem S1024x512 .f32) (h3 : a3.IsWhole)
  (a4 : Memref sig .tc .vmem S1024x512 .f32) (h4 : a4.IsWhole) (a5 : Memref sig .tc .vmem S1024x512 .bf16) (h5 : a5.IsWhole)
  (x0 : Vec Ideal S1024x1024 .bf16) (x1 : Vec Ideal S1024x512 .f32) (xs : Vec Ideal S1024x512 .bf16)

/-- At a block's first tile of rows the scratch takes the block of weights. -/
theorem scr_A (hc : cond0_0 i) : sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz2]
  simp only [View.readAt_eq_ld, h3.read_unread, View.ld_unit_zero (S := S1024x512) hz2]
/-- and the output takes the rows' product with it. -/
theorem out_A (hc : cond0_0 i) : out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz2, View.readCov_unit_zero (S := S1024x512) _ hz2]
  simp only [View.readAt_eq_ld, h2.read_unread, h3.read_unread, View.ld_unit_zero (S := S1024x1024) hz2, View.ld_unit_zero (S := S1024x512) hz2]
/-- At the other tiles the output takes the rows' product with what the scratch holds. -/
theorem out_B (hc : ¬ cond0_0 i) : out0_B_2 c i a2 h2 a3 h3 a4 h4 a5 h5 hc x0 x1 xs = k0_pay2 x0 xs := by
  unfold out0_B_2
  rw [View.read_writes_eq_canon _ _ _ (cover0_B_2 c i a2 h2 a3 h3 a4 h4 a5 h5 hc x0 x1 xs)]
  unfold kernelRun0_B
  dsimp only
  sl_unfold_words
  rw [View.canon_unit_zero hz2]
  simp only [View.readAt_eq_ld, h2.read_unread, h5.read_unread, View.ld_unit_zero (S := S1024x1024) hz2, View.ld_unit_zero (S := S1024x512) hz2]

/-- A tile of rows' product with a block of weights, at an index. -/
theorem tile_at (r : Fin 1024) (d : Fin 512) : k0_pay2 x0 (k0_pay1 x1) (ix2 r d) = ∑ k : Fin 1024, x0 (ix2 r k) * x1 (ix2 k d) := by
  pointwise [k0_pay2, k0_pay1]
end

variable (m : (ℓ : Loc nD τ sig) → Buf (Elt Ideal) ℓ) (c : Dev nD)

theorem idx : ∀ t : Fin cfg0.N, win0_0.index t = ![t.val % 8, 0] ∧ win0_1.index t = ![0, t.val / 8] ∧ win0_2.index t = ![t.val % 8, t.val / 8] := by decide +kernel

theorem t_lt (t : Fin cfg0.N) : t.val < 128 := lt_of_lt_of_eq t.isLt (show cfg0.N = 128 from N_0)

theorem blk0 (t : Fin cfg0.N) (r : Fin 1024) (k : Fin 1024) :
    iblk m c 0 t (ix2 r k) = V m c main_arg0 (ix2 ⟨1024 * (t.val % 8) + r.val, by omega⟩ k) := by
  have := t_lt t
  blk_ext [iblk, (idx t).1]
theorem blk1 (t : Fin cfg0.N) (k : Fin 1024) (d : Fin 512) :
    iblk m c 1 t (ix2 k d) = V m c main_v2 (ix2 k ⟨512 * (t.val / 8) + d.val, by have := t_lt t; omega⟩) := by
  have := t_lt t
  blk_ext [iblk, (idx t).2.1]

/-- The projection, of whole arrays. -/
def proj (x : Vec Ideal S8192x1024 .bf16) (w : Vec Ideal S1024x8192 .f32) (s : Fin 8192) (d : Fin 8192) : EReal :=
  ∑ k : Fin 1024, x (ix2 s k) * w (ix2 k d)

theorem key (t : Fin cfg0.N) (r : Fin 1024) (d : Fin 512) (s : Fin 8192) (q : Fin 8192) (hs : s.val = 1024 * (t.val % 8) + r.val) (hq : q.val = 512 * (t.val / 8) + d.val) :
    (outsAt0 m c t.val t.isLt).1 (ix2 r d) = proj (V m c main_arg0) (V m c main_v2) s q :=
  blockOf (n' := 16) (WB := (⟨2, ![1024, 512]⟩ : Shape).Idx → EReal) N_0.symm (by decide) (outsAt0 m c) (fun t => iblk m c 0 t) (fun t => iblk m c 1 t) (fun w k d => w (ix2 k d)) (ext2 (n := 1024) (m := 512)) (fun w => k0_pay1 (F := Ideal) w) (fun x s => k0_pay2 (F := Ideal) x s) tile_at
    (fun t h => (outsAt0_A m c t h).trans (congrArg₂ Prod.mk (out_A ..) (scr_A ..))) (fun t h => (outsAt0_B m c t h).trans (congrArg₂ Prod.mk (out_B ..) rfl))
    (V m c main_arg0) (fun k q => V m c main_v2 (ix2 k q)) (blk0 m c) (blk1 m c) t r d s q hs hq

/-- The weights with columns of zeros after each head's. -/
def wpad (w : Vec Ideal S1024x6144 .f32) : FVec Ideal S1024x8192 .f32 :=
  shapeCast _ (pad S1024x32x256 ![0, 0, 0] ![0, 0, 64] ![0, 0, 0] (shapeCast _ w shapeCasts_S1024x6144_S1024x32x192) (sitofp .f32 (constantI S_ 32 0#32)) pads_S1024x32x192_S1024x32x256_000_000_0640 h_S_) shapeCasts_S1024x32x256_S1024x8192

theorem V2 : V m c main_v2 = wpad (m ((c : Thread nD τ).loc main_arg1)) := by
  unfold V hostOps0 hostOps0_1 hostOps0_2
  after_results_simp
  rfl

theorem wpad_0 (w : Vec Ideal S1024x6144 .f32) (k : Fin 1024) (h : Fin 32) (l : Fin 192) :
    wpad w (ix2 k (⟨256 * h.val + l.val, by omega⟩ : Fin 8192)) = w (ix2 k ⟨h.val * 192 + l.val, by omega⟩) := by
  pointwise [wpad]
  rw [dif_pos (by omega)]
  exact congrArg (fun q => w (ix2 k q)) (Fin.ext (by show h.val * 192 + (256 * h.val + l.val) % 256 = h.val * 192 + l.val; omega))
theorem wpad_1 (w : Vec Ideal S1024x6144 .f32) (k : Fin 1024) (h : Fin 32) (l : Fin 64) :
    wpad w (ix2 k (⟨256 * h.val + (192 + l.val), by omega⟩ : Fin 8192)) = 0 := by
  pointwise [wpad]
  rw [dif_neg (by omega)]
  exact congrArg (fun r : ℝ => (r : EReal)) (by norm_num : ((0#32 : BitVec 32).toInt : ℝ) = 0)

/-- The output array after the run. -/
theorem final : (dats m 0 c).arrAt 2 (cfgs 0).N = fun j : S8192x8192.Idx => proj (V m c main_arg0) (V m c main_v2) (j 0) (j 1) := by
  refine (dats m 0 c).arrAt_eq_of_covers 2 _ (by decide +kernel) fun t hf y => ?_
  blk_simp
  rw [after0_2]
  obtain ⟨r, d, rfl⟩ : ∃ (r : Fin 1024) (d : Fin 512), y = ix2 r d := ⟨y 0, y 1, by funext a; match a with | ⟨0, _⟩ => rfl | ⟨1, _⟩ => rfl⟩
  have ht := t_lt t
  have e0 : ((win0_2.blk t).view.emb (ix2 r d) (0 : Fin 2)).val = 1024 * (t.val % 8) + r.val := by blk_simp [(idx t).2.2]; omega
  have e1 : ((win0_2.blk t).view.emb (ix2 r d) (1 : Fin 2)).val = 512 * (t.val / 8) + d.val := by blk_simp [(idx t).2.2]; omega
  exact key m c t r d _ _ e0 e1

end Cert.Kernel12Ideal.Mm

end
-- ==== Proof.Mla.PrepRef.lean ====
module

public import proofs.«01_k».proof.Proof.Gen.Reference13Ideal.Run
public import Idealize.ShloMosaic.Lib.Pointwise
public import Idealize.ShloMosaic.PureOps.Ideal

@[expose] public section

set_option maxRecDepth 16384

noncomputable section

open Idealize.ShloMosaic Idealize.ShloMosaic.TcCoe Idealize.ShloMosaic.Tactic

/-! The reference of the latent attention's norms and rotated key, at an index. -/

namespace Cert.Prep
/-- Entry `d` of a row `x` of `n` numbers over its root mean square, times `g`. -/
def rms {K : ℕ} (n : EReal) (x : Fin K → EReal) (g : EReal) (d : Fin K) : EReal :=
  x d * Ideal.rsqrt (Ideal.div (∑ k : Fin K, x k * x k) n + Ideal.ofBits FTy.f32 0x358637BD#32) * g
end Cert.Prep

namespace Cert.Reference13Ideal.Prep
open Cert.Reference13Ideal Cert.Reference13Ideal.Gen Cert.Prep
variable (A : FVec Ideal S8192x2048 .f32) (P : Vec Ideal S8192 .i32) (s : Fin 8192)

/-- The normed queries' rows. -/
def res0 (g : FVec Ideal S1024 .f32) : FVec Ideal S8192x1024 .bf16 :=
  truncf .bf16 (mulf (mulf (extractStridedSlice S8192x1024 ![0, 0] A slices_S8192x2048_S8192x1024_0_0) (broadcastInDim S8192x1024 ![0, 1] bcast_S8192x1_S8192x1024_0_1 (Host.rsqrt (addf (Host.divf (broadcastInDim S8192x1 ![0] bcast_S8192_S8192x1_0 (Host.reduceAdd (mulf (extractStridedSlice S8192x1024 ![0, 0] A slices_S8192x2048_S8192x1024_0_0) (extractStridedSlice S8192x1024 ![0, 0] A slices_S8192x2048_S8192x1024_0_0)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))) bitsLt_bf16_f32
theorem res0_at (g : FVec Ideal S1024 .f32) (d : Fin 1024) :
    res0 A g (ix2 s d) = rms (Ideal.ofBits FTy.f32 0x44800000#32) (fun k : Fin 1024 => A (ix2 s ⟨k.val, by omega⟩)) (g (ix1 d)) d := by
  unfold rms
  pointwise [res0]

/-- The normed keys' and values' rows. -/
def rKv : FVec Ideal S8192x512 .f32 := extractStridedSlice S8192x512 ![0, 0] (extractStridedSlice S8192x1024 ![0, 1024] A slices_S8192x2048_S8192x1024_0_1024) slices_S8192x1024_S8192x512_0_0
def res1 (g : FVec Ideal S512 .f32) : FVec Ideal S8192x512 .bf16 :=
  truncf .bf16 (mulf (mulf (rKv A) (broadcastInDim S8192x512 ![0, 1] bcast_S8192x1_S8192x512_0_1 (Host.rsqrt (addf (Host.divf (broadcastInDim S8192x1 ![0] bcast_S8192_S8192x1_0 (Host.reduceAdd (mulf (rKv A) (rKv A)) (constant S_ .f32 0x00000000#32) reducesTo_S8192x512_S8192_d1 h_S_)) (broadcastInDim S8192x1 ![] bcast_S_S8192x1 (constant S_ .f32 0x44000000#32))) (broadcastInDim S8192x1 ![] bcast_S_S8192x1 (constant S_ .f32 0x358637BD#32)))))) (broadcastInDim S8192x512 ![0, 1] bcast_S1x512_S8192x512_0_1 (broadcastInDim S1x512 ![1] bcast_S512_S1x512_1 g))) bitsLt_bf16_f32
theorem res1_at (g : FVec Ideal S512 .f32) (d : Fin 512) :
    res1 A g (ix2 s d) = rms (Ideal.ofBits FTy.f32 0x44000000#32) (fun k : Fin 512 => A (ix2 s ⟨1024 + k.val, by omega⟩)) (g (ix1 d)) d := by
  unfold rms
  pointwise [res1, rKv]

/-- The angles, and the two halves of the key. -/
def ang : FVec Ideal S8192x32 .f32 :=
  mulf (broadcastInDim S8192x32 ![0, 1] bcast_S8192x1_S8192x32_0_1 (broadcastInDim S8192x1 ![0] bcast_S8192_S8192x1_0 (sitofp .f32 P)))
    (broadcastInDim S8192x32 ![0, 1] bcast_S1x32_S8192x32_0_1 (broadcastInDim S1x32 ![1] bcast_S32_S1x32_1
      (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))
def cosA : FVec Ideal S8192x1x32 .f32 := Host.cos (broadcastInDim S8192x1x32 ![0, 2] bcast_S8192x32_S8192x1x32_0_2 (ang P))
def sinA : FVec Ideal S8192x1x32 .f32 := Host.sin (broadcastInDim S8192x1x32 ![0, 2] bcast_S8192x32_S8192x1x32_0_2 (ang P))
def key : FVec Ideal S8192x1x64 .f32 :=
  broadcastInDim S8192x1x64 ![0, 2] bcast_S8192x64_S8192x1x64_0_2 (extractStridedSlice S8192x64 ![0, 512] (extractStridedSlice S8192x1024 ![0, 1024] A slices_S8192x2048_S8192x1024_0_1024) slices_S8192x1024_S8192x64_0_512)
def k1 : FVec Ideal S8192x1x32 .f32 := extractStridedSlice S8192x1x32 ![0, 0, 0] (key A) slices_S8192x1x64_S8192x1x32_0_0_0
def k2 : FVec Ideal S8192x1x32 .f32 := extractStridedSlice S8192x1x32 ![0, 0, 32] (key A) slices_S8192x1x64_S8192x1x32_0_0_32
/-- The rotated key. -/
def rot : FVec Ideal S8192x1x64 .f32 :=
  concatenate S8192x1x64 2 [⟨S8192x1x32, subf (mulf (k1 A) (cosA P)) (mulf (k2 A) (sinA P))⟩, ⟨S8192x1x32, addf (mulf (k2 A) (cosA P)) (mulf (k1 A) (sinA P))⟩] concatenates_S8192x1x32_S8192x1x32_S8192x1x64_d2
def res2 : FVec Ideal S8192x128 .bf16 :=
  truncf .bf16 (concatenate S8192x128 1 [⟨S8192x64, shapeCast _ (rot A P) shapeCasts_S8192x1x64_S8192x64⟩, ⟨S8192x64, broadcastInDim S8192x64 ![] bcast_S_S8192x64 (constant S_ .f32 0x00000000#32)⟩] concatenates_S8192x64_S8192x64_S8192x128_d1) bitsLt_bf16_f32

theorem cos_at (i : Fin 32) : cosA P (ix3 s (0 : Fin 1) i) = Host.cos (ang P) (ix2 s i) := by
  pointwise [cosA]
theorem sin_at (i : Fin 32) : sinA P (ix3 s (0 : Fin 1) i) = Host.sin (ang P) (ix2 s i) := by
  pointwise [sinA]
theorem lane (n : ℕ) : 1024 + (512 + n) = 1536 + n := by omega
theorem rot_0 (i : Fin 32) : rot A P (ix3 s (0 : Fin 1) (⟨i.val, by omega⟩ : Fin 64))
      = (A (ix2 s ⟨1536 + i.val, by omega⟩) * cosA P (ix3 s (0 : Fin 1) i) - A (ix2 s ⟨1536 + (32 + i.val), by omega⟩) * sinA P (ix3 s (0 : Fin 1) i) : EReal) := by
  pointwise [rot, k1, k2, key]
  simp only [lane]
theorem rot_1 (i : Fin 32) : rot A P (ix3 s (0 : Fin 1) (⟨32 + i.val, by omega⟩ : Fin 64))
      = (A (ix2 s ⟨1536 + (32 + i.val), by omega⟩) * cosA P (ix3 s (0 : Fin 1) i) + A (ix2 s ⟨1536 + i.val, by omega⟩) * sinA P (ix3 s (0 : Fin 1) i) : EReal) := by
  pointwise [rot, k1, k2, key]
  simp only [lane]
theorem res2_lo (x : Fin 64) : res2 A P (ix2 s (⟨x.val, by omega⟩ : Fin 128)) = rot A P (ix3 s (0 : Fin 1) x) := by
  pointwise [res2]
theorem res2_hi (i : Fin 64) : res2 A P (ix2 s (⟨64 + i.val, by omega⟩ : Fin 128)) = 0 := by
  pointwise [res2]

theorem out2 (m : (ℓ : Loc nD τ sig) → Buf (Elt Ideal) ℓ) (c : Dev nD) :
    Cert.Reference13Ideal.Value.res_out2 m c = res2 (m ((c.tc : Thread nD τ).loc main_arg0)) (m ((c.tc : Thread nD τ).loc main_arg3)) := rfl

end Cert.Reference13Ideal.Prep

end
-- ==== Proof.Mla.Prep.lean ====
module

public import proofs.«01_k».proof.Proof.Gen.Kernel13Ideal.Frame
public import proofs.«01_k».proof.Proof.Mla.Tables
public import proofs.«01_k».proof.Proof.Mla.PrepRef
public import proofs.«01_k».proof.Proof.Mm.Common
public import Idealize.ShloMosaic.Lib.Pointwise
public import Idealize.ShloMosaic.Lib.Pipeline.Covers

@[expose] public section

set_option maxRecDepth 16384

noncomputable section

namespace Cert.Kernel13Ideal.Prep

open Idealize.ShloMosaic Idealize.ShloMosaic.TcCoe Idealize.ShloMosaic.Tactic Idealize.SL.Sem
open Cert.Kernel13Ideal Cert.Kernel13Ideal.Gen Cert.Mm Cert.Prep
open Cert.KernelIdeal.Mla (angA cat3 cat3_congr z32 z64 cat3_0 cat3_1 cat3_2 z32_at)

/-! The norms of the latent attention's compressed rows and the rotation of its shared key. Grid point `t` is the tile of rows `t`. -/

section
variable (x0 : Vec Ideal S512x2048 .f32) (x1 : Vec Ideal S1x1024 .f32) (x2 : Vec Ideal S1x512 .f32) (x3 x4 x5 : Vec Ideal S512x128 .f32)

theorem out6 : out0_6 x0 x1 x2 x3 x4 x5 = k0_pay2 x0 x1 := by
  unfold out0_6
  rw [View.canon_unit_zero hz2, View.ld_unit_zero (S := S512x2048) hz2, View.ld_unit_zero (S := S1x1024) hz2]
theorem out7 : out0_7 x0 x1 x2 x3 x4 x5 = k0_pay3 x0 x2 := by
  unfold out0_7
  rw [View.canon_unit_zero hz2, View.ld_unit_zero (S := S512x2048) hz2, View.ld_unit_zero (S := S1x512) hz2]
theorem out8 : out0_8 x0 x1 x2 x3 x4 x5 = k0_pay1 (k0_pay4 x0) (k0_pay5 x3) x4 x5 := by
  unfold out0_8
  rw [View.canon_unit_zero hz2, View.ld_unit_zero (S := S512x2048) hz2]
  simp only [View.ld_unit_zero (S := S512x128) hz2]

/-- A tile's normed rows, at an index. -/
theorem norm0 (r : Fin 512) (d : Fin 1024) : k0_pay2 x0 x1 (ix2 r d)
    = rms (Ideal.ofBits FTy.f32 0x44800000#32) (fun k : Fin 1024 => x0 (ix2 r ⟨k.val, by omega⟩)) (x1 (ix2 (0 : Fin 1) d)) d := by
  unfold rms
  pointwise [k0_pay2]
theorem norm1 (r : Fin 512) (d : Fin 512) : k0_pay3 x0 x2 (ix2 r d)
    = rms (Ideal.ofBits FTy.f32 0x44000000#32) (fun k : Fin 512 => x0 (ix2 r ⟨1024 + k.val, by omega⟩)) (x2 (ix2 (0 : Fin 1) d)) d := by
  unfold rms
  pointwise [k0_pay3]
theorem rotlt (x : Fin 128) (n : ℕ) : 1536 + (x.val + n) % 128 < 2048 := by have := Nat.mod_lt (x.val + n) (show 0 < 128 by decide); omega
/-- A tile's rotated key, at an index. -/
theorem rot (r : Fin 512) (x : Fin 128) : k0_pay1 (k0_pay4 x0) (k0_pay5 x3) x4 x5 (ix2 r x)
    = (x0 (ix2 r ⟨1536 + x.val, by omega⟩) * x3 (ix2 r x) + x0 (ix2 r ⟨1536 + (x.val + 96) % 128, rotlt x 96⟩) * x4 (ix2 r x)
      + x0 (ix2 r ⟨1536 + (x.val + 32) % 128, rotlt x 32⟩) * x5 (ix2 r x) : EReal) := by
  pointwise [k0_pay1, k0_pay4, k0_pay5]
  rfl
end

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0] := by decide +kernel

theorem t_lt (t : Fin cfg0.N) : t.val < 16 := lt_of_lt_of_eq t.isLt (show cfg0.N = 16 from N_0)

/-- Row `r` of tile `t`. -/
def row (t : Fin cfg0.N) (r : Fin 512) : Fin 8192 := ⟨512 * t.val + r.val, by have := t_lt t; omega⟩

theorem blk0 (t : Fin cfg0.N) (r : Fin 512) (k : Fin 2048) : iblk m c 0 t (ix2 r k) = V m c main_arg0 (ix2 (row t r) k) := by
  have := t_lt t
  blk_ext [iblk, (idx t).1, row]
theorem blk1 (t : Fin cfg0.N) (d : Fin 1024) : iblk m c 1 t (ix2 (0 : Fin 1) d) = V m c main_v20 (ix2 (0 : Fin 1) d) := by
  blk_ext [iblk, (idx t).2.1]
theorem blk2 (t : Fin cfg0.N) (d : Fin 512) : iblk m c 2 t (ix2 (0 : Fin 1) d) = V m c main_v21 (ix2 (0 : Fin 1) d) := by
  blk_ext [iblk, (idx t).2.2.1]
theorem blk3 (t : Fin cfg0.N) (r : Fin 512) (k : Fin 128) : iblk m c 3 t (ix2 r k) = V m c main_v16 (ix2 (row t r) k) := by
  have := t_lt t
  blk_ext [iblk, (idx t).2.2.2.1, row]
theorem blk4 (t : Fin cfg0.N) (r : Fin 512) (k : Fin 128) : iblk m c 4 t (ix2 r k) = V m c main_v17 (ix2 (row t r) k) := by
  have := t_lt t
  blk_ext [iblk, (idx t).2.2.2.2.1, row]
theorem blk5 (t : Fin cfg0.N) (r : Fin 512) (k : Fin 128) : iblk m c 5 t (ix2 r k) = V m c main_v19 (ix2 (row t r) k) := by
  have := t_lt t
  blk_ext [iblk, (idx t).2.2.2.2.2.1, row]

/-! The arrays the host code makes. -/

theorem V20 (d : Fin 1024) : V m c main_v20 (ix2 (0 : Fin 1) d) = m ((c : Thread nD τ).loc main_arg1) (ix1 d) := by
  have e : V m c main_v20 = (shapeCast _ (m ((c : Thread nD τ).loc main_arg1) : FVec Ideal S1024 .f32) shapeCasts_S1024_S1x1024 : FVec Ideal S1x1024 .f32) := by
    unfold V hostOps0
    after_results_simp
    rfl
  rw [e]
  pointwise
theorem V21 (d : Fin 512) : V m c main_v21 (ix2 (0 : Fin 1) d) = m ((c : Thread nD τ).loc main_arg2) (ix1 d) := by
  have e : V m c main_v21 = (shapeCast _ (m ((c : Thread nD τ).loc main_arg2) : FVec Ideal S512 .f32) shapeCasts_S512_S1x512 : FVec Ideal S1x512 .f32) := by
    unfold V hostOps0
    after_results_simp
    rfl
  rw [e]
  pointwise

set_option maxHeartbeats 1000000 in
theorem V16 : V m c main_v16 = cat3 (Host.cos (angA (m ((c : Thread nD τ).loc main_arg3)))) (Host.cos (angA (m ((c : Thread nD τ).loc main_arg3)))) z64 := by
  unfold V hostOps0
  simp only [StableHlo.after_cons, StableHlo.after_nil]
  rw [StableHlo.reshape_result_ne (h := by decide), StableHlo.reshape_result_ne (h := by decide), StableHlo.nary_result_ne (h := by decide), StableHlo.unary_result_ne (h := by decide), StableHlo.nary_result_ne (h := by decide), StableHlo.nary_result]
  refine cat3_congr ?_ ?_ ?_
  · show HloOp.result _ _ (Proc.devRef .tc main_v12) = _
    after_results_simp
    rfl
  · show HloOp.result _ _ (Proc.devRef .tc main_v12) = _
    after_results_simp
    rfl
  · show HloOp.result _ _ (Proc.devRef .tc main_v14) = _
    after_results_simp
    rfl
set_option maxHeartbeats 1000000 in
theorem V17 : V m c main_v17 = cat3 z32 (Host.sin (angA (m ((c : Thread nD τ).loc main_arg3)))) z64 := by
  unfold V hostOps0
  simp only [StableHlo.after_cons, StableHlo.after_nil]
  rw [StableHlo.reshape_result_ne (h := by decide), StableHlo.reshape_result_ne (h := by decide), StableHlo.nary_result_ne (h := by decide), StableHlo.unary_result_ne (h := by decide), StableHlo.nary_result]
  refine cat3_congr ?_ ?_ ?_
  · show HloOp.result _ _ (Proc.devRef .tc main_v15) = _
    after_results_simp
    rfl
  · show HloOp.result _ _ (Proc.devRef .tc main_v13) = _
    after_results_simp
    rfl
  · show HloOp.result _ _ (Proc.devRef .tc main_v14) = _
    after_results_simp
    rfl
set_option maxHeartbeats 1000000 in
theorem V19 : V m c main_v19 = cat3 (Host.negf (Host.sin (angA (m ((c : Thread nD τ).loc main_arg3))))) z32 z64 := by
  unfold V hostOps0
  simp only [StableHlo.after_cons, StableHlo.after_nil]
  rw [StableHlo.reshape_result_ne (h := by decide), StableHlo.reshape_result_ne (h := by decide), StableHlo.nary_result]
  refine cat3_congr ?_ ?_ ?_
  · show HloOp.result _ _ (Proc.devRef .tc main_v18) = _
    after_results_simp
    rfl
  · show HloOp.result _ _ (Proc.devRef .tc main_v15) = _
    after_results_simp
    rfl
  · show HloOp.result _ _ (Proc.devRef .tc main_v14) = _
    after_results_simp
    rfl

/-! The three results. -/

/-- The arguments. -/
abbrev A0 : FVec Ideal S8192x2048 .f32 := m ((c : Thread nD τ).loc main_arg0)
abbrev P0 : Vec Ideal S8192 .i32 := m ((c : Thread nD τ).loc main_arg3)

theorem key6 (t : Fin cfg0.N) (r : Fin 512) (d : Fin 1024) :
    out0_6 (iblk m c 0 t) (iblk m c 1 t) (iblk m c 2 t) (iblk m c 3 t) (iblk m c 4 t) (iblk m c 5 t) (ix2 r d)
      = Cert.Reference13Ideal.Prep.res0 (A0 m c) (m ((c : Thread nD τ).loc main_arg1)) (ix2 (row t r) d) := by
  refine (congrFun (out6 ..) _).trans ((norm0 _ _ r d).trans (Eq.trans ?_ (Cert.Reference13Ideal.Prep.res0_at (A0 m c) (row t r) _ d).symm))
  exact congrArg₂ (fun f g => rms (Ideal.ofBits FTy.f32 0x44800000#32) f g d) (funext fun k => (blk0 m c t r _).trans (congrFun (V_main_arg0 m c) _)) ((blk1 m c t d).trans (V20 m c d))
theorem key7 (t : Fin cfg0.N) (r : Fin 512) (d : Fin 512) :
    out0_7 (iblk m c 0 t) (iblk m c 1 t) (iblk m c 2 t) (iblk m c 3 t) (iblk m c 4 t) (iblk m c 5 t) (ix2 r d)
      = Cert.Reference13Ideal.Prep.res1 (A0 m c) (m ((c : Thread nD τ).loc main_arg2)) (ix2 (row t r) d) := by
  refine (congrFun (out7 ..) _).trans ((norm1 _ _ r d).trans (Eq.trans ?_ (Cert.Reference13Ideal.Prep.res1_at (A0 m c) (row t r) _ d).symm))
  exact congrArg₂ (fun f g => rms (Ideal.ofBits FTy.f32 0x44000000#32) f g d) (funext fun k => (blk0 m c t r _).trans (congrFun (V_main_arg0 m c) _)) ((blk2 m c t d).trans (V21 m c d))

/-- The rotated key of a row, from the arguments. -/
theorem rot_row (t : Fin cfg0.N) (r : Fin 512) (x : Fin 128) :
    out0_8 (iblk m c 0 t) (iblk m c 1 t) (iblk m c 2 t) (iblk m c 3 t) (iblk m c 4 t) (iblk m c 5 t) (ix2 r x)
      = (A0 m c (ix2 (row t r) ⟨1536 + x.val, by omega⟩) * V m c main_v16 (ix2 (row t r) x) + A0 m c (ix2 (row t r) ⟨1536 + (x.val + 96) % 128, rotlt x 96⟩) * V m c main_v17 (ix2 (row t r) x)
        + A0 m c (ix2 (row t r) ⟨1536 + (x.val + 32) % 128, rotlt x 32⟩) * V m c main_v19 (ix2 (row t r) x) : EReal) := by
  have h : ∀ k, iblk m c 0 t (ix2 r k) = A0 m c (ix2 (row t r) k) := fun k => (blk0 m c t r k).trans (congrFun (V_main_arg0 m c) _)
  refine (congrFun (out8 ..) _).trans ((rot _ _ _ _ r x).trans ?_)
  rw [h, h, h, blk3, blk4, blk5]

theorem key8 (t : Fin cfg0.N) (r : Fin 512) (x : Fin 128) :
    out0_8 (iblk m c 0 t) (iblk m c 1 t) (iblk m c 2 t) (iblk m c 3 t) (iblk m c 4 t) (iblk m c 5 t) (ix2 r x)
      = Cert.Reference13Ideal.Prep.res2 (A0 m c) (P0 m c) (ix2 (row t r) x) := by
  rw [rot_row, V16, V17, V19]
  rcases lt_or_ge x.val 32 with h0 | h0
  · obtain ⟨i, rfl⟩ : ∃ i : Fin 32, x = ⟨i.val, by clear h0; omega⟩ := ⟨⟨x.val, h0⟩, rfl⟩
    refine Eq.trans ?_ ((Cert.Reference13Ideal.Prep.res2_lo _ _ (row t r) ⟨i.val, by omega⟩).trans (Cert.Reference13Ideal.Prep.rot_0 _ _ (row t r) i)).symm
    rw [cat3_0, cat3_0, cat3_0, z32_at, mul_zero, add_zero, sub_eq_add_neg, ← mul_neg]
    refine congrArg₂ (· + ·) ?_ ?_
    · exact congrArg (A0 m c (ix2 (row t r) ⟨1536 + i.val, _⟩) * ·) (Cert.Reference13Ideal.Prep.cos_at (P0 m c) (row t r) i).symm
    · refine congrArg₂ (· * ·) (congrArg (fun q => A0 m c (ix2 (row t r) q)) (Fin.ext ?_)) ?_
      · show 1536 + (i.val + 32) % 128 = 1536 + (32 + i.val); omega
      · exact (congrArg Neg.neg (Cert.Reference13Ideal.Prep.sin_at (P0 m c) (row t r) i)).symm
  rcases lt_or_ge x.val 64 with h1 | h1
  · obtain ⟨i, rfl⟩ : ∃ i : Fin 32, x = ⟨32 + i.val, by clear h0 h1; omega⟩ := ⟨⟨x.val - 32, by omega⟩, Fin.ext (by show x.val = 32 + (x.val - 32); omega)⟩
    refine Eq.trans ?_ ((Cert.Reference13Ideal.Prep.res2_lo _ _ (row t r) ⟨32 + i.val, by omega⟩).trans (Cert.Reference13Ideal.Prep.rot_1 _ _ (row t r) i)).symm
    rw [cat3_1, cat3_1, cat3_1, z32_at, mul_zero, add_zero]
    refine congrArg₂ (· + ·) ?_ ?_
    · exact congrArg (A0 m c (ix2 (row t r) ⟨1536 + (32 + i.val), _⟩) * ·) (Cert.Reference13Ideal.Prep.cos_at (P0 m c) (row t r) i).symm
    · refine congrArg₂ (· * ·) (congrArg (fun q => A0 m c (ix2 (row t r) q)) (Fin.ext ?_)) ?_
      · show 1536 + (32 + i.val + 96) % 128 = 1536 + i.val; omega
      · exact (Cert.Reference13Ideal.Prep.sin_at (P0 m c) (row t r) i).symm
  · obtain ⟨i, rfl⟩ : ∃ i : Fin 64, x = ⟨64 + i.val, by clear h0 h1; omega⟩ := ⟨⟨x.val - 64, by omega⟩, Fin.ext (by show x.val = 64 + (x.val - 64); omega)⟩
    refine Eq.trans ?_ (Cert.Reference13Ideal.Prep.res2_hi _ _ (row t r) i).symm
    rw [cat3_2, cat3_2, cat3_2, mul_zero, mul_zero, mul_zero, add_zero, add_zero]

/-- The output arrays after the run. -/
theorem final6 : (dats m 0 c).arrAt 6 (cfgs 0).N = Cert.Reference13Ideal.Prep.res0 (A0 m c) (m ((c : Thread nD τ).loc main_arg1)) := by
  refine (dats m 0 c).arrAt_eq_of_covers 6 _ (by decide +kernel) fun t hf y => ?_
  blk_simp
  rw [after0_6]
  obtain ⟨r, d, rfl⟩ : ∃ (r : Fin 512) (d : Fin 1024), y = ix2 r d := ⟨y 0, y 1, by funext a; match a with | ⟨0, _⟩ => rfl | ⟨1, _⟩ => rfl⟩
  refine (key6 m c t r d).trans (congrArg _ ?_)
  have e0 : ((win0_6.blk t).view.emb (ix2 r d) (0 : Fin 2)).val = 512 * t.val + r.val := by blk_simp [(idx t).2.2.2.2.2.2.1]; omega
  have e1 : ((win0_6.blk t).view.emb (ix2 r d) (1 : Fin 2)).val = d.val := by blk_simp [(idx t).2.2.2.2.2.2.1]
  funext a
  match a with
  | ⟨0, _⟩ => exact Fin.ext e0.symm
  | ⟨1, _⟩ => exact Fin.ext e1.symm
theorem final7 : (dats m 0 c).arrAt 7 (cfgs 0).N = Cert.Reference13Ideal.Prep.res1 (A0 m c) (m ((c : Thread nD τ).loc main_arg2)) := by
  refine (dats m 0 c).arrAt_eq_of_covers 7 _ (by decide +kernel) fun t hf y => ?_
  blk_simp
  rw [after0_7]
  obtain ⟨r, d, rfl⟩ : ∃ (r : Fin 512) (d : Fin 512), y = ix2 r d := ⟨y 0, y 1, by funext a; match a with | ⟨0, _⟩ => rfl | ⟨1, _⟩ => rfl⟩
  refine (key7 m c t r d).trans (congrArg _ ?_)
  have e0 : ((win0_7.blk t).view.emb (ix2 r d) (0 : Fin 2)).val = 512 * t.val + r.val := by blk_simp [(idx t).2.2.2.2.2.2.2.1]; omega
  have e1 : ((win0_7.blk t).view.emb (ix2 r d) (1 : Fin 2)).val = d.val := by blk_simp [(idx t).2.2.2.2.2.2.2.1]
  funext a
  match a with
  | ⟨0, _⟩ => exact Fin.ext e0.symm
  | ⟨1, _⟩ => exact Fin.ext e1.symm
theorem final8 : (dats m 0 c).arrAt 8 (cfgs 0).N = Cert.Reference13Ideal.Prep.res2 (A0 m c) (P0 m c) := by
  refine (dats m 0 c).arrAt_eq_of_covers 8 _ (by decide +kernel) fun t hf y => ?_
  blk_simp
  rw [after0_8]
  obtain ⟨r, d, rfl⟩ : ∃ (r : Fin 512) (d : Fin 128), y = ix2 r d := ⟨y 0, y 1, by funext a; match a with | ⟨0, _⟩ => rfl | ⟨1, _⟩ => rfl⟩
  refine (key8 m c t r d).trans (congrArg _ ?_)
  have e0 : ((win0_8.blk t).view.emb (ix2 r d) (0 : Fin 2)).val = 512 * t.val + r.val := by blk_simp [(idx t).2.2.2.2.2.2.2.2]; omega
  have e1 : ((win0_8.blk t).view.emb (ix2 r d) (1 : Fin 2)).val = d.val := by blk_simp [(idx t).2.2.2.2.2.2.2.2]
  funext a
  match a with
  | ⟨0, _⟩ => exact Fin.ext e0.symm
  | ⟨1, _⟩ => exact Fin.ext e1.symm

end Cert.Kernel13Ideal.Prep

end
-- ==== Proof.Mm.Ref.lean ====
module

public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference9Ideal.Run
public import proofs.«01_k».proof.Proof.Gen.Reference8Ideal.Run
public import proofs.«01_k».proof.Proof.Gen.Reference7Ideal.Run
public import Idealize.ShloMosaic.Lib.Pointwise
public import Idealize.ShloMosaic.PureOps.Ideal

@[expose] public section

set_option maxRecDepth 16384

noncomputable section

open Idealize.ShloMosaic Idealize.ShloMosaic.TcCoe Idealize.ShloMosaic.Tactic

/-! The projections' references, at an index. -/

namespace Cert.Reference3Ideal.Mm
open Cert.Reference3Ideal Cert.Reference3Ideal.Gen
/-- The result's term. -/
def res (x : FVec Ideal S8192x4096 .bf16) (w : FVec Ideal S2x4096x12288 .f32) : FVec Ideal S8192x12288 .bf16 :=
  truncf .bf16 (Host.dotGeneral dot_S8192x4096_S4096x12288_S8192x12288_1_0_0_1_n_n none (extf .f32 x bitsLt_bf16_f32) (shapeCast _ (extractStridedSlice S1x4096x12288 ![0, 0, 0] w slices_S2x4096x12288_S1x4096x12288_0_0_0) shapeCasts_S1x4096x12288_S4096x12288)) bitsLt_bf16_f32
theorem res_at (x : FVec Ideal S8192x4096 .bf16) (w : FVec Ideal S2x4096x12288 .f32) (s : Fin 8192) (d : Fin 12288) :
    res x w (ix2 s d) = ∑ k : Fin 4096, x (ix2 s k) * w (ix3 (0 : Fin 2) k d) := by
  pointwise [res]
end Cert.Reference3Ideal.Mm

namespace Cert.Reference4Ideal.Mm
open Cert.Reference4Ideal Cert.Reference4Ideal.Gen
/-- The result's term. -/
def res (x : FVec Ideal S8192x4096 .bf16) (w : FVec Ideal S2x4096x4096 .f32) : FVec Ideal S8192x4096 .f32 :=
  Host.dotGeneral dot_S8192x4096_S4096x4096_S8192x4096_1_0_0_1_n_n none (extf .f32 x bitsLt_bf16_f32) (shapeCast _ (extractStridedSlice S1x4096x4096 ![0, 0, 0] w slices_S2x4096x4096_S1x4096x4096_0_0_0) shapeCasts_S1x4096x4096_S4096x4096)
theorem res_at (x : FVec Ideal S8192x4096 .bf16) (w : FVec Ideal S2x4096x4096 .f32) (s : Fin 8192) (d : Fin 4096) :
    res x w (ix2 s d) = ∑ k : Fin 4096, x (ix2 s k) * w (ix3 (0 : Fin 2) k d) := by
  pointwise [res]
end Cert.Reference4Ideal.Mm

namespace Cert.Reference5Ideal.Mm
open Cert.Reference5Ideal Cert.Reference5Ideal.Gen
/-- The result's term. -/
def res (x : FVec Ideal S8192x4096 .bf16) (w : FVec Ideal S1x4096x18432 .f32) : FVec Ideal S8192x6144 .bf16 :=
  truncf .bf16 (shapeCast _ (shapeCast _ (extractStridedSlice S8192x3x1x2048 ![0, 0, 0, 0] (shapeCast _ (Host.dotGeneral dot_S8192x4096_S4096x18432_S8192x18432_1_0_0_1_n_n none (extf .f32 x bitsLt_bf16_f32) (shapeCast _ w shapeCasts_S1x4096x18432_S4096x18432)) shapeCasts_S8192x18432_S8192x3x3x2048) slices_S8192x3x3x2048_S8192x3x1x2048_0_0_0_0) shapeCasts_S8192x3x1x2048_S8192x3x2048) shapeCasts_S8192x3x2048_S8192x6144) bitsLt_bf16_f32
theorem res_at (x : FVec Ideal S8192x4096 .bf16) (w : FVec Ideal S1x4096x18432 .f32) (s : Fin 8192) (p : Fin 3) (l : Fin 2048) :
    res x w (ix2 s ⟨2048 * p.val + l.val, by omega⟩) = ∑ k : Fin 4096, x (ix2 s k) * w (ix3 (0 : Fin 1) k ⟨p.val * 6144 + l.val, by omega⟩) := by
  pointwise [res]
end Cert.Reference5Ideal.Mm

namespace Cert.Reference6Ideal.Mm
open Cert.Reference6Ideal Cert.Reference6Ideal.Gen
/-- The result's term. -/
def res (x : FVec Ideal S8192x4096 .bf16) (w : FVec Ideal S1x4096x4096 .f32) : FVec Ideal S8192x4096 .f32 :=
  Host.dotGeneral dot_S8192x4096_S4096x4096_S8192x4096_1_0_0_1_n_n none (extf .f32 x bitsLt_bf16_f32) (shapeCast _ w shapeCasts_S1x4096x4096_S4096x4096)
theorem res_at (x : FVec Ideal S8192x4096 .bf16) (w : FVec Ideal S1x4096x4096 .f32) (s : Fin 8192) (d : Fin 4096) :
    res x w (ix2 s d) = ∑ k : Fin 4096, x (ix2 s k) * w (ix3 (0 : Fin 1) k d) := by
  pointwise [res]
end Cert.Reference6Ideal.Mm

namespace Cert.Reference7Ideal.Mm
open Cert.Reference7Ideal Cert.Reference7Ideal.Gen
/-- The result's term. -/
def res (x : FVec Ideal S8192x4096 .bf16) (w : FVec Ideal S1x4096x18432 .f32) : FVec Ideal S8192x6144 .bf16 :=
  truncf .bf16 (shapeCast _ (shapeCast _ (extractStridedSlice S8192x3x1x2048 ![0, 0, 1, 0] (shapeCast _ (Host.dotGeneral dot_S8192x4096_S4096x18432_S8192x18432_1_0_0_1_n_n none (extf .f32 x bitsLt_bf16_f32) (shapeCast _ w shapeCasts_S1x4096x18432_S4096x18432)) shapeCasts_S8192x18432_S8192x3x3x2048) slices_S8192x3x3x2048_S8192x3x1x2048_0_0_1_0) shapeCasts_S8192x3x1x2048_S8192x3x2048) shapeCasts_S8192x3x2048_S8192x6144) bitsLt_bf16_f32
theorem res_at (x : FVec Ideal S8192x4096 .bf16) (w : FVec Ideal S1x4096x18432 .f32) (s : Fin 8192) (p : Fin 3) (l : Fin 2048) :
    res x w (ix2 s ⟨2048 * p.val + l.val, by omega⟩) = ∑ k : Fin 4096, x (ix2 s k) * w (ix3 (0 : Fin 1) k ⟨p.val * 6144 + 2048 + l.val, by omega⟩) := by
  pointwise [res]
end Cert.Reference7Ideal.Mm

namespace Cert.Reference8Ideal.Mm
open Cert.Reference8Ideal Cert.Reference8Ideal.Gen
/-- The result's term. -/
def res (x : FVec Ideal S8192x4096 .bf16) (w : FVec Ideal S1x4096x18432 .f32) : FVec Ideal S8192x6144 .bf16 :=
  truncf .bf16 (shapeCast _ (shapeCast _ (extractStridedSlice S8192x3x1x2048 ![0, 0, 2, 0] (shapeCast _ (Host.dotGeneral dot_S8192x4096_S4096x18432_S8192x18432_1_0_0_1_n_n none (extf .f32 x bitsLt_bf16_f32) (shapeCast _ w shapeCasts_S1x4096x18432_S4096x18432)) shapeCasts_S8192x18432_S8192x3x3x2048) slices_S8192x3x3x2048_S8192x3x1x2048_0_0_2_0) shapeCasts_S8192x3x1x2048_S8192x3x2048) shapeCasts_S8192x3x2048_S8192x6144) bitsLt_bf16_f32
theorem res_at (x : FVec Ideal S8192x4096 .bf16) (w : FVec Ideal S1x4096x18432 .f32) (s : Fin 8192) (p : Fin 3) (l : Fin 2048) :
    res x w (ix2 s ⟨2048 * p.val + l.val, by omega⟩) = ∑ k : Fin 4096, x (ix2 s k) * w (ix3 (0 : Fin 1) k ⟨p.val * 6144 + 4096 + l.val, by omega⟩) := by
  pointwise [res]
end Cert.Reference8Ideal.Mm

namespace Cert.Reference9Ideal.Mm
open Cert.Reference9Ideal Cert.Reference9Ideal.Gen
/-- The result's term. -/
def res (x : FVec Ideal S8192x2048 .bf16) (w : FVec Ideal S1x2048x4096 .f32) : FVec Ideal S8192x4096 .f32 :=
  Host.dotGeneral dot_S8192x2048_S2048x4096_S8192x4096_1_0_0_1_n_n none (extf .f32 x bitsLt_bf16_f32) (shapeCast _ w shapeCasts_S1x2048x4096_S2048x4096)
theorem res_at (x : FVec Ideal S8192x2048 .bf16) (w : FVec Ideal S1x2048x4096 .f32) (s : Fin 8192) (d : Fin 4096) :
    res x w (ix2 s d) = ∑ k : Fin 2048, x (ix2 s k) * w (ix3 (0 : Fin 1) k d) := by
  pointwise [res]
end Cert.Reference9Ideal.Mm

namespace Cert.Reference10Ideal.Mm
open Cert.Reference10Ideal Cert.Reference10Ideal.Gen
/-- The result's term. -/
def res (x : FVec Ideal S8192x512 .bf16) (w : FVec Ideal S1x512x8192 .f32) : FVec Ideal S8192x8192 .bf16 :=
  truncf .bf16 (Host.dotGeneral dot_S8192x512_S512x8192_S8192x8192_1_0_0_1_n_n none (extf .f32 x bitsLt_bf16_f32) (shapeCast _ w shapeCasts_S1x512x8192_S512x8192)) bitsLt_bf16_f32
theorem res_at (x : FVec Ideal S8192x512 .bf16) (w : FVec Ideal S1x512x8192 .f32) (s : Fin 8192) (d : Fin 8192) :
    res x w (ix2 s d) = ∑ k : Fin 512, x (ix2 s k) * w (ix3 (0 : Fin 1) k d) := by
  pointwise [res]
end Cert.Reference10Ideal.Mm

namespace Cert.Reference11Ideal.Mm
open Cert.Reference11Ideal Cert.Reference11Ideal.Gen
variable (x : FVec Ideal S8192x4096 .bf16) (a : FVec Ideal S4096x1024 .f32) (b : FVec Ideal S4096x576 .f32) (s : Fin 8192)
/-- The result's term. -/
def res : FVec Ideal S8192x2048 .f32 :=
  concatenate S8192x2048 1 [⟨S8192x1024, Host.dotGeneral dot_S8192x4096_S4096x1024_S8192x1024_1_0_0_1_n_n none (extf .f32 x bitsLt_bf16_f32) a⟩, ⟨S8192x576, Host.dotGeneral dot_S8192x4096_S4096x576_S8192x576_1_0_0_1_n_n none (extf .f32 x bitsLt_bf16_f32) b⟩, ⟨S8192x448, broadcastInDim S8192x448 ![] bcast_S_S8192x448 (constant S_ .f32 0x00000000#32)⟩] concatenates_S8192x1024_S8192x576_S8192x448_S8192x2048_d1
theorem res_0 (l : Fin 1024) : res x a b (ix2 s (⟨l.val, by omega⟩ : Fin 2048)) = ∑ k : Fin 4096, x (ix2 s k) * a (ix2 k l) := by
  pointwise [res]
theorem res_1 (l : Fin 576) : res x a b (ix2 s (⟨1024 + l.val, by omega⟩ : Fin 2048)) = ∑ k : Fin 4096, x (ix2 s k) * b (ix2 k l) := by
  pointwise [res]
theorem res_2 (l : Fin 448) : res x a b (ix2 s (⟨1600 + l.val, by omega⟩ : Fin 2048)) = 0 := by
  pointwise [res]
  rw [dif_neg (by omega), dif_neg (by omega)]
end Cert.Reference11Ideal.Mm

namespace Cert.Reference12Ideal.Mm
open Cert.Reference12Ideal Cert.Reference12Ideal.Gen
variable (x : FVec Ideal S8192x1024 .bf16) (w : FVec Ideal S1024x6144 .f32) (s : Fin 8192) (h : Fin 32)
/-- The result's term. -/
def res : FVec Ideal S8192x8192 .f32 :=
  shapeCast _ (concatenate S8192x32x256 2 [⟨S8192x32x192, (shapeCast _ (Host.dotGeneral dot_S8192x1024_S1024x6144_S8192x6144_1_0_0_1_n_n none (extf .f32 x bitsLt_bf16_f32) w) shapeCasts_S8192x6144_S8192x32x192)⟩, ⟨S8192x32x64, (broadcastInDim S8192x32x64 ![] bcast_S_S8192x32x64 (constant S_ .f32 0x00000000#32))⟩] concatenates_S8192x32x192_S8192x32x64_S8192x32x256_d2) shapeCasts_S8192x32x256_S8192x8192
theorem res_0 (l : Fin 192) : res x w (ix2 s (⟨256 * h.val + l.val, by omega⟩ : Fin 8192)) = ∑ k : Fin 1024, x (ix2 s k) * w (ix2 k ⟨h.val * 192 + l.val, by omega⟩) := by
  pointwise [res]
  rw [dif_pos (by omega)]
  exact Finset.sum_congr rfl fun k _ => congrArg (fun q => x (ix2 s k) * w (ix2 k q)) (Fin.ext (by show h.val * 192 + (256 * h.val + l.val) % 256 = h.val * 192 + l.val; omega))
theorem res_1 (l : Fin 64) : res x w (ix2 s (⟨256 * h.val + (192 + l.val), by omega⟩ : Fin 8192)) = 0 := by
  pointwise [res]
  rw [dif_neg (by omega)]
end Cert.Reference12Ideal.Mm

end
-- ==== Proof.Moe.Ref.lean ====
module

public import proofs.«01_k».proof.Proof.Gen.Reference2Ideal.Run
public import proofs.«01_k».proof.Proof.Moe.Math
public import Idealize.ShloMosaic.Lib.Pointwise
public import Idealize.ShloMosaic.PureOps.Ideal

@[expose] public section

set_option maxRecDepth 16384

noncomputable section

namespace Cert.Reference2Ideal.Moe

open Idealize.ShloMosaic Idealize.ShloMosaic.TcCoe Idealize.ShloMosaic.Tactic
open Cert.Reference2Ideal Cert.Reference2Ideal.Gen Cert.Moe

/-! The reference's result, stage by stage. -/

section stages
variable (A : IVec S24576x2176 32) (T : IVec S97 32) (G U : FVec Ideal S4x32x4096x256 .f32) (D : FVec Ideal S4x32x256x4096 .f32)

/-- The rows, unpacked. -/
def rX : FVec Ideal S24576x4096 .f32 :=
  concatenate S24576x4096 1 [⟨S24576x2048, (bitcastToFloat (F := Ideal) .f32 (Host.shli (extractStridedSlice S24576x2048 ![0, 0] A slices_S24576x2176_S24576x2048_0_0) (broadcastInDim S24576x2048 ![] bcast_S_S24576x2048 (constantI S_ 32 16#32))))⟩, ⟨S24576x2048, (bitcastToFloat (F := Ideal) .f32 (andi (extractStridedSlice S24576x2048 ![0, 0] A slices_S24576x2176_S24576x2048_0_0) (broadcastInDim S24576x2048 ![] bcast_S_S24576x2048 (constantI S_ 32 4294901760#32))))⟩] concatenates_S24576x2048_S24576x2048_S24576x4096_d1
/-- Every expert's first product with a weight. -/
def rDot : FVec Ideal S24576x32x256 .f32 :=
  Host.dotGeneral dot_S24576x4096_S32x4096x256_S24576x32x256_1_1_0_02_n_n none (rX A) (shapeCast _ (extractStridedSlice S1x32x4096x256 ![0, 0, 0, 0] G slices_S4x32x4096x256_S1x32x4096x256_0_0_0_0) shapeCasts_S1x32x4096x256_S32x4096x256)
/-- Each row's weight on each expert. -/
def rComb : FVec Ideal S24576x32 .f32 :=
  select (andi (cmpi .eq (broadcastInDim S24576x32 ![0, 1] bcast_S24576x1_S24576x32_0_1 (broadcastInDim S24576x1 ![0] bcast_S24576_S24576x1_0 (shapeCast _ (broadcastInDim S96x256 ![0] bcast_S96_S96x256_0 (extractStridedSlice S96 ![0] T slices_S97_S96_0)) shapeCasts_S96x256_S24576))) (broadcastInDim S24576x32 ![0, 1] bcast_S1x32_S24576x32_0_1 (broadcastInDim S1x32 ![1] bcast_S32_S1x32_1 (iotaInDim S32 32 0)))) (broadcastInDim S24576x32 ![0, 1] bcast_S24576x1_S24576x32_0_1 (broadcastInDim S24576x1 ![0] bcast_S24576_S24576x1_0 (shapeCast _ (broadcastInDim S96x256 ![0] bcast_S96_S96x256_0 (cmpi .slt (iotaInDim S96 32 0) (broadcastInDim S96 ![] bcast_S_S96 (shapeCast _ (extractStridedSlice S1 ![96] T slices_S97_S1_96) shapeCasts_S1_S_)))) shapeCasts_S96x256_S24576)))) (bitcastToFloat (F := Ideal) .f32 (extractStridedSlice S24576x32 ![0, 2048] A slices_S24576x2176_S24576x32_0_2048)) (broadcastInDim S24576x32 ![] bcast_S_S24576x32 (id (constant S_ .f32 0x00000000#32)))
/-- The weighted hidden rows. -/
def rHid (g u : FVec Ideal S24576x32x256 .f32) (w : FVec Ideal S24576x32 .f32) : FVec Ideal S24576x32x256 .f32 :=
  mulf (mulf (mulf g (Host.divf (broadcastInDim S24576x32x256 ![] bcast_S_S24576x32x256 (constant S_ .f32 0x3F800000#32)) (addf (broadcastInDim S24576x32x256 ![] bcast_S_S24576x32x256 (constant S_ .f32 0x3F800000#32)) (Host.exp (Host.negf g))))) u) (broadcastInDim S24576x32x256 ![0, 1, 2] bcast_S24576x32x1_S24576x32x256_0_1_2 (broadcastInDim S24576x32x1 ![0, 1] bcast_S24576x32_S24576x32x1_0_1 w))
/-- The sum over the experts. -/
def rOut (h : FVec Ideal S24576x32x256 .f32) : FVec Ideal S24576x4096 .f32 :=
  Host.dotGeneral dot_S24576x32x256_S32x256x4096_S24576x4096_12_01_0_2_n_n none h (shapeCast _ (extractStridedSlice S1x32x256x4096 ![0, 0, 0, 0] D slices_S4x32x256x4096_S1x32x256x4096_0_0_0_0) shapeCasts_S1x32x256x4096_S32x256x4096)
end stages

theorem res_eq (m : (ℓ : Loc nD τ sig) → Buf (Elt Ideal) ℓ) (c : Dev nD) :
    Value.res_main_v43 m c = rOut (m ((c.tc : Thread nD τ).loc main_arg4)) (rHid (rDot (m ((c.tc : Thread nD τ).loc main_arg0)) (m ((c.tc : Thread nD τ).loc main_arg2)))
      (rDot (m ((c.tc : Thread nD τ).loc main_arg0)) (m ((c.tc : Thread nD τ).loc main_arg3))) (rComb (m ((c.tc : Thread nD τ).loc main_arg0)) (m ((c.tc : Thread nD τ).loc main_arg1)))) := by
  unfold Value.res_main_v43 rOut rHid rDot rComb rX; rfl

section at_index
variable (A : IVec S24576x2176 32) (T : IVec S97 32) (G U : FVec Ideal S4x32x4096x256 .f32) (D : FVec Ideal S4x32x256x4096 .f32)

theorem rDot_at (s : Fin 24576) (e : Fin 32) (f : Fin 256) : rDot A G (ix3 s e f) = dt (fun x => A (ix2 s ⟨x.val, by omega⟩)) (fun k => G (ix4 0 e k f)) := by
  unfold dt lo hi
  pointwise [rDot, rX]
  rfl
theorem rComb_at (t : Fin 96) (r : Fin 256) (e : Fin 32) (hs : 256 * t.val + r.val < 24576) (ht : t.val < 97) : rComb A T (ix2 ⟨256 * t.val + r.val, hs⟩ e)
    = Scalar.select (IntOp.andi (IntOp.cmpi .eq (T (ix1 ⟨t.val, ht⟩)) (BitVec.ofNat 32 e.val)) (IntOp.cmpi .slt (BitVec.ofNat 32 t.val) (T (ix1 96))))
      (Ideal.ofBits .f32 (A (ix2 ⟨256 * t.val + r.val, hs⟩ ⟨2048 + e.val, by omega⟩))) (0 : EReal) := by
  pointwise [rComb, id]
theorem rHid_at (g u : FVec Ideal S24576x32x256 .f32) (w : FVec Ideal S24576x32 .f32) (s : Fin 24576) (e : Fin 32) (f : Fin 256) :
    rHid g u w (ix3 s e f) = hid (g (ix3 s e f)) (u (ix3 s e f)) (w (ix2 s e)) := by
  unfold hid Ideal.logistic
  pointwise [rHid]
theorem rOut_at (h : FVec Ideal S24576x32x256 .f32) (s : Fin 24576) (d : Fin 4096) : rOut D h (ix2 s d) = ∑ e : Fin 32, ∑ f : Fin 256, h (ix3 s e f) * D (ix4 0 e f d) := by
  pointwise [rOut]

/-- A row's weight on an expert: its own lane when the expert is its tile's and the tile is in use. -/
theorem rComb_eq (e : Fin 96 → Fin 32) (he : ∀ t : Fin 96, (T (ix1 ⟨t.val, by omega⟩)).toNat = (e t).val) (hn : (T (ix1 96)).toNat ≤ 96)
    (t : Fin 96) (r : Fin 256) (e' : Fin 32) (hs : 256 * t.val + r.val < 24576) : rComb A T (ix2 ⟨256 * t.val + r.val, hs⟩ e')
    = if e' = e t ∧ t.val < (T (ix1 96)).toNat then Ideal.ofBits .f32 (A (ix2 ⟨256 * t.val + r.val, hs⟩ ⟨2048 + e'.val, by omega⟩)) else (0 : EReal) := by
  rw [rComb_at A T t r e' hs (by omega)]
  have ht : (BitVec.ofNat 32 t.val).toNat = t.val := by rw [BitVec.toNat_ofNat]; exact Nat.mod_eq_of_lt (by omega)
  have he' : (BitVec.ofNat 32 e'.val).toNat = e'.val := by rw [BitVec.toNat_ofNat]; exact Nat.mod_eq_of_lt (by omega)
  rw [WordCmp.cmpi_slt_of_lt (by rw [ht]; omega) (by omega), WordCmp.cmpi_eq_eq_toNat, he t, he', ht]
  by_cases h1 : e' = e t
  · by_cases h2 : t.val < (T (ix1 96)).toNat
    · simp only [h1, h2, and_self, if_true, decide_true]; rfl
    · simp only [h1, h2, and_false, if_false, decide_true, decide_false]; rfl
  · have h1' : ¬ (e t).val = e'.val := fun h => h1 (Fin.ext h.symm)
    simp only [h1, h1', false_and, if_false, decide_false]
    cases decide (t.val < (T (ix1 96)).toNat) <;> rfl

/-- The reference's result at a row. -/
theorem ref_at (e : Fin 96 → Fin 32) (he : ∀ t : Fin 96, (T (ix1 ⟨t.val, by omega⟩)).toNat = (e t).val) (n : ℕ) (hn' : (T (ix1 96)).toNat = n) (hn : n ≤ 96)
    (t : Fin 96) (r : Fin 256) (d : Fin 4096) (hs : 256 * t.val + r.val < 24576) :
    rOut D (rHid (rDot A G) (rDot A U) (rComb A T)) (ix2 ⟨256 * t.val + r.val, hs⟩ d)
      = out (fun s k => A (ix2 s k)) n e (fun e k f => G (ix4 0 e k f)) (fun e k f => U (ix4 0 e k f)) (fun e f d => D (ix4 0 e f d)) t ⟨256 * t.val + r.val, hs⟩ d := by
  subst hn'
  rw [rOut_at]
  have h0 : ∀ e' : Fin 32, ¬ (e' = e t ∧ t.val < (T (ix1 96)).toNat) →
      ∑ f : Fin 256, rHid (rDot A G) (rDot A U) (rComb A T) (ix3 ⟨256 * t.val + r.val, hs⟩ e' f) * D (ix4 0 e' f d) = (0 : EReal) := by
    intro e' h
    refine Finset.sum_eq_zero fun f _ => ?_
    rw [rHid_at, rComb_eq A T e he hn t r e' hs, if_neg h]
    unfold hid
    rw [mul_zero, zero_mul]
  unfold out
  by_cases h : t.val < (T (ix1 96)).toNat
  · rw [if_pos h, Finset.sum_eq_single (e t) (fun e' _ hne => h0 e' fun hh => hne hh.1) (fun hh => absurd (Finset.mem_univ _) hh)]
    refine Finset.sum_congr rfl fun f _ => ?_
    rw [rHid_at, rComb_eq A T e he hn t r (e t) hs, if_pos ⟨rfl, h⟩, rDot_at, rDot_at]
  · rw [if_neg h]
    exact Finset.sum_eq_zero fun e' _ => h0 e' fun hh => h hh.2
end at_index

end Cert.Reference2Ideal.Moe

end
-- ==== Proof.lean ====
/- The calls' claims, put together: each kernel's frame, its ideal kernel's and its ideal reference's, and that the two ideal results are equal. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame.Runs
public import proofs.«01_k».proof.Proof.Gen.ReferenceIdeal.Run
public import proofs.«01_k».proof.Proof.Gen.ReferenceIdeal
public import proofs.«01_k».proof.Proof.Gen.Pre_finite_scores
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Pre_tile_table
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.Mla.Frame
public import proofs.«01_k».proof.Proof.Mla.Algebra
public import proofs.«01_k».proof.Proof.Mla.Pre
public import proofs.«01_k».proof.Proof.Moe.Bits
public import proofs.«01_k».proof.Proof.Moe.Pre
public import proofs.«01_k».proof.Proof.Moe.Value
public import proofs.«01_k».proof.Proof.Mm.Qkv
public import proofs.«01_k».proof.Proof.Mm.Out
public import proofs.«01_k».proof.Proof.Mm.MlaOut
public import proofs.«01_k».proof.Proof.Mm.Dil
public import proofs.«01_k».proof.Proof.Mm.Dil1
public import proofs.«01_k».proof.Proof.Mm.Dil2
public import proofs.«01_k».proof.Proof.Mm.DilOut
public import proofs.«01_k».proof.Proof.Mm.Kvb
public import proofs.«01_k».proof.Proof.Mm.MlaA
public import proofs.«01_k».proof.Proof.Mm.MlaQb
public import proofs.«01_k».proof.Proof.Mla.Prep
public import proofs.«01_k».proof.Proof.Mm.Ref
public import proofs.«01_k».proof.Proof.Moe.Ref
public import Idealize.ShloMosaic.Adequacy
public import Idealize.ShloMosaic.Init

@[expose] public section

noncomputable section

namespace Cert.Proof

open Idealize.ShloMosaic Idealize.SL.Sem Cert.Kernel

/-- The reference declares no semaphore. -/
theorem mla_reference_frame : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The latent attention: the kernel's result is the reference's. -/
theorem mla_value : Cert.algebraic_KernelIdeal_ReferenceIdeal_pre_finite_scores
    (hKernelIdeal := Cert.KernelIdeal.Gen.facts) (hReferenceIdeal := Cert.ReferenceIdeal.Gen.facts) (hPre_finite_scores := Cert.Pre_finite_scores.Gen.facts) := by
  intro m ρ m' ρ' hpre hargs
  refine ⟨fun c => (Cert.KernelIdeal.Mla.dats m 0 c).arrAt 6 (Cert.KernelIdeal.cfgs 0).N, ?_, ?_⟩
  · refine (θ_run Cert.KernelIdeal.defs _ _).mono (fun r h c => ?_) (θ_run_and (Cert.KernelIdeal.Mla.unchanged m ρ) (Cert.KernelIdeal.Mla.run_main m ρ))
    exact ⟨(h.2 c).1 6, h.1 c⟩
  · refine (θ_run Cert.ReferenceIdeal.defs _ _).mono (fun r h c => ⟨(h c).1.trans ?_, (h c).2⟩) (Cert.ReferenceIdeal.Value.run m' ρ')
    refine (Cert.ReferenceIdeal.Mla.res_eq m' c).trans ?_
    obtain ⟨e0, e1, e2, e3⟩ := hargs c
    obtain ⟨p0, p1, p2⟩ := hpre c
    rw [e0, e1, e2, e3]
    refine Eq.trans ?_ (Cert.KernelIdeal.Mla.final m c).symm
    rw [Cert.KernelIdeal.Mla.V16, Cert.KernelIdeal.Mla.V17, Cert.KernelIdeal.Mla.V19, Cert.KernelIdeal.Gen.V_main_arg0, Cert.KernelIdeal.Gen.V_main_arg1, Cert.KernelIdeal.Gen.V_main_arg2]
    funext j
    obtain ⟨a, b, rfl⟩ : ∃ a b, j = ix2 a b := ⟨j 0, j 1, by funext a; fin_cases a <;> rfl⟩
    exact (Cert.KernelIdeal.Mla.att_eq _ _ _ _ a (Cert.Pre_finite_scores.Mla.q_real _ _ _ _ p0) (Cert.Pre_finite_scores.Mla.kv_real _ _ _ _ p1)
      (Cert.Pre_finite_scores.Mla.kr_real _ _ _ _ p2) b).symm

/-! ## The experts' layer -/

/-- The reference declares no semaphore. -/
theorem moe_reference_frame : Cert.quiescent_Reference2Ideal (hReference2Ideal := Cert.Reference2Ideal.Gen.facts) := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem moe_kernel_frame : Cert.quiescent_Kernel2 (hKernel2 := Cert.Kernel2.Gen.facts) (hPre_tile_table := Cert.Pre_tile_table.Gen.facts) := fun m ρ hpre =>
  Cert.Kernel2.Moe.frame m ρ (Cert.Pre_tile_table.Moe.ok_of_fn _ _ _ _ _ (hpre 0).1 (hpre 0).2)

/-- The side condition on the table, from the precondition. -/
theorem moe_table (m) (hpre : Cert.Pre_Kernel2Ideal (hPre_tile_table := Cert.Pre_tile_table.Gen.facts) m) :
    Cert.Kernel2Ideal.Moe.TableOk (Cert.Kernel2Ideal.Moe.tbl (F := Ideal) m) :=
  Cert.Pre_tile_table.Moe.ok_of_fn _ _ _ _ _ (hpre 0).1 (hpre 0).2

theorem moe_ideal_frame : Cert.quiescent_Kernel2Ideal (hKernel2Ideal := Cert.Kernel2Ideal.Gen.facts) (hPre_tile_table := Cert.Pre_tile_table.Gen.facts) := fun m ρ hpre =>
  Cert.Kernel2Ideal.Moe.frame m ρ (moe_table m hpre)

/-- The experts' layer: the kernel's result is the reference's. -/
theorem moe_value : Cert.algebraic_Kernel2Ideal_Reference2Ideal
    (hKernel2Ideal := Cert.Kernel2Ideal.Gen.facts) (hReference2Ideal := Cert.Reference2Ideal.Gen.facts) (hPre_tile_table := Cert.Pre_tile_table.Gen.facts) := by
  intro m ρ m' ρ' hpre hargs
  have hT := moe_table m hpre
  refine ⟨fun c => (Cert.Kernel2Ideal.Moe.dats m hT 0 c).arrAt 5 (Cert.Kernel2Ideal.Moe.cfgT m hT).N, ?_, ?_⟩
  · refine (θ_run Cert.Kernel2Ideal.defs _ _).mono (fun r h c => ?_) (θ_run_and (Cert.Kernel2Ideal.Moe.frame m ρ hT) (Cert.Kernel2Ideal.Moe.run_result m ρ hT))
    exact ⟨h.2 c, h.1.1 c⟩
  · refine (θ_run Cert.Reference2Ideal.defs _ _).mono (fun r h c => ⟨(h c).1.trans ?_, (h c).2⟩) (Cert.Reference2Ideal.Value.run m' ρ')
    refine (Cert.Reference2Ideal.Moe.res_eq m' c).trans ?_
    obtain ⟨e0, e1, e2, e3, e4⟩ := hargs c
    rw [e0, e1, e2, e3, e4]
    refine Eq.trans ?_ (Cert.Kernel2Ideal.Moe.final m hT c).symm
    funext j
    obtain ⟨s, d, rfl⟩ : ∃ (s : Fin 24576) (d : Fin 4096), j = ix2 s d := ⟨j 0, j 1, by funext a; fin_cases a <;> rfl⟩
    obtain ⟨t, r, rfl⟩ : ∃ (t : Fin 96) (r : Fin 256), s = Cert.Kernel2Ideal.Moe.row t r :=
      ⟨⟨s.val / 256, by omega⟩, ⟨s.val % 256, by omega⟩, Fin.ext (by show s.val = 256 * (s.val / 256) + s.val % 256; omega)⟩
    obtain rfl : c = 0 := Subsingleton.elim _ _
    have ht : ∀ k : Fin 97, Cert.Kernel2Ideal.Moe.tbl (F := Ideal) m (ix1 k) = Cert.Kernel2Ideal.Moe.entry (Cert.Kernel2Ideal.Moe.tbl (F := Ideal) m) k.val := fun k =>
      congrArg (Cert.Kernel2Ideal.Moe.tbl (F := Ideal) m) (funext fun a : Fin 1 => Fin.ext (by
        obtain rfl : a = 0 := Subsingleton.elim _ _
        show k.val = min k.val 96
        omega))
    refine (Cert.Reference2Ideal.Moe.ref_at _ _ _ _ _ (Cert.Kernel2Ideal.Moe.expert (Cert.Kernel2Ideal.Moe.tbl m) hT) (fun t => by have h := congrArg BitVec.toNat (ht ⟨t.val, by omega⟩); exact h)
      _ (by have h := congrArg BitVec.toNat (ht 96); exact h) hT.le t r d (by omega)).trans ?_
    show _ = Cert.Kernel2Ideal.Moe.val m hT 0 ⟨(256 * t.val + r.val) / 256, _⟩ (Cert.Kernel2Ideal.Moe.row t r) d
    rw [show (⟨(256 * t.val + r.val) / 256, by omega⟩ : Fin 96) = t from Fin.ext (by show (256 * t.val + r.val) / 256 = t.val; omega)]
    rfl

/-! ## The projections -/

/-- The references of the projections declare no semaphore. -/
theorem qkv_reference_frame : Cert.quiescent_Reference3Ideal (hReference3Ideal := Cert.Reference3Ideal.Gen.facts) := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem out_reference_frame : Cert.quiescent_Reference4Ideal (hReference4Ideal := Cert.Reference4Ideal.Gen.facts) := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem dil_reference_frame : Cert.quiescent_Reference5Ideal (hReference5Ideal := Cert.Reference5Ideal.Gen.facts) := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

theorem dil1_reference_frame : Cert.quiescent_Reference7Ideal (hReference7Ideal := Cert.Reference7Ideal.Gen.facts) := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

theorem dil2_reference_frame : Cert.quiescent_Reference8Ideal (hReference8Ideal := Cert.Reference8Ideal.Gen.facts) := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

theorem dil_out_reference_frame : Cert.quiescent_Reference9Ideal (hReference9Ideal := Cert.Reference9Ideal.Gen.facts) := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

theorem kvb_reference_frame : Cert.quiescent_Reference10Ideal (hReference10Ideal := Cert.Reference10Ideal.Gen.facts) := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

theorem mla_a_reference_frame : Cert.quiescent_Reference11Ideal (hReference11Ideal := Cert.Reference11Ideal.Gen.facts) := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

theorem mla_qb_reference_frame : Cert.quiescent_Reference12Ideal (hReference12Ideal := Cert.Reference12Ideal.Gen.facts) := fun m ρ _ =>
  (θ_run Cert.Reference12Ideal.defs _ _).mono (fun r h => ⟨fun c => (h c).2, Idealize.ShloMosaic.sem_eq_zero_of_no_sems (by decide) r.2⟩)
    (Cert.Reference12Ideal.Value.run (F := Ideal) m ρ)

theorem mla_prep_reference_frame : Cert.quiescent_Reference13Ideal (hReference13Ideal := Cert.Reference13Ideal.Gen.facts) := fun m ρ _ =>
  (θ_run Cert.Reference13Ideal.defs _ _).mono (fun r h => ⟨fun c => (h c).2.2.2, Idealize.ShloMosaic.sem_eq_zero_of_no_sems (by decide) r.2⟩)
    (Cert.Reference13Ideal.Value.run (F := Ideal) m ρ)

theorem mla_out_reference_frame : Cert.quiescent_Reference6Ideal (hReference6Ideal := Cert.Reference6Ideal.Gen.facts) := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

/-- The projection to queries, keys and values: the kernel's result is the reference's. -/
theorem qkv_value : Cert.algebraic_Kernel3Ideal_Reference3Ideal (hKernel3Ideal := Cert.Kernel3Ideal.Gen.facts) (hReference3Ideal := Cert.Reference3Ideal.Gen.facts) := by
  intro m ρ m' ρ' hpre hargs
  refine ⟨fun c => (Cert.Kernel3Ideal.Gen.dats m 0 c).arrAt 2 (Cert.Kernel3Ideal.cfgs 0).N, ?_, ?_⟩
  · refine (θ_run Cert.Kernel3Ideal.defs _ _).mono (fun r h c => ?_) (θ_run_and (Cert.Kernel3Ideal.Gen.unchanged m ρ) (Cert.Kernel3Ideal.Gen.run_main m ρ))
    exact ⟨(h.2 c).1 2, h.1 c⟩
  · refine (θ_run Cert.Reference3Ideal.defs _ _).mono (fun r h c => ⟨(h c).1.trans ?_, (h c).2⟩) (Cert.Reference3Ideal.Value.run m' ρ')
    obtain ⟨e0, e1⟩ := hargs c
    rw [e0, e1]
    refine Eq.trans ?_ (Cert.Kernel3Ideal.Mm.final m c).symm
    funext j
    obtain ⟨a, b, rfl⟩ : ∃ a b, j = ix2 a b := ⟨j 0, j 1, by funext a; fin_cases a <;> rfl⟩
    exact Cert.Reference3Ideal.Mm.res_at _ _ a b

/-- The projection back to the model's width. -/
theorem out_value : Cert.algebraic_Kernel4Ideal_Reference4Ideal (hKernel4Ideal := Cert.Kernel4Ideal.Gen.facts) (hReference4Ideal := Cert.Reference4Ideal.Gen.facts) := by
  intro m ρ m' ρ' hpre hargs
  refine ⟨fun c => (Cert.Kernel4Ideal.Gen.dats m 0 c).arrAt 2 (Cert.Kernel4Ideal.cfgs 0).N, ?_, ?_⟩
  · refine (θ_run Cert.Kernel4Ideal.defs _ _).mono (fun r h c => ?_) (θ_run_and (Cert.Kernel4Ideal.Gen.unchanged m ρ) (Cert.Kernel4Ideal.Gen.run_main m ρ))
    exact ⟨(h.2 c).1 2, h.1 c⟩
  · refine (θ_run Cert.Reference4Ideal.defs _ _).mono (fun r h c => ⟨(h c).1.trans ?_, (h c).2⟩) (Cert.Reference4Ideal.Value.run m' ρ')
    obtain ⟨e0, e1⟩ := hargs c
    rw [e0, e1]
    refine Eq.trans ?_ (Cert.Kernel4Ideal.Mm.final m c).symm
    funext j
    obtain ⟨a, b, rfl⟩ : ∃ a b, j = ix2 a b := ⟨j 0, j 1, by funext a; fin_cases a <;> rfl⟩
    exact Cert.Reference4Ideal.Mm.res_at _ _ a b

/-- The latent attention's projection back to the model's width. -/
theorem mla_out_value : Cert.algebraic_Kernel6Ideal_Reference6Ideal (hKernel6Ideal := Cert.Kernel6Ideal.Gen.facts) (hReference6Ideal := Cert.Reference6Ideal.Gen.facts) := by
  intro m ρ m' ρ' hpre hargs
  refine ⟨fun c => (Cert.Kernel6Ideal.Gen.dats m 0 c).arrAt 2 (Cert.Kernel6Ideal.cfgs 0).N, ?_, ?_⟩
  · refine (θ_run Cert.Kernel6Ideal.defs _ _).mono (fun r h c => ?_) (θ_run_and (Cert.Kernel6Ideal.Gen.unchanged m ρ) (Cert.Kernel6Ideal.Gen.run_main m ρ))
    exact ⟨(h.2 c).1 2, h.1 c⟩
  · refine (θ_run Cert.Reference6Ideal.defs _ _).mono (fun r h c => ⟨(h c).1.trans ?_, (h c).2⟩) (Cert.Reference6Ideal.Value.run m' ρ')
    obtain ⟨e0, e1⟩ := hargs c
    rw [e0, e1]
    refine Eq.trans ?_ (Cert.Kernel6Ideal.Mm.final m c).symm
    funext j
    obtain ⟨a, b, rfl⟩ : ∃ a b, j = ix2 a b := ⟨j 0, j 1, by funext a; fin_cases a <;> rfl⟩
    exact Cert.Reference6Ideal.Mm.res_at _ _ a b

/-- The dilated attention's projection for its first group: a column of the result is its part's column of the weights. -/
theorem dil_value : Cert.algebraic_Kernel5Ideal_Reference5Ideal (hKernel5Ideal := Cert.Kernel5Ideal.Gen.facts) (hReference5Ideal := Cert.Reference5Ideal.Gen.facts) := by
  intro m ρ m' ρ' hpre hargs
  refine ⟨fun c => (Cert.Kernel5Ideal.Gen.dats m 0 c).arrAt 2 (Cert.Kernel5Ideal.cfgs 0).N, ?_, ?_⟩
  · refine (θ_run Cert.Kernel5Ideal.defs _ _).mono (fun r h c => ?_) (θ_run_and (Cert.Kernel5Ideal.Gen.unchanged m ρ) (Cert.Kernel5Ideal.Gen.run_main m ρ))
    exact ⟨(h.2 c).1 2, h.1 c⟩
  · refine (θ_run Cert.Reference5Ideal.defs _ _).mono (fun r h c => ⟨(h c).1.trans ?_, (h c).2⟩) (Cert.Reference5Ideal.Value.run m' ρ')
    obtain ⟨e0, e1⟩ := hargs c
    rw [e0, e1]
    refine Eq.trans ?_ (Cert.Kernel5Ideal.Mm.final m c).symm
    funext j
    obtain ⟨a, b, rfl⟩ : ∃ (a : Fin 8192) (b : Fin 6144), j = ix2 a b := ⟨j 0, j 1, by funext a; fin_cases a <;> rfl⟩
    obtain ⟨p, l, rfl⟩ : ∃ (p : Fin 3) (l : Fin 2048), b = ⟨2048 * p.val + l.val, by omega⟩ :=
      ⟨⟨b.val / 2048, by omega⟩, ⟨b.val % 2048, by omega⟩, Fin.ext (by show b.val = 2048 * (b.val / 2048) + b.val % 2048; omega)⟩
    refine (Cert.Reference5Ideal.Mm.res_at _ _ a p l).trans ?_
    show _ = Cert.Kernel5Ideal.Mm.proj _ _ a ⟨2048 * p.val + l.val, _⟩
    unfold Cert.Kernel5Ideal.Mm.proj
    rw [show Cert.Kernel5Ideal.Mm.wcol ⟨2048 * p.val + l.val, by omega⟩ = ⟨p.val * 6144 + l.val, by omega⟩ from
      Fin.ext (by show 6144 * ((2048 * p.val + l.val) / 2048) + (2048 * p.val + l.val) % 2048 = p.val * 6144 + l.val; omega)]

/-- The dilated attention's projection for its second group: a column of the result is its part's column of the weights. -/
theorem dil1_value : Cert.algebraic_Kernel7Ideal_Reference7Ideal (hKernel7Ideal := Cert.Kernel7Ideal.Gen.facts) (hReference7Ideal := Cert.Reference7Ideal.Gen.facts) := by
  intro m ρ m' ρ' hpre hargs
  refine ⟨fun c => (Cert.Kernel7Ideal.Gen.dats m 0 c).arrAt 2 (Cert.Kernel7Ideal.cfgs 0).N, ?_, ?_⟩
  · refine (θ_run Cert.Kernel7Ideal.defs _ _).mono (fun r h c => ?_) (θ_run_and (Cert.Kernel7Ideal.Gen.unchanged m ρ) (Cert.Kernel7Ideal.Gen.run_main m ρ))
    exact ⟨(h.2 c).1 2, h.1 c⟩
  · refine (θ_run Cert.Reference7Ideal.defs _ _).mono (fun r h c => ⟨(h c).1.trans ?_, (h c).2⟩) (Cert.Reference7Ideal.Value.run m' ρ')
    obtain ⟨e0, e1⟩ := hargs c
    rw [e0, e1]
    refine Eq.trans ?_ (Cert.Kernel7Ideal.Mm.final m c).symm
    funext j
    obtain ⟨a, b, rfl⟩ : ∃ (a : Fin 8192) (b : Fin 6144), j = ix2 a b := ⟨j 0, j 1, by funext a; fin_cases a <;> rfl⟩
    obtain ⟨p, l, rfl⟩ : ∃ (p : Fin 3) (l : Fin 2048), b = ⟨2048 * p.val + l.val, by omega⟩ :=
      ⟨⟨b.val / 2048, by omega⟩, ⟨b.val % 2048, by omega⟩, Fin.ext (by show b.val = 2048 * (b.val / 2048) + b.val % 2048; omega)⟩
    refine (Cert.Reference7Ideal.Mm.res_at _ _ a p l).trans ?_
    show _ = Cert.Kernel7Ideal.Mm.proj _ _ a ⟨2048 * p.val + l.val, _⟩
    unfold Cert.Kernel7Ideal.Mm.proj
    rw [show Cert.Kernel7Ideal.Mm.wcol ⟨2048 * p.val + l.val, by omega⟩ = ⟨p.val * 6144 + 2048 + l.val, by omega⟩ from
      Fin.ext (by show 6144 * ((2048 * p.val + l.val) / 2048) + 2048 + (2048 * p.val + l.val) % 2048 = p.val * 6144 + 2048 + l.val; omega)]

/-- The dilated attention's projection for its third group: a column of the result is its part's column of the weights. -/
theorem dil2_value : Cert.algebraic_Kernel8Ideal_Reference8Ideal (hKernel8Ideal := Cert.Kernel8Ideal.Gen.facts) (hReference8Ideal := Cert.Reference8Ideal.Gen.facts) := by
  intro m ρ m' ρ' hpre hargs
  refine ⟨fun c => (Cert.Kernel8Ideal.Gen.dats m 0 c).arrAt 2 (Cert.Kernel8Ideal.cfgs 0).N, ?_, ?_⟩
  · refine (θ_run Cert.Kernel8Ideal.defs _ _).mono (fun r h c => ?_) (θ_run_and (Cert.Kernel8Ideal.Gen.unchanged m ρ) (Cert.Kernel8Ideal.Gen.run_main m ρ))
    exact ⟨(h.2 c).1 2, h.1 c⟩
  · refine (θ_run Cert.Reference8Ideal.defs _ _).mono (fun r h c => ⟨(h c).1.trans ?_, (h c).2⟩) (Cert.Reference8Ideal.Value.run m' ρ')
    obtain ⟨e0, e1⟩ := hargs c
    rw [e0, e1]
    refine Eq.trans ?_ (Cert.Kernel8Ideal.Mm.final m c).symm
    funext j
    obtain ⟨a, b, rfl⟩ : ∃ (a : Fin 8192) (b : Fin 6144), j = ix2 a b := ⟨j 0, j 1, by funext a; fin_cases a <;> rfl⟩
    obtain ⟨p, l, rfl⟩ : ∃ (p : Fin 3) (l : Fin 2048), b = ⟨2048 * p.val + l.val, by omega⟩ :=
      ⟨⟨b.val / 2048, by omega⟩, ⟨b.val % 2048, by omega⟩, Fin.ext (by show b.val = 2048 * (b.val / 2048) + b.val % 2048; omega)⟩
    refine (Cert.Reference8Ideal.Mm.res_at _ _ a p l).trans ?_
    show _ = Cert.Kernel8Ideal.Mm.proj _ _ a ⟨2048 * p.val + l.val, _⟩
    unfold Cert.Kernel8Ideal.Mm.proj
    rw [show Cert.Kernel8Ideal.Mm.wcol ⟨2048 * p.val + l.val, by omega⟩ = ⟨p.val * 6144 + 4096 + l.val, by omega⟩ from
      Fin.ext (by show 6144 * ((2048 * p.val + l.val) / 2048) + 4096 + (2048 * p.val + l.val) % 2048 = p.val * 6144 + 4096 + l.val; omega)]

/-- The dilated attention's projection back to the model's width. -/
theorem dil_out_value : Cert.algebraic_Kernel9Ideal_Reference9Ideal (hKernel9Ideal := Cert.Kernel9Ideal.Gen.facts) (hReference9Ideal := Cert.Reference9Ideal.Gen.facts) := by
  intro m ρ m' ρ' hpre hargs
  refine ⟨fun c => (Cert.Kernel9Ideal.Gen.dats m 0 c).arrAt 2 (Cert.Kernel9Ideal.cfgs 0).N, ?_, ?_⟩
  · refine (θ_run Cert.Kernel9Ideal.defs _ _).mono (fun r h c => ?_) (θ_run_and (Cert.Kernel9Ideal.Gen.unchanged m ρ) (Cert.Kernel9Ideal.Gen.run_main m ρ))
    exact ⟨(h.2 c).1 2, h.1 c⟩
  · refine (θ_run Cert.Reference9Ideal.defs _ _).mono (fun r h c => ⟨(h c).1.trans ?_, (h c).2⟩) (Cert.Reference9Ideal.Value.run m' ρ')
    obtain ⟨e0, e1⟩ := hargs c
    rw [e0, e1]
    refine Eq.trans ?_ (Cert.Kernel9Ideal.Mm.final m c).symm
    funext j
    obtain ⟨a, b, rfl⟩ : ∃ a b, j = ix2 a b := ⟨j 0, j 1, by funext a; fin_cases a <;> rfl⟩
    exact Cert.Reference9Ideal.Mm.res_at _ _ a b

/-- The latent attention's keys and values. -/
theorem kvb_value : Cert.algebraic_Kernel10Ideal_Reference10Ideal (hKernel10Ideal := Cert.Kernel10Ideal.Gen.facts) (hReference10Ideal := Cert.Reference10Ideal.Gen.facts) := by
  intro m ρ m' ρ' hpre hargs
  refine ⟨fun c => (Cert.Kernel10Ideal.Gen.dats m 0 c).arrAt 2 (Cert.Kernel10Ideal.cfgs 0).N, ?_, ?_⟩
  · refine (θ_run Cert.Kernel10Ideal.defs _ _).mono (fun r h c => ?_) (θ_run_and (Cert.Kernel10Ideal.Gen.unchanged m ρ) (Cert.Kernel10Ideal.Gen.run_main m ρ))
    exact ⟨(h.2 c).1 2, h.1 c⟩
  · refine (θ_run Cert.Reference10Ideal.defs _ _).mono (fun r h c => ⟨(h c).1.trans ?_, (h c).2⟩) (Cert.Reference10Ideal.Value.run m' ρ')
    obtain ⟨e0, e1⟩ := hargs c
    rw [e0, e1]
    refine Eq.trans ?_ (Cert.Kernel10Ideal.Mm.final m c).symm
    funext j
    obtain ⟨a, b, rfl⟩ : ∃ a b, j = ix2 a b := ⟨j 0, j 1, by funext a; fin_cases a <;> rfl⟩
    exact Cert.Reference10Ideal.Mm.res_at _ _ a b

/-- The latent attention's compressed rows. -/
theorem mla_a_value : Cert.algebraic_Kernel11Ideal_Reference11Ideal (hKernel11Ideal := Cert.Kernel11Ideal.Gen.facts) (hReference11Ideal := Cert.Reference11Ideal.Gen.facts) := by
  intro m ρ m' ρ' hpre hargs
  refine ⟨fun c => (Cert.Kernel11Ideal.Gen.dats m 0 c).arrAt 2 (Cert.Kernel11Ideal.cfgs 0).N, ?_, ?_⟩
  · refine (θ_run Cert.Kernel11Ideal.defs _ _).mono (fun r h c => ?_) (θ_run_and (Cert.Kernel11Ideal.Gen.unchanged m ρ) (Cert.Kernel11Ideal.Gen.run_main m ρ))
    exact ⟨(h.2 c).1 2, h.1 c⟩
  · refine (θ_run Cert.Reference11Ideal.defs _ _).mono (fun r h c => ⟨(h c).1.trans ?_, (h c).2⟩) (Cert.Reference11Ideal.Value.run m' ρ')
    obtain ⟨e0, e1, e2⟩ := hargs c
    rw [e0, e1, e2]
    refine Eq.trans ?_ (Cert.Kernel11Ideal.Mm.final m c).symm
    funext j
    obtain ⟨a, b, rfl⟩ : ∃ (a : Fin 8192) (b : Fin 2048), j = ix2 a b := ⟨j 0, j 1, by funext a; fin_cases a <;> rfl⟩
    show _ = Cert.Kernel11Ideal.Mm.proj _ _ a b
    rw [Cert.Kernel11Ideal.Gen.V_main_arg0, Cert.Kernel11Ideal.Mm.V1]
    unfold Cert.Kernel11Ideal.Mm.proj
    rcases lt_or_ge b.val 1024 with h0 | h0
    · obtain ⟨l, rfl⟩ : ∃ l : Fin 1024, b = ⟨l.val, by clear h0; omega⟩ := ⟨⟨b.val, h0⟩, rfl⟩
      exact (Cert.Reference11Ideal.Mm.res_0 _ _ _ a l).trans (Finset.sum_congr rfl fun k _ => congrArg _ (Cert.Kernel11Ideal.Mm.wcat_0 _ _ k l).symm)
    rcases lt_or_ge b.val 1600 with h1 | h1
    · obtain ⟨l, rfl⟩ : ∃ l : Fin 576, b = ⟨1024 + l.val, by clear h0 h1; omega⟩ := ⟨⟨b.val - 1024, by omega⟩, Fin.ext (by show b.val = 1024 + (b.val - 1024); omega)⟩
      exact (Cert.Reference11Ideal.Mm.res_1 _ _ _ a l).trans (Finset.sum_congr rfl fun k _ => congrArg _ (Cert.Kernel11Ideal.Mm.wcat_1 _ _ k l).symm)
    · obtain ⟨l, rfl⟩ : ∃ l : Fin 448, b = ⟨1600 + l.val, by clear h0 h1; omega⟩ := ⟨⟨b.val - 1600, by omega⟩, Fin.ext (by show b.val = 1600 + (b.val - 1600); omega)⟩
      exact (Cert.Reference11Ideal.Mm.res_2 _ _ _ a l).trans (Finset.sum_eq_zero fun k _ => (congrArg _ (Cert.Kernel11Ideal.Mm.wcat_2 _ _ k l)).trans (mul_zero _)).symm

/-- The latent attention's queries. -/
theorem mla_qb_value : Cert.algebraic_Kernel12Ideal_Reference12Ideal (hKernel12Ideal := Cert.Kernel12Ideal.Gen.facts) (hReference12Ideal := Cert.Reference12Ideal.Gen.facts) := by
  intro m ρ m' ρ' hpre hargs
  refine ⟨fun c => (Cert.Kernel12Ideal.Gen.dats m 0 c).arrAt 2 (Cert.Kernel12Ideal.cfgs 0).N, ?_, ?_⟩
  · refine (θ_run Cert.Kernel12Ideal.defs _ _).mono (fun r h c => ?_) (θ_run_and (Cert.Kernel12Ideal.Gen.unchanged m ρ) (Cert.Kernel12Ideal.Gen.run_main m ρ))
    exact ⟨(h.2 c).1 2, h.1 c⟩
  · refine (θ_run Cert.Reference12Ideal.defs _ _).mono (fun r h c => ⟨(h c).1.trans ?_, (h c).2⟩) (Cert.Reference12Ideal.Value.run m' ρ')
    obtain ⟨e0, e1⟩ := hargs c
    rw [e0, e1]
    refine Eq.trans ?_ (Cert.Kernel12Ideal.Mm.final m c).symm
    funext j
    obtain ⟨a, b, rfl⟩ : ∃ (a : Fin 8192) (b : Fin 8192), j = ix2 a b := ⟨j 0, j 1, by funext a; fin_cases a <;> rfl⟩
    show _ = Cert.Kernel12Ideal.Mm.proj _ _ a b
    rw [Cert.Kernel12Ideal.Gen.V_main_arg0, Cert.Kernel12Ideal.Mm.V2]
    unfold Cert.Kernel12Ideal.Mm.proj
    rcases lt_or_ge (b.val % 256) 192 with h0 | h0
    · obtain ⟨h, l, rfl⟩ : ∃ (h : Fin 32) (l : Fin 192), b = ⟨256 * h.val + l.val, by clear h0; omega⟩ :=
        ⟨⟨b.val / 256, by omega⟩, ⟨b.val % 256, h0⟩, Fin.ext (by show b.val = 256 * (b.val / 256) + b.val % 256; omega)⟩
      exact (Cert.Reference12Ideal.Mm.res_0 _ _ a h l).trans (Finset.sum_congr rfl fun k _ => congrArg _ (Cert.Kernel12Ideal.Mm.wpad_0 _ k h l).symm)
    · obtain ⟨h, l, rfl⟩ : ∃ (h : Fin 32) (l : Fin 64), b = ⟨256 * h.val + (192 + l.val), by clear h0; omega⟩ :=
        ⟨⟨b.val / 256, by omega⟩, ⟨b.val % 256 - 192, by omega⟩, Fin.ext (by show b.val = 256 * (b.val / 256) + (192 + (b.val % 256 - 192)); omega)⟩
      exact (Cert.Reference12Ideal.Mm.res_1 _ _ a h l).trans (Finset.sum_eq_zero fun k _ => (congrArg _ (Cert.Kernel12Ideal.Mm.wpad_1 _ k h l)).trans (mul_zero _)).symm

/-- The latent attention's normed rows and rotated key: the kernel's three results are the reference's. -/
theorem mla_prep_value : Cert.algebraic_Kernel13Ideal_Reference13Ideal (hKernel13Ideal := Cert.Kernel13Ideal.Gen.facts) (hReference13Ideal := Cert.Reference13Ideal.Gen.facts) := by
  intro m ρ m' ρ' hpre hargs
  refine ⟨fun c => (Cert.Kernel13Ideal.Gen.dats m 0 c).arrAt 6 (Cert.Kernel13Ideal.cfgs 0).N, fun c => (Cert.Kernel13Ideal.Gen.dats m 0 c).arrAt 7 (Cert.Kernel13Ideal.cfgs 0).N,
    fun c => (Cert.Kernel13Ideal.Gen.dats m 0 c).arrAt 8 (Cert.Kernel13Ideal.cfgs 0).N, ?_, ?_⟩
  · refine (θ_run Cert.Kernel13Ideal.defs _ _).mono (fun r h c => ?_) (θ_run_and (Cert.Kernel13Ideal.Gen.unchanged m ρ) (Cert.Kernel13Ideal.Gen.run_main m ρ))
    exact ⟨(h.2 c).1 6, (h.2 c).1 7, (h.2 c).1 8, h.1 c⟩
  · refine (θ_run Cert.Reference13Ideal.defs _ _).mono (fun r h c => ⟨(h c).1.trans ?_, (h c).2.1.trans ?_, (h c).2.2.1.trans ?_, (h c).2.2.2⟩) (Cert.Reference13Ideal.Value.run m' ρ')
    all_goals obtain ⟨e0, e1, e2, e3⟩ := hargs c
    · rw [e0, e1]
      exact (Cert.Kernel13Ideal.Prep.final6 m c).symm
    · rw [e0, e2]
      exact (Cert.Kernel13Ideal.Prep.final7 m c).symm
    · refine (Cert.Reference13Ideal.Prep.out2 m' c).trans ?_
      rw [e0, e3]
      exact (Cert.Kernel13Ideal.Prep.final8 m c).symm

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Pre_finite_scores.Gen.facts, Cert.Pre_tile_table.Gen.facts,
  fun m ρ _ => Cert.Kernel.Gen.frame m ρ,
  fun m ρ _ => Cert.KernelIdeal.Mla.frame m ρ,
  fun m ρ _ => Cert.KernelIdeal.Mla.frame m ρ,
  mla_reference_frame,
  fun m ρ _ => mla_reference_frame m ρ trivial,
  moe_kernel_frame,
  moe_ideal_frame,
  moe_reference_frame,
  fun m ρ _ => moe_reference_frame m ρ trivial,
  fun m ρ _ => Cert.Kernel3.Gen.frame m ρ,
  fun m ρ _ => Cert.Kernel3Ideal.Gen.frame m ρ,
  qkv_reference_frame,
  fun m ρ _ => Cert.Kernel4.Gen.frame m ρ,
  fun m ρ _ => Cert.Kernel4Ideal.Gen.frame m ρ,
  out_reference_frame,
  fun m ρ _ => Cert.Kernel5.Gen.frame m ρ,
  fun m ρ _ => Cert.Kernel5Ideal.Gen.frame m ρ,
  dil_reference_frame,
  fun m ρ _ => Cert.Kernel6.Gen.frame m ρ,
  fun m ρ _ => Cert.Kernel6Ideal.Gen.frame m ρ,
  mla_out_reference_frame,
  fun m ρ _ => Cert.Kernel7.Gen.frame m ρ,
  fun m ρ _ => Cert.Kernel7Ideal.Gen.frame m ρ,
  dil1_reference_frame,
  fun m ρ _ => Cert.Kernel8.Gen.frame m ρ,
  fun m ρ _ => Cert.Kernel8Ideal.Gen.frame m ρ,
  dil2_reference_frame,
  fun m ρ _ => Cert.Kernel9.Gen.frame m ρ,
  fun m ρ _ => Cert.Kernel9Ideal.Gen.frame m ρ,
  dil_out_reference_frame,
  fun m ρ _ => Cert.Kernel10.Gen.frame m ρ,
  fun m ρ _ => Cert.Kernel10Ideal.Gen.frame m ρ,
  kvb_reference_frame,
  fun m ρ _ => Cert.Kernel11.Gen.frame m ρ,
  fun m ρ _ => Cert.Kernel11Ideal.Gen.frame m ρ,
  mla_a_reference_frame,
  fun m ρ _ => Cert.Kernel12.Gen.frame m ρ,
  fun m ρ _ => Cert.Kernel12Ideal.Gen.frame m ρ,
  mla_qb_reference_frame,
  fun m ρ _ => Cert.Kernel13.Gen.frame m ρ,
  fun m ρ _ => Cert.Kernel13Ideal.Gen.frame m ρ,
  mla_prep_reference_frame,
  ⟨IdealRules.named_const.statement Cert.KernelIdeal.κ "mask" .f32 0xF149F2CA#32 _ rfl,
    IdealRules.named_const.statement Cert.KernelIdeal.κ "scale_log2" .f32 0x3DD53B95#32 _ rfl⟩,
  mla_value,
  trivial,
  moe_value,
  trivial,
  qkv_value,
  trivial,
  out_value,
  trivial,
  dil_value,
  trivial,
  mla_out_value,
  trivial,
  dil1_value,
  trivial,
  dil2_value,
  trivial,
  dil_out_value,
  trivial,
  kvb_value,
  trivial,
  mla_a_value,
  trivial,
  mla_qb_value,
  trivial,
  mla_prep_value⟩

end Cert.Proof

end
